-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attention_pre [hPre_attention_pre : Cert.Pre_attention_pre.Facts] (m : (ℓ : Loc Cert.AttnIdeal.nD Cert.AttnIdeal.τ Cert.AttnIdeal.sig) → Buf (Elt Ideal) ℓ) : Prop :=
  ∀ c : Dev Cert.AttnIdeal.nD,
    (Cert.Pre_attention_pre.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attention_pre [hPre_attention_pre : Cert.Pre_attention_pre.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attention_pre.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Proj2 (m : (ℓ : Loc Cert.Proj2.nD Cert.Proj2.τ Cert.Proj2.sig) → Buf (Elt Bits) ℓ) : Prop :=
  True

def Pre_Proj2Ideal (m : (ℓ : Loc Cert.Proj2Ideal.nD Cert.Proj2Ideal.τ Cert.Proj2Ideal.sig) → Buf (Elt Ideal) ℓ) : Prop :=
  True

def Pre_Proj2RefIdeal (m : (ℓ : Loc Cert.Proj2RefIdeal.nD Cert.Proj2RefIdeal.τ Cert.Proj2RefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj1 (m : (ℓ : Loc Cert.Proj1.nD Cert.Proj1.τ Cert.Proj1.sig) → Buf (Elt Bits) ℓ) : Prop :=
  True

def Pre_Proj1Ideal (m : (ℓ : Loc Cert.Proj1Ideal.nD Cert.Proj1Ideal.τ Cert.Proj1Ideal.sig) → Buf (Elt Ideal) ℓ) : Prop :=
  True

def Pre_Proj1RefIdeal (m : (ℓ : Loc Cert.Proj1RefIdeal.nD Cert.Proj1RefIdeal.τ Cert.Proj1RefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_mla_prep_pre [hPre_mla_prep_pre : Cert.Pre_mla_prep_pre.Facts] (m : (ℓ : Loc Cert.PrepIdeal.nD Cert.PrepIdeal.τ Cert.PrepIdeal.sig) → Buf (Elt Ideal) ℓ) : Prop :=
  ∀ c : Dev Cert.PrepIdeal.nD,
    (Cert.Pre_mla_prep_pre.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_mla_prep_pre [hPre_mla_prep_pre : Cert.Pre_mla_prep_pre.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_mla_prep_pre.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attention_pre [hAttnIdeal : Cert.AttnIdeal.Facts] [hPre_attention_pre : Cert.Pre_attention_pre.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attention_pre m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attention_pre [hAttnRefIdeal : Cert.AttnRefIdeal.Facts] [hPre_attention_pre : Cert.Pre_attention_pre.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attention_pre m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Proj2 [hProj2 : Cert.Proj2.Facts] : Prop :=
  ∀ (m : (ℓ : Loc Cert.Proj2.nD Cert.Proj2.τ Cert.Proj2.sig) → Buf (Elt Bits) ℓ) (g : Dev Cert.Proj2.nD → PrngReg), Pre_Proj2 m →
    θ_run (Cert.Proj2.defs (F := Bits)) (onTc (τ := Cert.Proj2.τ) (Cert.Proj2.main (F := Bits))) ⟨m, fun _ => 0, g⟩ (fun r => (∀ c : Dev Cert.Proj2.nD,
      r.2.mem ((c.tc : Thread Cert.Proj2.nD Cert.Proj2.τ).loc Cert.Proj2.main_arg0) = m ((c.tc : Thread Cert.Proj2.nD Cert.Proj2.τ).loc Cert.Proj2.main_arg0)
      ∧ r.2.mem ((c.tc : Thread Cert.Proj2.nD Cert.Proj2.τ).loc Cert.Proj2.main_arg1) = m ((c.tc : Thread Cert.Proj2.nD Cert.Proj2.τ).loc Cert.Proj2.main_arg1)
      ∧ r.2.mem ((c.tc : Thread Cert.Proj2.nD Cert.Proj2.τ).loc Cert.Proj2.main_arg2) = m ((c.tc : Thread Cert.Proj2.nD Cert.Proj2.τ).loc Cert.Proj2.main_arg2)
      ∧ r.2.mem ((c.tc : Thread Cert.Proj2.nD Cert.Proj2.τ).loc Cert.Proj2.main_arg3) = m ((c.tc : Thread Cert.Proj2.nD Cert.Proj2.τ).loc Cert.Proj2.main_arg3)
      ∧ r.2.mem ((c.tc : Thread Cert.Proj2.nD Cert.Proj2.τ).loc Cert.Proj2.main_arg4) = m ((c.tc : Thread Cert.Proj2.nD Cert.Proj2.τ).loc Cert.Proj2.main_arg4)
      ∧ r.2.mem ((c.tc : Thread Cert.Proj2.nD Cert.Proj2.τ).loc Cert.Proj2.main_arg5) = m ((c.tc : Thread Cert.Proj2.nD Cert.Proj2.τ).loc Cert.Proj2.main_arg5)
      ∧ r.2.mem ((c.tc : Thread Cert.Proj2.nD Cert.Proj2.τ).loc Cert.Proj2.main_arg6) = m ((c.tc : Thread Cert.Proj2.nD Cert.Proj2.τ).loc Cert.Proj2.main_arg6))
      ∧ r.2.sem = fun _ => 0)

def quiescent_Proj2Ideal [hProj2Ideal : Cert.Proj2Ideal.Facts] : Prop :=
  ∀ (m : (ℓ : Loc Cert.Proj2Ideal.nD Cert.Proj2Ideal.τ Cert.Proj2Ideal.sig) → Buf (Elt Ideal) ℓ) (g : Dev Cert.Proj2Ideal.nD → PrngReg), Pre_Proj2Ideal m →
    θ_run (Cert.Proj2Ideal.defs (F := Ideal)) (onTc (τ := Cert.Proj2Ideal.τ) (Cert.Proj2Ideal.main (F := Ideal))) ⟨m, fun _ => 0, g⟩ (fun r => (∀ c : Dev Cert.Proj2Ideal.nD,
      r.2.mem ((c.tc : Thread Cert.Proj2Ideal.nD Cert.Proj2Ideal.τ).loc Cert.Proj2Ideal.main_arg0) = m ((c.tc : Thread Cert.Proj2Ideal.nD Cert.Proj2Ideal.τ).loc Cert.Proj2Ideal.main_arg0)
      ∧ r.2.mem ((c.tc : Thread Cert.Proj2Ideal.nD Cert.Proj2Ideal.τ).loc Cert.Proj2Ideal.main_arg1) = m ((c.tc : Thread Cert.Proj2Ideal.nD Cert.Proj2Ideal.τ).loc Cert.Proj2Ideal.main_arg1)
      ∧ r.2.mem ((c.tc : Thread Cert.Proj2Ideal.nD Cert.Proj2Ideal.τ).loc Cert.Proj2Ideal.main_arg2) = m ((c.tc : Thread Cert.Proj2Ideal.nD Cert.Proj2Ideal.τ).loc Cert.Proj2Ideal.main_arg2)
      ∧ r.2.mem ((c.tc : Thread Cert.Proj2Ideal.nD Cert.Proj2Ideal.τ).loc Cert.Proj2Ideal.main_arg3) = m ((c.tc : Thread Cert.Proj2Ideal.nD Cert.Proj2Ideal.τ).loc Cert.Proj2Ideal.main_arg3)
      ∧ r.2.mem ((c.tc : Thread Cert.Proj2Ideal.nD Cert.Proj2Ideal.τ).loc Cert.Proj2Ideal.main_arg4) = m ((c.tc : Thread Cert.Proj2Ideal.nD Cert.Proj2Ideal.τ).loc Cert.Proj2Ideal.main_arg4)
      ∧ r.2.mem ((c.tc : Thread Cert.Proj2Ideal.nD Cert.Proj2Ideal.τ).loc Cert.Proj2Ideal.main_arg5) = m ((c.tc : Thread Cert.Proj2Ideal.nD Cert.Proj2Ideal.τ).loc Cert.Proj2Ideal.main_arg5)
      ∧ r.2.mem ((c.tc : Thread Cert.Proj2Ideal.nD Cert.Proj2Ideal.τ).loc Cert.Proj2Ideal.main_arg6) = m ((c.tc : Thread Cert.Proj2Ideal.nD Cert.Proj2Ideal.τ).loc Cert.Proj2Ideal.main_arg6))
      ∧ r.2.sem = fun _ => 0)

def quiescent_Proj2RefIdeal [hProj2RefIdeal : Cert.Proj2RefIdeal.Facts] : Prop :=
  ∀ (m : (ℓ : Loc Cert.Proj2RefIdeal.nD Cert.Proj2RefIdeal.τ Cert.Proj2RefIdeal.sig) → Buf (Elt Ideal) ℓ) (g : Dev Cert.Proj2RefIdeal.nD → PrngReg), Pre_Proj2RefIdeal m →
    θ_run (Cert.Proj2RefIdeal.defs (F := Ideal)) (onTc (τ := Cert.Proj2RefIdeal.τ) (Cert.Proj2RefIdeal.main (F := Ideal))) ⟨m, fun _ => 0, g⟩ (fun r => (∀ c : Dev Cert.Proj2RefIdeal.nD,
      r.2.mem ((c.tc : Thread Cert.Proj2RefIdeal.nD Cert.Proj2RefIdeal.τ).loc Cert.Proj2RefIdeal.main_arg0) = m ((c.tc : Thread Cert.Proj2RefIdeal.nD Cert.Proj2RefIdeal.τ).loc Cert.Proj2RefIdeal.main_arg0)
      ∧ r.2.mem ((c.tc : Thread Cert.Proj2RefIdeal.nD Cert.Proj2RefIdeal.τ).loc Cert.Proj2RefIdeal.main_arg1) = m ((c.tc : Thread Cert.Proj2RefIdeal.nD Cert.Proj2RefIdeal.τ).loc Cert.Proj2RefIdeal.main_arg1)
      ∧ r.2.mem ((c.tc : Thread Cert.Proj2RefIdeal.nD Cert.Proj2RefIdeal.τ).loc Cert.Proj2RefIdeal.main_arg2) = m ((c.tc : Thread Cert.Proj2RefIdeal.nD Cert.Proj2RefIdeal.τ).loc Cert.Proj2RefIdeal.main_arg2)
      ∧ r.2.mem ((c.tc : Thread Cert.Proj2RefIdeal.nD Cert.Proj2RefIdeal.τ).loc Cert.Proj2RefIdeal.main_arg3) = m ((c.tc : Thread Cert.Proj2RefIdeal.nD Cert.Proj2RefIdeal.τ).loc Cert.Proj2RefIdeal.main_arg3)
      ∧ r.2.mem ((c.tc : Thread Cert.Proj2RefIdeal.nD Cert.Proj2RefIdeal.τ).loc Cert.Proj2RefIdeal.main_arg4) = m ((c.tc : Thread Cert.Proj2RefIdeal.nD Cert.Proj2RefIdeal.τ).loc Cert.Proj2RefIdeal.main_arg4)
      ∧ r.2.mem ((c.tc : Thread Cert.Proj2RefIdeal.nD Cert.Proj2RefIdeal.τ).loc Cert.Proj2RefIdeal.main_arg5) = m ((c.tc : Thread Cert.Proj2RefIdeal.nD Cert.Proj2RefIdeal.τ).loc Cert.Proj2RefIdeal.main_arg5)
      ∧ r.2.mem ((c.tc : Thread Cert.Proj2RefIdeal.nD Cert.Proj2RefIdeal.τ).loc Cert.Proj2RefIdeal.main_arg6) = m ((c.tc : Thread Cert.Proj2RefIdeal.nD Cert.Proj2RefIdeal.τ).loc Cert.Proj2RefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16))
      ∧ r.2.sem = fun _ => 0)

def quiescent_Proj1 [hProj1 : Cert.Proj1.Facts] : Prop :=
  ∀ (m : (ℓ : Loc Cert.Proj1.nD Cert.Proj1.τ Cert.Proj1.sig) → Buf (Elt Bits) ℓ) (g : Dev Cert.Proj1.nD → PrngReg), Pre_Proj1 m →
    θ_run (Cert.Proj1.defs (F := Bits)) (onTc (τ := Cert.Proj1.τ) (Cert.Proj1.main (F := Bits))) ⟨m, fun _ => 0, g⟩ (fun r => (∀ c : Dev Cert.Proj1.nD,
      r.2.mem ((c.tc : Thread Cert.Proj1.nD Cert.Proj1.τ).loc Cert.Proj1.main_arg0) = m ((c.tc : Thread Cert.Proj1.nD Cert.Proj1.τ).loc Cert.Proj1.main_arg0)
      ∧ r.2.mem ((c.tc : Thread Cert.Proj1.nD Cert.Proj1.τ).loc Cert.Proj1.main_arg1) = m ((c.tc : Thread Cert.Proj1.nD Cert.Proj1.τ).loc Cert.Proj1.main_arg1)
      ∧ r.2.mem ((c.tc : Thread Cert.Proj1.nD Cert.Proj1.τ).loc Cert.Proj1.main_arg2) = m ((c.tc : Thread Cert.Proj1.nD Cert.Proj1.τ).loc Cert.Proj1.main_arg2)
      ∧ r.2.mem ((c.tc : Thread Cert.Proj1.nD Cert.Proj1.τ).loc Cert.Proj1.main_arg3) = m ((c.tc : Thread Cert.Proj1.nD Cert.Proj1.τ).loc Cert.Proj1.main_arg3)
      ∧ r.2.mem ((c.tc : Thread Cert.Proj1.nD Cert.Proj1.τ).loc Cert.Proj1.main_arg4) = m ((c.tc : Thread Cert.Proj1.nD Cert.Proj1.τ).loc Cert.Proj1.main_arg4)
      ∧ r.2.mem ((c.tc : Thread Cert.Proj1.nD Cert.Proj1.τ).loc Cert.Proj1.main_arg5) = m ((c.tc : Thread Cert.Proj1.nD Cert.Proj1.τ).loc Cert.Proj1.main_arg5)
      ∧ r.2.mem ((c.tc : Thread Cert.Proj1.nD Cert.Proj1.τ).loc Cert.Proj1.main_arg6) = m ((c.tc : Thread Cert.Proj1.nD Cert.Proj1.τ).loc Cert.Proj1.main_arg6)
      ∧ r.2.mem ((c.tc : Thread Cert.Proj1.nD Cert.Proj1.τ).loc Cert.Proj1.main_arg7) = m ((c.tc : Thread Cert.Proj1.nD Cert.Proj1.τ).loc Cert.Proj1.main_arg7)
      ∧ r.2.mem ((c.tc : Thread Cert.Proj1.nD Cert.Proj1.τ).loc Cert.Proj1.main_arg8) = m ((c.tc : Thread Cert.Proj1.nD Cert.Proj1.τ).loc Cert.Proj1.main_arg8))
      ∧ r.2.sem = fun _ => 0)

def quiescent_Proj1Ideal [hProj1Ideal : Cert.Proj1Ideal.Facts] : Prop :=
  ∀ (m : (ℓ : Loc Cert.Proj1Ideal.nD Cert.Proj1Ideal.τ Cert.Proj1Ideal.sig) → Buf (Elt Ideal) ℓ) (g : Dev Cert.Proj1Ideal.nD → PrngReg), Pre_Proj1Ideal m →
    θ_run (Cert.Proj1Ideal.defs (F := Ideal)) (onTc (τ := Cert.Proj1Ideal.τ) (Cert.Proj1Ideal.main (F := Ideal))) ⟨m, fun _ => 0, g⟩ (fun r => (∀ c : Dev Cert.Proj1Ideal.nD,
      r.2.mem ((c.tc : Thread Cert.Proj1Ideal.nD Cert.Proj1Ideal.τ).loc Cert.Proj1Ideal.main_arg0) = m ((c.tc : Thread Cert.Proj1Ideal.nD Cert.Proj1Ideal.τ).loc Cert.Proj1Ideal.main_arg0)
      ∧ r.2.mem ((c.tc : Thread Cert.Proj1Ideal.nD Cert.Proj1Ideal.τ).loc Cert.Proj1Ideal.main_arg1) = m ((c.tc : Thread Cert.Proj1Ideal.nD Cert.Proj1Ideal.τ).loc Cert.Proj1Ideal.main_arg1)
      ∧ r.2.mem ((c.tc : Thread Cert.Proj1Ideal.nD Cert.Proj1Ideal.τ).loc Cert.Proj1Ideal.main_arg2) = m ((c.tc : Thread Cert.Proj1Ideal.nD Cert.Proj1Ideal.τ).loc Cert.Proj1Ideal.main_arg2)
      ∧ r.2.mem ((c.tc : Thread Cert.Proj1Ideal.nD Cert.Proj1Ideal.τ).loc Cert.Proj1Ideal.main_arg3) = m ((c.tc : Thread Cert.Proj1Ideal.nD Cert.Proj1Ideal.τ).loc Cert.Proj1Ideal.main_arg3)
      ∧ r.2.mem ((c.tc : Thread Cert.Proj1Ideal.nD Cert.Proj1Ideal.τ).loc Cert.Proj1Ideal.main_arg4) = m ((c.tc : Thread Cert.Proj1Ideal.nD Cert.Proj1Ideal.τ).loc Cert.Proj1Ideal.main_arg4)
      ∧ r.2.mem ((c.tc : Thread Cert.Proj1Ideal.nD Cert.Proj1Ideal.τ).loc Cert.Proj1Ideal.main_arg5) = m ((c.tc : Thread Cert.Proj1Ideal.nD Cert.Proj1Ideal.τ).loc Cert.Proj1Ideal.main_arg5)
      ∧ r.2.mem ((c.tc : Thread Cert.Proj1Ideal.nD Cert.Proj1Ideal.τ).loc Cert.Proj1Ideal.main_arg6) = m ((c.tc : Thread Cert.Proj1Ideal.nD Cert.Proj1Ideal.τ).loc Cert.Proj1Ideal.main_arg6)
      ∧ r.2.mem ((c.tc : Thread Cert.Proj1Ideal.nD Cert.Proj1Ideal.τ).loc Cert.Proj1Ideal.main_arg7) = m ((c.tc : Thread Cert.Proj1Ideal.nD Cert.Proj1Ideal.τ).loc Cert.Proj1Ideal.main_arg7)
      ∧ r.2.mem ((c.tc : Thread Cert.Proj1Ideal.nD Cert.Proj1Ideal.τ).loc Cert.Proj1Ideal.main_arg8) = m ((c.tc : Thread Cert.Proj1Ideal.nD Cert.Proj1Ideal.τ).loc Cert.Proj1Ideal.main_arg8))
      ∧ r.2.sem = fun _ => 0)

def quiescent_Proj1RefIdeal [hProj1RefIdeal : Cert.Proj1RefIdeal.Facts] : Prop :=
  ∀ (m : (ℓ : Loc Cert.Proj1RefIdeal.nD Cert.Proj1RefIdeal.τ Cert.Proj1RefIdeal.sig) → Buf (Elt Ideal) ℓ) (g : Dev Cert.Proj1RefIdeal.nD → PrngReg), Pre_Proj1RefIdeal m →
    θ_run (Cert.Proj1RefIdeal.defs (F := Ideal)) (onTc (τ := Cert.Proj1RefIdeal.τ) (Cert.Proj1RefIdeal.main (F := Ideal))) ⟨m, fun _ => 0, g⟩ (fun r => (∀ c : Dev Cert.Proj1RefIdeal.nD,
      r.2.mem ((c.tc : Thread Cert.Proj1RefIdeal.nD Cert.Proj1RefIdeal.τ).loc Cert.Proj1RefIdeal.main_arg0) = m ((c.tc : Thread Cert.Proj1RefIdeal.nD Cert.Proj1RefIdeal.τ).loc Cert.Proj1RefIdeal.main_arg0)
      ∧ r.2.mem ((c.tc : Thread Cert.Proj1RefIdeal.nD Cert.Proj1RefIdeal.τ).loc Cert.Proj1RefIdeal.main_arg1) = m ((c.tc : Thread Cert.Proj1RefIdeal.nD Cert.Proj1RefIdeal.τ).loc Cert.Proj1RefIdeal.main_arg1)
      ∧ r.2.mem ((c.tc : Thread Cert.Proj1RefIdeal.nD Cert.Proj1RefIdeal.τ).loc Cert.Proj1RefIdeal.main_arg2) = m ((c.tc : Thread Cert.Proj1RefIdeal.nD Cert.Proj1RefIdeal.τ).loc Cert.Proj1RefIdeal.main_arg2)
      ∧ r.2.mem ((c.tc : Thread Cert.Proj1RefIdeal.nD Cert.Proj1RefIdeal.τ).loc Cert.Proj1RefIdeal.main_arg3) = m ((c.tc : Thread Cert.Proj1RefIdeal.nD Cert.Proj1RefIdeal.τ).loc Cert.Proj1RefIdeal.main_arg3)
      ∧ r.2.mem ((c.tc : Thread Cert.Proj1RefIdeal.nD Cert.Proj1RefIdeal.τ).loc Cert.Proj1RefIdeal.main_arg4) = m ((c.tc : Thread Cert.Proj1RefIdeal.nD Cert.Proj1RefIdeal.τ).loc Cert.Proj1RefIdeal.main_arg4)
      ∧ r.2.mem ((c.tc : Thread Cert.Proj1RefIdeal.nD Cert.Proj1RefIdeal.τ).loc Cert.Proj1RefIdeal.main_arg5) = m ((c.tc : Thread Cert.Proj1RefIdeal.nD Cert.Proj1RefIdeal.τ).loc Cert.Proj1RefIdeal.main_arg5)
      ∧ r.2.mem ((c.tc : Thread Cert.Proj1RefIdeal.nD Cert.Proj1RefIdeal.τ).loc Cert.Proj1RefIdeal.main_arg6) = m ((c.tc : Thread Cert.Proj1RefIdeal.nD Cert.Proj1RefIdeal.τ).loc Cert.Proj1RefIdeal.main_arg6)
      ∧ r.2.mem ((c.tc : Thread Cert.Proj1RefIdeal.nD Cert.Proj1RefIdeal.τ).loc Cert.Proj1RefIdeal.main_arg7) = m ((c.tc : Thread Cert.Proj1RefIdeal.nD Cert.Proj1RefIdeal.τ).loc Cert.Proj1RefIdeal.main_arg7)
      ∧ r.2.mem ((c.tc : Thread Cert.Proj1RefIdeal.nD Cert.Proj1RefIdeal.τ).loc Cert.Proj1RefIdeal.main_arg8) = m ((c.tc : Thread Cert.Proj1RefIdeal.nD Cert.Proj1RefIdeal.τ).loc Cert.Proj1RefIdeal.main_arg8))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepIdeal_pre_mla_prep_pre [hPrepIdeal : Cert.PrepIdeal.Facts] [hPre_mla_prep_pre : Cert.Pre_mla_prep_pre.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_mla_prep_pre m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_PrepRefIdeal_pre_mla_prep_pre [hPrepRefIdeal : Cert.PrepRefIdeal.Facts] [hPre_mla_prep_pre : Cert.Pre_mla_prep_pre.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_mla_prep_pre m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def preserves_Attn_AttnIdeal : Prop :=
  True

def algebraic_AttnIdeal_AttnRefIdeal_pre_attention_pre [hAttnIdeal : Cert.AttnIdeal.Facts] [hAttnRefIdeal : Cert.AttnRefIdeal.Facts] [hPre_attention_pre : Cert.Pre_attention_pre.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attention_pre m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v24) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Proj2_Proj2Ideal : Prop :=
  True

def algebraic_Proj2Ideal_Proj2RefIdeal [hProj2Ideal : Cert.Proj2Ideal.Facts] [hProj2RefIdeal : Cert.Proj2RefIdeal.Facts] : Prop :=
  ∀ (m : (ℓ : Loc Cert.Proj2Ideal.nD Cert.Proj2Ideal.τ Cert.Proj2Ideal.sig) → Buf (Elt Ideal) ℓ) (g : Dev Cert.Proj2Ideal.nD → PrngReg)
    (m' : (ℓ : Loc Cert.Proj2RefIdeal.nD Cert.Proj2RefIdeal.τ Cert.Proj2RefIdeal.sig) → Buf (Elt Ideal) ℓ) (g' : Dev Cert.Proj2RefIdeal.nD → PrngReg), Pre_Proj2Ideal m →
    (∀ c : Dev Cert.Proj2Ideal.nD,
      m' ((c.tc : Thread Cert.Proj2RefIdeal.nD Cert.Proj2RefIdeal.τ).loc Cert.Proj2RefIdeal.main_arg0) = m ((c.tc : Thread Cert.Proj2Ideal.nD Cert.Proj2Ideal.τ).loc Cert.Proj2Ideal.main_arg0)
      ∧ m' ((c.tc : Thread Cert.Proj2RefIdeal.nD Cert.Proj2RefIdeal.τ).loc Cert.Proj2RefIdeal.main_arg1) = m ((c.tc : Thread Cert.Proj2Ideal.nD Cert.Proj2Ideal.τ).loc Cert.Proj2Ideal.main_arg1)
      ∧ m' ((c.tc : Thread Cert.Proj2RefIdeal.nD Cert.Proj2RefIdeal.τ).loc Cert.Proj2RefIdeal.main_arg2) = m ((c.tc : Thread Cert.Proj2Ideal.nD Cert.Proj2Ideal.τ).loc Cert.Proj2Ideal.main_arg2)
      ∧ m' ((c.tc : Thread Cert.Proj2RefIdeal.nD Cert.Proj2RefIdeal.τ).loc Cert.Proj2RefIdeal.main_arg3) = m ((c.tc : Thread Cert.Proj2Ideal.nD Cert.Proj2Ideal.τ).loc Cert.Proj2Ideal.main_arg3)
      ∧ m' ((c.tc : Thread Cert.Proj2RefIdeal.nD Cert.Proj2RefIdeal.τ).loc Cert.Proj2RefIdeal.main_arg4) = m ((c.tc : Thread Cert.Proj2Ideal.nD Cert.Proj2Ideal.τ).loc Cert.Proj2Ideal.main_arg4)
      ∧ m' ((c.tc : Thread Cert.Proj2RefIdeal.nD Cert.Proj2RefIdeal.τ).loc Cert.Proj2RefIdeal.main_arg5) = m ((c.tc : Thread Cert.Proj2Ideal.nD Cert.Proj2Ideal.τ).loc Cert.Proj2Ideal.main_arg5)
      ∧ m' ((c.tc : Thread Cert.Proj2RefIdeal.nD Cert.Proj2RefIdeal.τ).loc Cert.Proj2RefIdeal.main_arg6) = m ((c.tc : Thread Cert.Proj2Ideal.nD Cert.Proj2Ideal.τ).loc Cert.Proj2Ideal.main_arg6)) →
    ∃ (v0 : (c : Dev Cert.Proj2Ideal.nD) → Buf (Elt Ideal) ((c.tc : Thread Cert.Proj2Ideal.nD Cert.Proj2Ideal.τ).loc Cert.Proj2Ideal.main_v1_0)) (v1 : (c : Dev Cert.Proj2Ideal.nD) → Buf (Elt Ideal) ((c.tc : Thread Cert.Proj2Ideal.nD Cert.Proj2Ideal.τ).loc Cert.Proj2Ideal.main_v1_1)) (v2 : (c : Dev Cert.Proj2Ideal.nD) → Buf (Elt Ideal) ((c.tc : Thread Cert.Proj2Ideal.nD Cert.Proj2Ideal.τ).loc Cert.Proj2Ideal.main_v1_2)),
      θ_run (Cert.Proj2Ideal.defs (F := Ideal)) (onTc (τ := Cert.Proj2Ideal.τ) (Cert.Proj2Ideal.main (F := Ideal))) ⟨m, fun _ => 0, g⟩ (fun r => ∀ c : Dev Cert.Proj2Ideal.nD,
          r.2.mem ((c.tc : Thread Cert.Proj2Ideal.nD Cert.Proj2Ideal.τ).loc Cert.Proj2Ideal.main_v1_0) = v0 c
          ∧ r.2.mem ((c.tc : Thread Cert.Proj2Ideal.nD Cert.Proj2Ideal.τ).loc Cert.Proj2Ideal.main_v1_1) = v1 c
          ∧ r.2.mem ((c.tc : Thread Cert.Proj2Ideal.nD Cert.Proj2Ideal.τ).loc Cert.Proj2Ideal.main_v1_2) = v2 c
          ∧ r.2.mem ((c.tc : Thread Cert.Proj2Ideal.nD Cert.Proj2Ideal.τ).loc Cert.Proj2Ideal.main_arg0) = m ((c.tc : Thread Cert.Proj2Ideal.nD Cert.Proj2Ideal.τ).loc Cert.Proj2Ideal.main_arg0)
          ∧ r.2.mem ((c.tc : Thread Cert.Proj2Ideal.nD Cert.Proj2Ideal.τ).loc Cert.Proj2Ideal.main_arg1) = m ((c.tc : Thread Cert.Proj2Ideal.nD Cert.Proj2Ideal.τ).loc Cert.Proj2Ideal.main_arg1)
          ∧ r.2.mem ((c.tc : Thread Cert.Proj2Ideal.nD Cert.Proj2Ideal.τ).loc Cert.Proj2Ideal.main_arg2) = m ((c.tc : Thread Cert.Proj2Ideal.nD Cert.Proj2Ideal.τ).loc Cert.Proj2Ideal.main_arg2)
          ∧ r.2.mem ((c.tc : Thread Cert.Proj2Ideal.nD Cert.Proj2Ideal.τ).loc Cert.Proj2Ideal.main_arg3) = m ((c.tc : Thread Cert.Proj2Ideal.nD Cert.Proj2Ideal.τ).loc Cert.Proj2Ideal.main_arg3)
          ∧ r.2.mem ((c.tc : Thread Cert.Proj2Ideal.nD Cert.Proj2Ideal.τ).loc Cert.Proj2Ideal.main_arg4) = m ((c.tc : Thread Cert.Proj2Ideal.nD Cert.Proj2Ideal.τ).loc Cert.Proj2Ideal.main_arg4)
          ∧ r.2.mem ((c.tc : Thread Cert.Proj2Ideal.nD Cert.Proj2Ideal.τ).loc Cert.Proj2Ideal.main_arg5) = m ((c.tc : Thread Cert.Proj2Ideal.nD Cert.Proj2Ideal.τ).loc Cert.Proj2Ideal.main_arg5)
          ∧ r.2.mem ((c.tc : Thread Cert.Proj2Ideal.nD Cert.Proj2Ideal.τ).loc Cert.Proj2Ideal.main_arg6) = m ((c.tc : Thread Cert.Proj2Ideal.nD Cert.Proj2Ideal.τ).loc Cert.Proj2Ideal.main_arg6))
      ∧ θ_run (Cert.Proj2RefIdeal.defs (F := Ideal)) (onTc (τ := Cert.Proj2RefIdeal.τ) (Cert.Proj2RefIdeal.main (F := Ideal))) ⟨m', fun _ => 0, g'⟩ (fun r => ∀ c : Dev Cert.Proj2RefIdeal.nD,
          r.2.mem ((c.tc : Thread Cert.Proj2RefIdeal.nD Cert.Proj2RefIdeal.τ).loc Cert.Proj2RefIdeal.main_v21) = v0 c
          ∧ r.2.mem ((c.tc : Thread Cert.Proj2RefIdeal.nD Cert.Proj2RefIdeal.τ).loc Cert.Proj2RefIdeal.main_v24) = v1 c
          ∧ r.2.mem ((c.tc : Thread Cert.Proj2RefIdeal.nD Cert.Proj2RefIdeal.τ).loc Cert.Proj2RefIdeal.main_v27) = v2 c
          ∧ r.2.mem ((c.tc : Thread Cert.Proj2RefIdeal.nD Cert.Proj2RefIdeal.τ).loc Cert.Proj2RefIdeal.main_arg0) = m' ((c.tc : Thread Cert.Proj2RefIdeal.nD Cert.Proj2RefIdeal.τ).loc Cert.Proj2RefIdeal.main_arg0)
          ∧ r.2.mem ((c.tc : Thread Cert.Proj2RefIdeal.nD Cert.Proj2RefIdeal.τ).loc Cert.Proj2RefIdeal.main_arg1) = m' ((c.tc : Thread Cert.Proj2RefIdeal.nD Cert.Proj2RefIdeal.τ).loc Cert.Proj2RefIdeal.main_arg1)
          ∧ r.2.mem ((c.tc : Thread Cert.Proj2RefIdeal.nD Cert.Proj2RefIdeal.τ).loc Cert.Proj2RefIdeal.main_arg2) = m' ((c.tc : Thread Cert.Proj2RefIdeal.nD Cert.Proj2RefIdeal.τ).loc Cert.Proj2RefIdeal.main_arg2)
          ∧ r.2.mem ((c.tc : Thread Cert.Proj2RefIdeal.nD Cert.Proj2RefIdeal.τ).loc Cert.Proj2RefIdeal.main_arg3) = m' ((c.tc : Thread Cert.Proj2RefIdeal.nD Cert.Proj2RefIdeal.τ).loc Cert.Proj2RefIdeal.main_arg3)
          ∧ r.2.mem ((c.tc : Thread Cert.Proj2RefIdeal.nD Cert.Proj2RefIdeal.τ).loc Cert.Proj2RefIdeal.main_arg4) = m' ((c.tc : Thread Cert.Proj2RefIdeal.nD Cert.Proj2RefIdeal.τ).loc Cert.Proj2RefIdeal.main_arg4)
          ∧ r.2.mem ((c.tc : Thread Cert.Proj2RefIdeal.nD Cert.Proj2RefIdeal.τ).loc Cert.Proj2RefIdeal.main_arg5) = m' ((c.tc : Thread Cert.Proj2RefIdeal.nD Cert.Proj2RefIdeal.τ).loc Cert.Proj2RefIdeal.main_arg5)
          ∧ r.2.mem ((c.tc : Thread Cert.Proj2RefIdeal.nD Cert.Proj2RefIdeal.τ).loc Cert.Proj2RefIdeal.main_arg6) = m' ((c.tc : Thread Cert.Proj2RefIdeal.nD Cert.Proj2RefIdeal.τ).loc Cert.Proj2RefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)
      ∧ m' ((c.tc : Thread Cert.MergeRefIdeal.nD Cert.MergeRefIdeal.τ).loc Cert.MergeRefIdeal.main_arg16) = m ((c.tc : Thread Cert.MergeIdeal.nD Cert.MergeIdeal.τ).loc Cert.MergeIdeal.main_arg16)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v96) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15)
          ∧ r.2.mem ((c.tc : Thread Cert.MergeRefIdeal.nD Cert.MergeRefIdeal.τ).loc Cert.MergeRefIdeal.main_arg16) = m' ((c.tc : Thread Cert.MergeRefIdeal.nD Cert.MergeRefIdeal.τ).loc Cert.MergeRefIdeal.main_arg16))

def preserves_Proj1_Proj1Ideal : Prop :=
  True

def algebraic_Proj1Ideal_Proj1RefIdeal [hProj1Ideal : Cert.Proj1Ideal.Facts] [hProj1RefIdeal : Cert.Proj1RefIdeal.Facts] : Prop :=
  ∀ (m : (ℓ : Loc Cert.Proj1Ideal.nD Cert.Proj1Ideal.τ Cert.Proj1Ideal.sig) → Buf (Elt Ideal) ℓ) (g : Dev Cert.Proj1Ideal.nD → PrngReg)
    (m' : (ℓ : Loc Cert.Proj1RefIdeal.nD Cert.Proj1RefIdeal.τ Cert.Proj1RefIdeal.sig) → Buf (Elt Ideal) ℓ) (g' : Dev Cert.Proj1RefIdeal.nD → PrngReg), Pre_Proj1Ideal m →
    (∀ c : Dev Cert.Proj1Ideal.nD,
      m' ((c.tc : Thread Cert.Proj1RefIdeal.nD Cert.Proj1RefIdeal.τ).loc Cert.Proj1RefIdeal.main_arg0) = m ((c.tc : Thread Cert.Proj1Ideal.nD Cert.Proj1Ideal.τ).loc Cert.Proj1Ideal.main_arg0)
      ∧ m' ((c.tc : Thread Cert.Proj1RefIdeal.nD Cert.Proj1RefIdeal.τ).loc Cert.Proj1RefIdeal.main_arg1) = m ((c.tc : Thread Cert.Proj1Ideal.nD Cert.Proj1Ideal.τ).loc Cert.Proj1Ideal.main_arg1)
      ∧ m' ((c.tc : Thread Cert.Proj1RefIdeal.nD Cert.Proj1RefIdeal.τ).loc Cert.Proj1RefIdeal.main_arg2) = m ((c.tc : Thread Cert.Proj1Ideal.nD Cert.Proj1Ideal.τ).loc Cert.Proj1Ideal.main_arg2)
      ∧ m' ((c.tc : Thread Cert.Proj1RefIdeal.nD Cert.Proj1RefIdeal.τ).loc Cert.Proj1RefIdeal.main_arg3) = m ((c.tc : Thread Cert.Proj1Ideal.nD Cert.Proj1Ideal.τ).loc Cert.Proj1Ideal.main_arg3)
      ∧ m' ((c.tc : Thread Cert.Proj1RefIdeal.nD Cert.Proj1RefIdeal.τ).loc Cert.Proj1RefIdeal.main_arg4) = m ((c.tc : Thread Cert.Proj1Ideal.nD Cert.Proj1Ideal.τ).loc Cert.Proj1Ideal.main_arg4)
      ∧ m' ((c.tc : Thread Cert.Proj1RefIdeal.nD Cert.Proj1RefIdeal.τ).loc Cert.Proj1RefIdeal.main_arg5) = m ((c.tc : Thread Cert.Proj1Ideal.nD Cert.Proj1Ideal.τ).loc Cert.Proj1Ideal.main_arg5)
      ∧ m' ((c.tc : Thread Cert.Proj1RefIdeal.nD Cert.Proj1RefIdeal.τ).loc Cert.Proj1RefIdeal.main_arg6) = m ((c.tc : Thread Cert.Proj1Ideal.nD Cert.Proj1Ideal.τ).loc Cert.Proj1Ideal.main_arg6)
      ∧ m' ((c.tc : Thread Cert.Proj1RefIdeal.nD Cert.Proj1RefIdeal.τ).loc Cert.Proj1RefIdeal.main_arg7) = m ((c.tc : Thread Cert.Proj1Ideal.nD Cert.Proj1Ideal.τ).loc Cert.Proj1Ideal.main_arg7)
      ∧ m' ((c.tc : Thread Cert.Proj1RefIdeal.nD Cert.Proj1RefIdeal.τ).loc Cert.Proj1RefIdeal.main_arg8) = m ((c.tc : Thread Cert.Proj1Ideal.nD Cert.Proj1Ideal.τ).loc Cert.Proj1Ideal.main_arg8)) →
    ∃ (v0 : (c : Dev Cert.Proj1Ideal.nD) → Buf (Elt Ideal) ((c.tc : Thread Cert.Proj1Ideal.nD Cert.Proj1Ideal.τ).loc Cert.Proj1Ideal.main_v1_0)) (v1 : (c : Dev Cert.Proj1Ideal.nD) → Buf (Elt Ideal) ((c.tc : Thread Cert.Proj1Ideal.nD Cert.Proj1Ideal.τ).loc Cert.Proj1Ideal.main_v1_1)) (v2 : (c : Dev Cert.Proj1Ideal.nD) → Buf (Elt Ideal) ((c.tc : Thread Cert.Proj1Ideal.nD Cert.Proj1Ideal.τ).loc Cert.Proj1Ideal.main_v1_2)) (v3 : (c : Dev Cert.Proj1Ideal.nD) → Buf (Elt Ideal) ((c.tc : Thread Cert.Proj1Ideal.nD Cert.Proj1Ideal.τ).loc Cert.Proj1Ideal.main_v1_3)) (v4 : (c : Dev Cert.Proj1Ideal.nD) → Buf (Elt Ideal) ((c.tc : Thread Cert.Proj1Ideal.nD Cert.Proj1Ideal.τ).loc Cert.Proj1Ideal.main_v1_4)),
      θ_run (Cert.Proj1Ideal.defs (F := Ideal)) (onTc (τ := Cert.Proj1Ideal.τ) (Cert.Proj1Ideal.main (F := Ideal))) ⟨m, fun _ => 0, g⟩ (fun r => ∀ c : Dev Cert.Proj1Ideal.nD,
          r.2.mem ((c.tc : Thread Cert.Proj1Ideal.nD Cert.Proj1Ideal.τ).loc Cert.Proj1Ideal.main_v1_0) = v0 c
          ∧ r.2.mem ((c.tc : Thread Cert.Proj1Ideal.nD Cert.Proj1Ideal.τ).loc Cert.Proj1Ideal.main_v1_1) = v1 c
          ∧ r.2.mem ((c.tc : Thread Cert.Proj1Ideal.nD Cert.Proj1Ideal.τ).loc Cert.Proj1Ideal.main_v1_2) = v2 c
          ∧ r.2.mem ((c.tc : Thread Cert.Proj1Ideal.nD Cert.Proj1Ideal.τ).loc Cert.Proj1Ideal.main_v1_3) = v3 c
          ∧ r.2.mem ((c.tc : Thread Cert.Proj1Ideal.nD Cert.Proj1Ideal.τ).loc Cert.Proj1Ideal.main_v1_4) = v4 c
          ∧ r.2.mem ((c.tc : Thread Cert.Proj1Ideal.nD Cert.Proj1Ideal.τ).loc Cert.Proj1Ideal.main_arg0) = m ((c.tc : Thread Cert.Proj1Ideal.nD Cert.Proj1Ideal.τ).loc Cert.Proj1Ideal.main_arg0)
          ∧ r.2.mem ((c.tc : Thread Cert.Proj1Ideal.nD Cert.Proj1Ideal.τ).loc Cert.Proj1Ideal.main_arg1) = m ((c.tc : Thread Cert.Proj1Ideal.nD Cert.Proj1Ideal.τ).loc Cert.Proj1Ideal.main_arg1)
          ∧ r.2.mem ((c.tc : Thread Cert.Proj1Ideal.nD Cert.Proj1Ideal.τ).loc Cert.Proj1Ideal.main_arg2) = m ((c.tc : Thread Cert.Proj1Ideal.nD Cert.Proj1Ideal.τ).loc Cert.Proj1Ideal.main_arg2)
          ∧ r.2.mem ((c.tc : Thread Cert.Proj1Ideal.nD Cert.Proj1Ideal.τ).loc Cert.Proj1Ideal.main_arg3) = m ((c.tc : Thread Cert.Proj1Ideal.nD Cert.Proj1Ideal.τ).loc Cert.Proj1Ideal.main_arg3)
          ∧ r.2.mem ((c.tc : Thread Cert.Proj1Ideal.nD Cert.Proj1Ideal.τ).loc Cert.Proj1Ideal.main_arg4) = m ((c.tc : Thread Cert.Proj1Ideal.nD Cert.Proj1Ideal.τ).loc Cert.Proj1Ideal.main_arg4)
          ∧ r.2.mem ((c.tc : Thread Cert.Proj1Ideal.nD Cert.Proj1Ideal.τ).loc Cert.Proj1Ideal.main_arg5) = m ((c.tc : Thread Cert.Proj1Ideal.nD Cert.Proj1Ideal.τ).loc Cert.Proj1Ideal.main_arg5)
          ∧ r.2.mem ((c.tc : Thread Cert.Proj1Ideal.nD Cert.Proj1Ideal.τ).loc Cert.Proj1Ideal.main_arg6) = m ((c.tc : Thread Cert.Proj1Ideal.nD Cert.Proj1Ideal.τ).loc Cert.Proj1Ideal.main_arg6)
          ∧ r.2.mem ((c.tc : Thread Cert.Proj1Ideal.nD Cert.Proj1Ideal.τ).loc Cert.Proj1Ideal.main_arg7) = m ((c.tc : Thread Cert.Proj1Ideal.nD Cert.Proj1Ideal.τ).loc Cert.Proj1Ideal.main_arg7)
          ∧ r.2.mem ((c.tc : Thread Cert.Proj1Ideal.nD Cert.Proj1Ideal.τ).loc Cert.Proj1Ideal.main_arg8) = m ((c.tc : Thread Cert.Proj1Ideal.nD Cert.Proj1Ideal.τ).loc Cert.Proj1Ideal.main_arg8))
      ∧ θ_run (Cert.Proj1RefIdeal.defs (F := Ideal)) (onTc (τ := Cert.Proj1RefIdeal.τ) (Cert.Proj1RefIdeal.main (F := Ideal))) ⟨m', fun _ => 0, g'⟩ (fun r => ∀ c : Dev Cert.Proj1RefIdeal.nD,
          r.2.mem ((c.tc : Thread Cert.Proj1RefIdeal.nD Cert.Proj1RefIdeal.τ).loc Cert.Proj1RefIdeal.main_v30) = v0 c
          ∧ r.2.mem ((c.tc : Thread Cert.Proj1RefIdeal.nD Cert.Proj1RefIdeal.τ).loc Cert.Proj1RefIdeal.main_v31) = v1 c
          ∧ r.2.mem ((c.tc : Thread Cert.Proj1RefIdeal.nD Cert.Proj1RefIdeal.τ).loc Cert.Proj1RefIdeal.main_v32) = v2 c
          ∧ r.2.mem ((c.tc : Thread Cert.Proj1RefIdeal.nD Cert.Proj1RefIdeal.τ).loc Cert.Proj1RefIdeal.main_v33) = v3 c
          ∧ r.2.mem ((c.tc : Thread Cert.Proj1RefIdeal.nD Cert.Proj1RefIdeal.τ).loc Cert.Proj1RefIdeal.main_v28) = v4 c
          ∧ r.2.mem ((c.tc : Thread Cert.Proj1RefIdeal.nD Cert.Proj1RefIdeal.τ).loc Cert.Proj1RefIdeal.main_arg0) = m' ((c.tc : Thread Cert.Proj1RefIdeal.nD Cert.Proj1RefIdeal.τ).loc Cert.Proj1RefIdeal.main_arg0)
          ∧ r.2.mem ((c.tc : Thread Cert.Proj1RefIdeal.nD Cert.Proj1RefIdeal.τ).loc Cert.Proj1RefIdeal.main_arg1) = m' ((c.tc : Thread Cert.Proj1RefIdeal.nD Cert.Proj1RefIdeal.τ).loc Cert.Proj1RefIdeal.main_arg1)
          ∧ r.2.mem ((c.tc : Thread Cert.Proj1RefIdeal.nD Cert.Proj1RefIdeal.τ).loc Cert.Proj1RefIdeal.main_arg2) = m' ((c.tc : Thread Cert.Proj1RefIdeal.nD Cert.Proj1RefIdeal.τ).loc Cert.Proj1RefIdeal.main_arg2)
          ∧ r.2.mem ((c.tc : Thread Cert.Proj1RefIdeal.nD Cert.Proj1RefIdeal.τ).loc Cert.Proj1RefIdeal.main_arg3) = m' ((c.tc : Thread Cert.Proj1RefIdeal.nD Cert.Proj1RefIdeal.τ).loc Cert.Proj1RefIdeal.main_arg3)
          ∧ r.2.mem ((c.tc : Thread Cert.Proj1RefIdeal.nD Cert.Proj1RefIdeal.τ).loc Cert.Proj1RefIdeal.main_arg4) = m' ((c.tc : Thread Cert.Proj1RefIdeal.nD Cert.Proj1RefIdeal.τ).loc Cert.Proj1RefIdeal.main_arg4)
          ∧ r.2.mem ((c.tc : Thread Cert.Proj1RefIdeal.nD Cert.Proj1RefIdeal.τ).loc Cert.Proj1RefIdeal.main_arg5) = m' ((c.tc : Thread Cert.Proj1RefIdeal.nD Cert.Proj1RefIdeal.τ).loc Cert.Proj1RefIdeal.main_arg5)
          ∧ r.2.mem ((c.tc : Thread Cert.Proj1RefIdeal.nD Cert.Proj1RefIdeal.τ).loc Cert.Proj1RefIdeal.main_arg6) = m' ((c.tc : Thread Cert.Proj1RefIdeal.nD Cert.Proj1RefIdeal.τ).loc Cert.Proj1RefIdeal.main_arg6)
          ∧ r.2.mem ((c.tc : Thread Cert.Proj1RefIdeal.nD Cert.Proj1RefIdeal.τ).loc Cert.Proj1RefIdeal.main_arg7) = m' ((c.tc : Thread Cert.Proj1RefIdeal.nD Cert.Proj1RefIdeal.τ).loc Cert.Proj1RefIdeal.main_arg7)
          ∧ r.2.mem ((c.tc : Thread Cert.Proj1RefIdeal.nD Cert.Proj1RefIdeal.τ).loc Cert.Proj1RefIdeal.main_arg8) = m' ((c.tc : Thread Cert.Proj1RefIdeal.nD Cert.Proj1RefIdeal.τ).loc Cert.Proj1RefIdeal.main_arg8))

def preserves_Prep_PrepIdeal : Prop :=
  True

def algebraic_PrepIdeal_PrepRefIdeal_pre_mla_prep_pre [hPrepIdeal : Cert.PrepIdeal.Facts] [hPrepRefIdeal : Cert.PrepRefIdeal.Facts] [hPre_mla_prep_pre : Cert.Pre_mla_prep_pre.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_mla_prep_pre m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)) →
    ∃ (v0 : (c : Dev Cert.PrepIdeal.nD) → Buf (Elt Ideal) ((c.tc : Thread Cert.PrepIdeal.nD Cert.PrepIdeal.τ).loc Cert.PrepIdeal.main_v47_0)) (v1 : (c : Dev Cert.PrepIdeal.nD) → Buf (Elt Ideal) ((c.tc : Thread Cert.PrepIdeal.nD Cert.PrepIdeal.τ).loc Cert.PrepIdeal.main_v47_1)) (v2 : (c : Dev Cert.PrepIdeal.nD) → Buf (Elt Ideal) ((c.tc : Thread Cert.PrepIdeal.nD Cert.PrepIdeal.τ).loc Cert.PrepIdeal.main_v47_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v47_0) = v0 c
          ∧ r.2.mem ((c.tc : Thread Cert.PrepIdeal.nD Cert.PrepIdeal.τ).loc Cert.PrepIdeal.main_v47_1) = v1 c
          ∧ r.2.mem ((c.tc : Thread Cert.PrepIdeal.nD Cert.PrepIdeal.τ).loc Cert.PrepIdeal.main_v47_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v80) = v0 c
          ∧ r.2.mem ((c.tc : Thread Cert.PrepRefIdeal.nD Cert.PrepRefIdeal.τ).loc Cert.PrepRefIdeal.main_v82) = v1 c
          ∧ r.2.mem ((c.tc : Thread Cert.PrepRefIdeal.nD Cert.PrepRefIdeal.τ).loc Cert.PrepRefIdeal.main_v84) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8))

def Claim : Prop :=
  ∃ (hAttn : Cert.Attn.Facts) (hAttnIdeal : Cert.AttnIdeal.Facts) (hAttnRefIdeal : Cert.AttnRefIdeal.Facts) (hProj2 : Cert.Proj2.Facts) (hProj2Ideal : Cert.Proj2Ideal.Facts) (hProj2RefIdeal : Cert.Proj2RefIdeal.Facts) (hMerge : Cert.Merge.Facts) (hMergeIdeal : Cert.MergeIdeal.Facts) (hMergeRefIdeal : Cert.MergeRefIdeal.Facts) (hProj1 : Cert.Proj1.Facts) (hProj1Ideal : Cert.Proj1Ideal.Facts) (hProj1RefIdeal : Cert.Proj1RefIdeal.Facts) (hPrep : Cert.Prep.Facts) (hPrepIdeal : Cert.PrepIdeal.Facts) (hPrepRefIdeal : Cert.PrepRefIdeal.Facts) (hPre_attention_pre : Cert.Pre_attention_pre.Facts) (hPre_mla_prep_pre : Cert.Pre_mla_prep_pre.Facts),
    quiescent_Attn (hAttn := hAttn)
    ∧ quiescent_AttnIdeal (hAttnIdeal := hAttnIdeal)
    ∧ quiescent_AttnIdeal_pre_attention_pre (hAttnIdeal := hAttnIdeal) (hPre_attention_pre := hPre_attention_pre)
    ∧ quiescent_AttnRefIdeal (hAttnRefIdeal := hAttnRefIdeal)
    ∧ quiescent_AttnRefIdeal_pre_attention_pre (hAttnRefIdeal := hAttnRefIdeal) (hPre_attention_pre := hPre_attention_pre)
    ∧ quiescent_Proj2 (hProj2 := hProj2)
    ∧ quiescent_Proj2Ideal (hProj2Ideal := hProj2Ideal)
    ∧ quiescent_Proj2RefIdeal (hProj2RefIdeal := hProj2RefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj1 (hProj1 := hProj1)
    ∧ quiescent_Proj1Ideal (hProj1Ideal := hProj1Ideal)
    ∧ quiescent_Proj1RefIdeal (hProj1RefIdeal := hProj1RefIdeal)
    ∧ quiescent_Prep (hPrep := hPrep)
    ∧ quiescent_PrepIdeal (hPrepIdeal := hPrepIdeal)
    ∧ quiescent_PrepIdeal_pre_mla_prep_pre (hPrepIdeal := hPrepIdeal) (hPre_mla_prep_pre := hPre_mla_prep_pre)
    ∧ quiescent_PrepRefIdeal (hPrepRefIdeal := hPrepRefIdeal)
    ∧ quiescent_PrepRefIdeal_pre_mla_prep_pre (hPrepRefIdeal := hPrepRefIdeal) (hPre_mla_prep_pre := hPre_mla_prep_pre)
    ∧ preserves_Attn_AttnIdeal
    ∧ algebraic_AttnIdeal_AttnRefIdeal_pre_attention_pre (hAttnIdeal := hAttnIdeal) (hAttnRefIdeal := hAttnRefIdeal) (hPre_attention_pre := hPre_attention_pre)
    ∧ preserves_Proj2_Proj2Ideal
    ∧ algebraic_Proj2Ideal_Proj2RefIdeal (hProj2Ideal := hProj2Ideal) (hProj2RefIdeal := hProj2RefIdeal)
    ∧ preserves_Merge_MergeIdeal
    ∧ algebraic_MergeIdeal_MergeRefIdeal (hMergeIdeal := hMergeIdeal) (hMergeRefIdeal := hMergeRefIdeal)
    ∧ preserves_Proj1_Proj1Ideal
    ∧ algebraic_Proj1Ideal_Proj1RefIdeal (hProj1Ideal := hProj1Ideal) (hProj1RefIdeal := hProj1RefIdeal)
    ∧ preserves_Prep_PrepIdeal
    ∧ algebraic_PrepIdeal_PrepRefIdeal_pre_mla_prep_pre (hPrepIdeal := hPrepIdeal) (hPrepRefIdeal := hPrepRefIdeal) (hPre_mla_prep_pre := hPre_mla_prep_pre)
-- ==== Pre_attention_pre.lean ====
abbrev S8x8x4096x128 : Shape := ⟨4, ![8, 8, 4096, 128]⟩
abbrev S8x8x256x128 : Shape := ⟨4, ![8, 8, 256, 128]⟩
abbrev S8x8x128x4096 : Shape := ⟨4, ![8, 8, 128, 4096]⟩
abbrev S8x8x128x256 : Shape := ⟨4, ![8, 8, 128, 256]⟩
abbrev S_ : Shape := ⟨0, ![]⟩
abbrev S8x8x1x4096 : Shape := ⟨4, ![8, 8, 1, 4096]⟩
abbrev S8x8x4096 : Shape := ⟨3, ![8, 8, 4096]⟩
abbrev S8x8x1x256 : Shape := ⟨4, ![8, 8, 1, 256]⟩
abbrev S8x8x256 : Shape := ⟨3, ![8, 8, 256]⟩

class Facts : Prop where
  bitsLt_bf16_f32 : FTy.bits .bf16 < FTy.bits .f32
  bcast_S_S8x8x4096x128 : S_.BroadcastsInDim S8x8x4096x128 (![] : Fin 0 → Fin S8x8x4096x128.rank)
  reducesTo_S8x8x4096x128_S_d0_1_2_3 : S8x8x4096x128.ReducesTo [0, 1, 2, 3] S_
  h_S_ : 0 < S_.numel
  bcast_S_S8x8x256x128 : S_.BroadcastsInDim S8x8x256x128 (![] : Fin 0 → Fin S8x8x256x128.rank)
  reducesTo_S8x8x256x128_S_d0_1_2_3 : S8x8x256x128.ReducesTo [0, 1, 2, 3] S_
  slices_S8x8x128x4096_S8x8x1x4096_0_0_64_0 : S8x8x128x4096.Slices ![0, 0, 64, 0] S8x8x1x4096
  shapeCasts_S8x8x1x4096_S8x8x4096 : S8x8x1x4096.ShapeCasts S8x8x4096
  bcast_S_S8x8x4096 : S_.BroadcastsInDim S8x8x4096 (![] : Fin 0 → Fin S8x8x4096.rank)
  reducesTo_S8x8x4096_S_d0_1_2 : S8x8x4096.ReducesTo [0, 1, 2] S_
  slices_S8x8x128x256_S8x8x1x256_0_0_64_0 : S8x8x128x256.Slices ![0, 0, 64, 0] S8x8x1x256
  shapeCasts_S8x8x1x256_S8x8x256 : S8x8x1x256.ShapeCasts S8x8x256
  bcast_S_S8x8x256 : S_.BroadcastsInDim S8x8x256 (![] : Fin 0 → Fin S8x8x256.rank)
  reducesTo_S8x8x256_S_d0_1_2 : S8x8x256.ReducesTo [0, 1, 2] S_

variable [Facts]

def fn_part1 {F : FTy → Type} [FloatOps F] (main_arg4 : FVec F S8x8x128x256 .bf16) (main_v16 : IVec S_ 1) (main_v17 : FVec F S8x8x1x4096 .bf16) : IVec S_ 1 :=
  let main_v18 : FVec F S8x8x4096 .bf16 := shapeCast S8x8x4096 main_v17 shapeCasts_S8x8x1x4096_S8x8x4096
  let main_v19 : FVec F S8x8x4096 .f32 := (extf .f32 · bitsLt_bf16_f32) main_v18
  let main_cst_4 : FVec F S_ .f32 := constant S_ .f32 0x3F800000#32
  let main_v20 : FVec F S8x8x4096 .f32 := broadcastInDim S8x8x4096 ![] bcast_S_S8x8x4096 main_cst_4
  let main_v21 : IVec S8x8x4096 1 := cmpf .oeq main_v19 main_v20
  let main_c_5 : IVec S_ 1 := constantI S_ 1 1#1
  let main_v22 : IVec S_ 1 := (fun x v => Host.reduce IntOp.andi x v reducesTo_S8x8x4096_S_d0_1_2 h_S_) main_v21 main_c_5
  let main_v23 : IVec S_ 1 := andi main_v16 main_v22
  let main_v24 : FVec F S8x8x1x256 .bf16 := (extractStridedSlice S8x8x1x256 ![0, 0, 64, 0] · slices_S8x8x128x256_S8x8x1x256_0_0_64_0) main_arg4
  let main_v25 : FVec F S8x8x256 .bf16 := shapeCast S8x8x256 main_v24 shapeCasts_S8x8x1x256_S8x8x256
  let main_v26 : FVec F S8x8x256 .f32 := (extf .f32 · bitsLt_bf16_f32) main_v25
  let main_cst_6 : FVec F S_ .f32 := constant S_ .f32 0x3F800000#32
  let main_v27 : FVec F S8x8x256 .f32 := broadcastInDim S8x8x256 ![] bcast_S_S8x8x256 main_cst_6
  let main_v28 : IVec S8x8x256 1 := cmpf .oeq main_v26 main_v27
  let main_c_7 : IVec S_ 1 := constantI S_ 1 1#1
  let main_v29 : IVec S_ 1 := (fun x v => Host.reduce IntOp.andi x v reducesTo_S8x8x256_S_d0_1_2 h_S_) main_v28 main_c_7
  let main_v30 : IVec S_ 1 := andi main_v23 main_v29
  main_v30

def fn {F : FTy → Type} [FloatOps F] (main_arg0 : FVec F S8x8x4096x128 .bf16) (main_arg1 : FVec F S8x8x4096x128 .bf16) (main_arg2 : FVec F S8x8x256x128 .bf16) (main_arg3 : FVec F S8x8x128x4096 .bf16) (main_arg4 : FVec F S8x8x128x256 .bf16) : IVec S_ 1 :=
  let main_v0 : FVec F S8x8x4096x128 .f32 := (extf .f32 · bitsLt_bf16_f32) main_arg0
  let main_v1 : FVec F S8x8x4096x128 .f32 := Host.absf main_v0
  let main_cst : FVec F S_ .f32 := constant S_ .f32 0x7F800000#32
  let main_v2 : FVec F S8x8x4096x128 .f32 := broadcastInDim S8x8x4096x128 ![] bcast_S_S8x8x4096x128 main_cst
  let main_v3 : IVec S8x8x4096x128 1 := cmpf .olt main_v1 main_v2
  let main_c : IVec S_ 1 := constantI S_ 1 1#1
  let main_v4 : IVec S_ 1 := (fun x v => Host.reduce IntOp.andi x v reducesTo_S8x8x4096x128_S_d0_1_2_3 h_S_) main_v3 main_c
  let main_v5 : FVec F S8x8x4096x128 .f32 := (extf .f32 · bitsLt_bf16_f32) main_arg1
  let main_v6 : FVec F S8x8x4096x128 .f32 := Host.absf main_v5
  let main_cst_0 : FVec F S_ .f32 := constant S_ .f32 0x7F800000#32
  let main_v7 : FVec F S8x8x4096x128 .f32 := broadcastInDim S8x8x4096x128 ![] bcast_S_S8x8x4096x128 main_cst_0
  let main_v8 : IVec S8x8x4096x128 1 := cmpf .olt main_v6 main_v7
  let main_c_1 : IVec S_ 1 := constantI S_ 1 1#1
  let main_v9 : IVec S_ 1 := (fun x v => Host.reduce IntOp.andi x v reducesTo_S8x8x4096x128_S_d0_1_2_3 h_S_) main_v8 main_c_1
  let main_v10 : IVec S_ 1 := andi main_v4 main_v9
  let main_v11 : FVec F S8x8x256x128 .f32 := (extf .f32 · bitsLt_bf16_f32) main_arg2
  let main_v12 : FVec F S8x8x256x128 .f32 := Host.absf main_v11
  let main_cst_2 : FVec F S_ .f32 := constant S_ .f32 0x7F800000#32
  let main_v13 : FVec F S8x8x256x128 .f32 := broadcastInDim S8x8x256x128 ![] bcast_S_S8x8x256x128 main_cst_2
  let main_v14 : IVec S8x8x256x128 1 := cmpf .olt main_v12 main_v13
  let main_c_3 : IVec S_ 1 := constantI S_ 1 1#1
  let main_v15 : IVec S_ 1 := (fun x v => Host.reduce IntOp.andi x v reducesTo_S8x8x256x128_S_d0_1_2_3 h_S_) main_v14 main_c_3
  let main_v16 : IVec S_ 1 := andi main_v10 main_v15
  let main_v17 : FVec F S8x8x1x4096 .bf16 := (extractStridedSlice S8x8x1x4096 ![0, 0, 64, 0] · slices_S8x8x128x4096_S8x8x1x4096_0_0_64_0) main_arg3
  fn_part1 (F := F) main_arg4 main_v16 main_v17
-- ==== Pre_mla_prep_pre.lean ====
abbrev S8x4096x384 : Shape := ⟨3, ![8, 4096, 384]⟩
abbrev S8x4096x256 : Shape := ⟨3, ![8, 4096, 256]⟩
abbrev S8x4096x32 : Shape := ⟨3, ![8, 4096, 32]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S4096x32 : Shape := ⟨2, ![4096, 32]⟩
abbrev S_ : Shape := ⟨0, ![]⟩

class Facts : Prop where
  bcast_S_S384 : S_.BroadcastsInDim S384 (![] : Fin 0 → Fin S384.rank)
  reducesTo_S384_S_d0 : S384.ReducesTo [0] S_
  h_S_ : 0 < S_.numel
  bitsLt_bf16_f32 : FTy.bits .bf16 < FTy.bits .f32
  bcast_S_S384x768 : S_.BroadcastsInDim S384x768 (![] : Fin 0 → Fin S384x768.rank)
  reducesTo_S384x768_S_d0_1 : S384x768.ReducesTo [0, 1] S_

variable [Facts]

def fn {F : FTy → Type} [FloatOps F] (main_arg0 : FVec F S8x4096x384 .bf16) (main_arg1 : FVec F S8x4096x256 .bf16) (main_arg2 : FVec F S8x4096x32 .bf16) (main_arg3 : FVec F S384 .f32) (main_arg4 : FVec F S256 .f32) (main_arg5 : FVec F S384x768 .bf16) (main_arg6 : FVec F S256x1024 .bf16) (main_arg7 : FVec F S4096x32 .f32) (main_arg8 : FVec F S4096x32 .f32) : IVec S_ 1 :=
  let main_v0 : FVec F S384 .f32 := Host.absf main_arg3
  let main_cst : FVec F S_ .f32 := constant S_ .f32 0x7F800000#32
  let main_v1 : FVec F S384 .f32 := broadcastInDim S384 ![] bcast_S_S384 main_cst
  let main_v2 : IVec S384 1 := cmpf .olt main_v0 main_v1
  let main_c : IVec S_ 1 := constantI S_ 1 1#1
  let main_v3 : IVec S_ 1 := (fun x v => Host.reduce IntOp.andi x v reducesTo_S384_S_d0 h_S_) main_v2 main_c
  let main_v4 : FVec F S384x768 .f32 := (extf .f32 · bitsLt_bf16_f32) main_arg5
  let main_v5 : FVec F S384x768 .f32 := Host.absf main_v4
  let main_cst_0 : FVec F S_ .f32 := constant S_ .f32 0x7F800000#32
  let main_v6 : FVec F S384x768 .f32 := broadcastInDim S384x768 ![] bcast_S_S384x768 main_cst_0
  let main_v7 : IVec S384x768 1 := cmpf .olt main_v5 main_v6
  let main_c_1 : IVec S_ 1 := constantI S_ 1 1#1
  let main_v8 : IVec S_ 1 := (fun x v => Host.reduce IntOp.andi x v reducesTo_S384x768_S_d0_1 h_S_) main_v7 main_c_1
  let main_v9 : IVec S_ 1 := andi main_v3 main_v8
  main_v9
-- ==== Attn.lean ====
abbrev S8x8x4096x128 : Shape := ⟨4, ![8, 8, 4096, 128]⟩
abbrev S8x8x256x128 : Shape := ⟨4, ![8, 8, 256, 128]⟩
abbrev S8x8x128x4096 : Shape := ⟨4, ![8, 8, 128, 4096]⟩
abbrev S8x8x128x256 : Shape := ⟨4, ![8, 8, 128, 256]⟩
abbrev S8x4096x512 : Shape := ⟨3, ![8, 4096, 512]⟩
abbrev S1x2x4096x128 : Shape := ⟨4, ![1, 2, 4096, 128]⟩
abbrev S1x2x256x128 : Shape := ⟨4, ![1, 2, 256, 128]⟩
abbrev S1x2x128x4096 : Shape := ⟨4, ![1, 2, 128, 4096]⟩
abbrev S1x2x128x256 : Shape := ⟨4, ![1, 2, 128, 256]⟩
abbrev S1x4096x128 : Shape := ⟨3, ![1, 4096, 128]⟩
abbrev S1x1x4096x128 : Shape := ⟨4, ![1, 1, 4096, 128]⟩
abbrev S4096x128 : Shape := ⟨2, ![4096, 128]⟩
abbrev S1x1x512x128 : Shape := ⟨4, ![1, 1, 512, 128]⟩
abbrev S512x128 : Shape := ⟨2, ![512, 128]⟩
abbrev S4096x512 : Shape := ⟨2, ![4096, 512]⟩
abbrev S1x1x256x128 : Shape := ⟨4, ![1, 1, 256, 128]⟩
abbrev S256x128 : Shape := ⟨2, ![256, 128]⟩
abbrev S256x512 : Shape := ⟨2, ![256, 512]⟩
abbrev S512 : Shape := ⟨1, ![512]⟩
abbrev S1x512 : Shape := ⟨2, ![1, 512]⟩
abbrev S1x1x80x4096 : Shape := ⟨4, ![1, 1, 80, 4096]⟩
abbrev S80x4096 : Shape := ⟨2, ![80, 4096]⟩
abbrev S80x512 : Shape := ⟨2, ![80, 512]⟩
abbrev S1x1x80x256 : Shape := ⟨4, ![1, 1, 80, 256]⟩
abbrev S80x256 : Shape := ⟨2, ![80, 256]⟩
abbrev S64x512 : Shape := ⟨2, ![64, 512]⟩
abbrev S512x64 : Shape := ⟨2, ![512, 64]⟩
abbrev S1x512x64 : Shape := ⟨3, ![1, 512, 64]⟩

abbrev nBuf : Space → Nat
  | .hbm => 6
  | .vmem => 12
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x8x256x128, .bf16⟩
  | .hbm, ⟨3, _⟩ => ⟨S8x8x128x4096, .bf16⟩
  | .hbm, ⟨4, _⟩ => ⟨S8x8x128x256, .bf16⟩
  | .hbm, ⟨5, _⟩ => ⟨S8x4096x512, .bf16⟩
  | .local _ .vmem, ⟨0, _⟩ => ⟨S1x2x4096x128, .bf16⟩
  | .local _ .vmem, ⟨1, _⟩ => ⟨S1x2x4096x128, .bf16⟩
  | .local _ .vmem, ⟨2, _⟩ => ⟨S1x2x4096x128, .bf16⟩
  | .local _ .vmem, ⟨3, _⟩ => ⟨S1x2x4096x128, .bf16⟩
  | .local _ .vmem, ⟨4, _⟩ => ⟨S1x2x256x128, .bf16⟩
  | .local _ .vmem, ⟨5, _⟩ => ⟨S1x2x256x128, .bf16⟩
  | .local _ .vmem, ⟨6, _⟩ => ⟨S1x2x128x4096, .bf16⟩
  | .local _ .vmem, ⟨7, _⟩ => ⟨S1x2x128x4096, .bf16⟩
  | .local _ .vmem, ⟨8, _⟩ => ⟨S1x2x128x256, .bf16⟩
  | .local _ .vmem, ⟨9, _⟩ => ⟨S1x2x128x256, .bf16⟩
  | .local _ .vmem, ⟨10, _⟩ => ⟨S1x4096x128, .bf16⟩
  | .local _ .vmem, ⟨11, _⟩ => ⟨S1x4096x128, .bf16⟩
  | _, _ => ⟨S8x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRefIdeal.lean ====
abbrev S8x8x4096x128 : Shape := ⟨4, ![8, 8, 4096, 128]⟩
abbrev S8x8x256x128 : Shape := ⟨4, ![8, 8, 256, 128]⟩
abbrev S8x8x128x4096 : Shape := ⟨4, ![8, 8, 128, 4096]⟩
abbrev S8x8x128x256 : Shape := ⟨4, ![8, 8, 128, 256]⟩
abbrev S8x8x4352x128 : Shape := ⟨4, ![8, 8, 4352, 128]⟩
abbrev S8x8x128x4352 : Shape := ⟨4, ![8, 8, 128, 4352]⟩
abbrev S8x8x64x4352 : Shape := ⟨4, ![8, 8, 64, 4352]⟩
abbrev S8x8x4096x4352 : Shape := ⟨4, ![8, 8, 4096, 4352]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x8x64 : Shape := ⟨4, ![8, 4096, 8, 64]⟩
abbrev S8x4096x512 : Shape := ⟨3, ![8, 4096, 512]⟩

abbrev nBuf : Space → Nat
  | .hbm => 34
  | .vmem => 0
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x8x256x128, .bf16⟩
  | .hbm, ⟨3, _⟩ => ⟨S8x8x128x4096, .bf16⟩
  | .hbm, ⟨4, _⟩ => ⟨S8x8x128x256, .bf16⟩
  | .hbm, ⟨5, _⟩ => ⟨S8x8x4352x128, .bf16⟩
  | .hbm, ⟨6, _⟩ => ⟨S8x8x4352x128, .f32⟩
  | .hbm, ⟨7, _⟩ => ⟨S8x8x128x4352, .bf16⟩
  | .hbm, ⟨8, _⟩ => ⟨S8x8x64x4352, .bf16⟩
  | .hbm, ⟨9, _⟩ => ⟨S8x8x64x4352, .f32⟩
  | .hbm, ⟨10, _⟩ => ⟨S8x8x4096x128, .f32⟩
  | .hbm, ⟨11, _⟩ => ⟨S8x8x4096x4352, .f32⟩
  | .hbm, ⟨12, _⟩ => ⟨S_, .f32⟩
  | .hbm, ⟨13, _⟩ => ⟨S_, .f32⟩
  | .hbm, ⟨14, _⟩ => ⟨S8x8x4096x4352, .f32⟩
  | .hbm, ⟨15, _⟩ => ⟨S8x8x4096x4352, .f32⟩
  | .hbm, ⟨16, _⟩ => ⟨S_, .f32⟩
  | .hbm, ⟨17, _⟩ => ⟨S8x8x4096, .f32⟩
  | .hbm, ⟨18, _⟩ => ⟨S_, .f32⟩
  | .hbm, ⟨19, _⟩ => ⟨S8x8x4096, .f32⟩
  | .hbm, ⟨20, _⟩ => ⟨S8x8x4096, .f32⟩
  | .hbm, ⟨21, _⟩ => ⟨S8x8x4096x1, .f32⟩
  | .hbm, ⟨22, _⟩ => ⟨S8x8x4096x4352, .f32⟩
  | .hbm, ⟨23, _⟩ => ⟨S8x8x4096x4352, .f32⟩
  | .hbm, ⟨24, _⟩ => ⟨S8x8x4096x4352, .f32⟩
  | .hbm, ⟨25, _⟩ => ⟨S_, .f32⟩
  | .hbm, ⟨26, _⟩ => ⟨S8x8x4096, .f32⟩
  | .hbm, ⟨27, _⟩ => ⟨S8x8x4096x1, .f32⟩
  | .hbm, ⟨28, _⟩ => ⟨S8x8x4096x4352, .f32⟩
  | .hbm, ⟨29, _⟩ => ⟨S8x8x4096x4352, .f32⟩
  | .hbm, ⟨30, _⟩ => ⟨S8x8x64x4096, .f32⟩
  | .hbm, ⟨31, _⟩ => ⟨S8x4096x8x64, .f32⟩
  | .hbm, ⟨32, _⟩ => ⟨S8x4096x512, .f32⟩
  | .hbm, ⟨33, _⟩ => ⟨S8x4096x512, .bf16⟩
  | _, _ => ⟨S8x8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proj2.lean ====
abbrev S8x4096x1024 : Shape := ⟨3, ![8, 4096, 1024]⟩
abbrev S8x1x1024 : Shape := ⟨3, ![8, 1, 1024]⟩
abbrev S1024 : Shape := ⟨1, ![1024]⟩
abbrev S1024x896 : Shape := ⟨2, ![1024, 896]⟩
abbrev S1024x512 : Shape := ⟨2, ![1024, 512]⟩
abbrev S1024x3072 : Shape := ⟨2, ![1024, 3072]⟩
abbrev S1x1024 : Shape := ⟨2, ![1, 1024]⟩
abbrev S8x4096x896 : Shape := ⟨3, ![8, 4096, 896]⟩
abbrev S8x4096x512 : Shape := ⟨3, ![8, 4096, 512]⟩
abbrev S8x4096x3072 : Shape := ⟨3, ![8, 4096, 3072]⟩
abbrev S1x1024x1024 : Shape := ⟨3, ![1, 1024, 1024]⟩
abbrev S1x1x1024 : Shape := ⟨3, ![1, 1, 1024]⟩
abbrev S1x1024x896 : Shape := ⟨3, ![1, 1024, 896]⟩
abbrev S1x1024x512 : Shape := ⟨3, ![1, 1024, 512]⟩
abbrev S1x1024x3072 : Shape := ⟨3, ![1, 1024, 3072]⟩
abbrev S1024x1024 : Shape := ⟨2, ![1024, 1024]⟩
abbrev S1024x1 : Shape := ⟨2, ![1024, 1]⟩

abbrev nBuf : Space → Nat
  | .hbm => 11
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x896, .bf16⟩
  | .hbm, ⟨5, _⟩ => ⟨S1024x512, .bf16⟩
  | .hbm, ⟨6, _⟩ => ⟨S1024x3072, .bf16⟩
  | .hbm, ⟨7, _⟩ => ⟨S1x1024, .f32⟩
  | .hbm, ⟨8, _⟩ => ⟨S8x4096x896, .bf16⟩
  | .hbm, ⟨9, _⟩ => ⟨S8x4096x512, .bf16⟩
  | .hbm, ⟨10, _⟩ => ⟨S8x4096x3072, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x896, .bf16⟩
  | .local _ .vmem, ⟨8, _⟩ => ⟨S1024x512, .bf16⟩
  | .local _ .vmem, ⟨9, _⟩ => ⟨S1024x3072, .bf16⟩
  | .local _ .vmem, ⟨10, _⟩ => ⟨S1x1024x896, .bf16⟩
  | .local _ .vmem, ⟨11, _⟩ => ⟨S1x1024x896, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x3072, .bf16⟩
  | .local _ .vmem, ⟨15, _⟩ => ⟨S1x1024x3072, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x896 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Proj2RefIdeal.lean ====
abbrev S8x4096x1024 : Shape := ⟨3, ![8, 4096, 1024]⟩
abbrev S8x1x1024 : Shape := ⟨3, ![8, 1, 1024]⟩
abbrev S1024 : Shape := ⟨1, ![1024]⟩
abbrev S1024x896 : Shape := ⟨2, ![1024, 896]⟩
abbrev S1024x512 : Shape := ⟨2, ![1024, 512]⟩
abbrev S1024x3072 : Shape := ⟨2, ![1024, 3072]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x896 : Shape := ⟨3, ![8, 4096, 896]⟩
abbrev S8x4096x512 : Shape := ⟨3, ![8, 4096, 512]⟩
abbrev S8x4096x3072 : Shape := ⟨3, ![8, 4096, 3072]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x896, .bf16⟩
  | .hbm, ⟨5, _⟩ => ⟨S1024x512, .bf16⟩
  | .hbm, ⟨6, _⟩ => ⟨S1024x3072, .bf16⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S1024x896, .f32⟩
  | .hbm, ⟨31, _⟩ => ⟨S8x4096x896, .f32⟩
  | .hbm, ⟨32, _⟩ => ⟨S8x4096x896, .bf16⟩
  | .hbm, ⟨33, _⟩ => ⟨S1024x512, .f32⟩
  | .hbm, ⟨34, _⟩ => ⟨S8x4096x512, .f32⟩
  | .hbm, ⟨35, _⟩ => ⟨S8x4096x512, .bf16⟩
  | .hbm, ⟨36, _⟩ => ⟨S1024x3072, .f32⟩
  | .hbm, ⟨37, _⟩ => ⟨S8x4096x3072, .f32⟩
  | .hbm, ⟨38, _⟩ => ⟨S8x4096x3072, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Merge.lean ====
abbrev S8x4096x1024 : Shape := ⟨3, ![8, 4096, 1024]⟩
abbrev S8x4096x512 : Shape := ⟨3, ![8, 4096, 512]⟩
abbrev S8x4096x3072 : Shape := ⟨3, ![8, 4096, 3072]⟩
abbrev S8x1x1024 : Shape := ⟨3, ![8, 1, 1024]⟩
abbrev S1024 : Shape := ⟨1, ![1024]⟩
abbrev S4x128x128 : Shape := ⟨3, ![4, 128, 128]⟩
abbrev S128x128 : Shape := ⟨2, ![128, 128]⟩
abbrev S128 : Shape := ⟨1, ![128]⟩
abbrev S3x512x1024 : Shape := ⟨3, ![3, 512, 1024]⟩
abbrev S1024x1024 : Shape := ⟨2, ![1024, 1024]⟩
abbrev S1x1024 : Shape := ⟨2, ![1, 1024]⟩
abbrev S1x128 : Shape := ⟨2, ![1, 128]⟩
abbrev S1x512x1024 : Shape := ⟨3, ![1, 512, 1024]⟩
abbrev S1x512x512 : Shape := ⟨3, ![1, 512, 512]⟩
abbrev S1x512x3072 : Shape := ⟨3, ![1, 512, 3072]⟩
abbrev S1x1x1024 : Shape := ⟨3, ![1, 1, 1024]⟩
abbrev S512x1024 : Shape := ⟨2, ![512, 1024]⟩
abbrev S512x512 : Shape := ⟨2, ![512, 512]⟩
abbrev S512x128 : Shape := ⟨2, ![512, 128]⟩
abbrev S1x128x128 : Shape := ⟨3, ![1, 128, 128]⟩
abbrev S512 : Shape := ⟨1, ![512]⟩
abbrev S512x1 : Shape := ⟨2, ![512, 1]⟩

abbrev nBuf : Space → Nat
  | .hbm => 20
  | .vmem => 29
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4096x512, .bf16⟩
  | .hbm, ⟨5, _⟩ => ⟨S8x4096x512, .bf16⟩
  | .hbm, ⟨6, _⟩ => ⟨S8x4096x512, .bf16⟩
  | .hbm, ⟨7, _⟩ => ⟨S8x4096x3072, .bf16⟩
  | .hbm, ⟨8, _⟩ => ⟨S8x4096x1024, .f32⟩
  | .hbm, ⟨9, _⟩ => ⟨S8x1x1024, .f32⟩
  | .hbm, ⟨10, _⟩ => ⟨S1024, .f32⟩
  | .hbm, ⟨11, _⟩ => ⟨S4x128x128, .bf16⟩
  | .hbm, ⟨12, _⟩ => ⟨S128x128, .bf16⟩
  | .hbm, ⟨13, _⟩ => ⟨S128x128, .bf16⟩
  | .hbm, ⟨14, _⟩ => ⟨S128, .f32⟩
  | .hbm, ⟨15, _⟩ => ⟨S3x512x1024, .bf16⟩
  | .hbm, ⟨16, _⟩ => ⟨S1024x1024, .bf16⟩
  | .hbm, ⟨17, _⟩ => ⟨S1x1024, .f32⟩
  | .hbm, ⟨18, _⟩ => ⟨S1x128, .f32⟩
  | .hbm, ⟨19, _⟩ => ⟨S8x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x3072, .bf16⟩
  | .local _ .vmem, ⟨15, _⟩ => ⟨S1x512x3072, .bf16⟩
  | .local _ .vmem, ⟨16, _⟩ => ⟨S1x512x1024, .f32⟩
  | .local _ .vmem, ⟨17, _⟩ => ⟨S1x512x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | .local _ .vmem, ⟨21, _⟩ => ⟨S4x128x128, .bf16⟩
  | .local _ .vmem, ⟨22, _⟩ => ⟨S128x128, .bf16⟩
  | .local _ .vmem, ⟨23, _⟩ => ⟨S128x128, .bf16⟩
  | .local _ .vmem, ⟨24, _⟩ => ⟨S1x128, .f32⟩
  | .local _ .vmem, ⟨25, _⟩ => ⟨S3x512x1024, .bf16⟩
  | .local _ .vmem, ⟨26, _⟩ => ⟨S1024x1024, .bf16⟩
  | .local _ .vmem, ⟨27, _⟩ => ⟨S1x512x1024, .f32⟩
  | .local _ .vmem, ⟨28, _⟩ => ⟨S1x512x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S3x512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== MergeRefIdeal.lean ====
abbrev S8x4096x1024 : Shape := ⟨3, ![8, 4096, 1024]⟩
abbrev S8x4096x512 : Shape := ⟨3, ![8, 4096, 512]⟩
abbrev S8x4096x3072 : Shape := ⟨3, ![8, 4096, 3072]⟩
abbrev S8x1x1024 : Shape := ⟨3, ![8, 1, 1024]⟩
abbrev S1024 : Shape := ⟨1, ![1024]⟩
abbrev S4x128x128 : Shape := ⟨3, ![4, 128, 128]⟩
abbrev S128x128 : Shape := ⟨2, ![128, 128]⟩
abbrev S128 : Shape := ⟨1, ![128]⟩
abbrev S3x512x1024 : Shape := ⟨3, ![3, 512, 1024]⟩
abbrev S1024x1024 : Shape := ⟨2, ![1024, 1024]⟩
abbrev S8x4096x4x128 : Shape := ⟨4, ![8, 4096, 4, 128]⟩
abbrev S4x128x8x4096 : Shape := ⟨4, ![4, 128, 8, 4096]⟩
abbrev S_ : Shape := ⟨0, ![]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S1x512x1024 : Shape := ⟨3, ![1, 512, 1024]⟩
abbrev S512x1024 : Shape := ⟨2, ![512, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 150
  | .vmem => 0
  | .smem => 0
  | _ => 0

abbrev hbmTy0_0 (i : Nat) : BufTy := match i % 128 with
  | 0 => ⟨S8x4096x1024, .bf16⟩
  | 1 => ⟨S8x4096x512, .bf16⟩
  | 2 => ⟨S8x4096x512, .bf16⟩
  | 3 => ⟨S8x4096x512, .bf16⟩
  | 4 => ⟨S8x4096x512, .bf16⟩
  | 5 => ⟨S8x4096x512, .bf16⟩
  | 6 => ⟨S8x4096x512, .bf16⟩
  | 7 => ⟨S8x4096x3072, .bf16⟩
  | 8 => ⟨S8x4096x1024, .f32⟩
  | 9 => ⟨S8x1x1024, .f32⟩
  | 10 => ⟨S1024, .f32⟩
  | 11 => ⟨S4x128x128, .bf16⟩
  | 12 => ⟨S128x128, .bf16⟩
  | 13 => ⟨S128x128, .bf16⟩
  | 14 => ⟨S128, .f32⟩
  | 15 => ⟨S3x512x1024, .bf16⟩
  | 16 => ⟨S1024x1024, .bf16⟩
  | 17 => ⟨S8x4096x1024, .f32⟩
  | 18 => ⟨S8x4096x512, .f32⟩
  | 19 => ⟨S8x4096x512, .f32⟩
  | 20 => ⟨S8x4096x512, .f32⟩
  | 21 => ⟨S8x4096x512, .f32⟩
  | 22 => ⟨S8x4096x512, .f32⟩
  | 23 => ⟨S8x4096x512, .f32⟩
  | 24 => ⟨S8x4096x3072, .f32⟩
  | 25 => ⟨S4x128x128, .f32⟩
  | 26 => ⟨S128x128, .f32⟩
  | 27 => ⟨S128x128, .f32⟩
  | 28 => ⟨S3x512x1024, .f32⟩
  | 29 => ⟨S1024x1024, .f32⟩
  | 30 => ⟨S8x4096x512, .f32⟩
  | 31 => ⟨S8x4096x4x128, .f32⟩
  | 32 => ⟨S8x4096x512, .f32⟩
  | 33 => ⟨S8x4096x4x128, .f32⟩
  | 34 => ⟨S8x4096x4x128, .f32⟩
  | 35 => ⟨S8x4096x4x128, .f32⟩
  | 36 => ⟨S8x4096x4x128, .f32⟩
  | 37 => ⟨S4x128x8x4096, .f32⟩
  | 38 => ⟨S8x4096x4x128, .f32⟩
  | 39 => ⟨S8x4096x512, .f32⟩
  | 40 => ⟨S8x4096x512, .f32⟩
  | 41 => ⟨S8x4096x512, .f32⟩
  | 42 => ⟨S_, .f32⟩
  | 43 => ⟨S8x4096x512, .f32⟩
  | 44 => ⟨S8x4096x512, .f32⟩
  | 45 => ⟨S_, .f32⟩
  | 46 => ⟨S8x4096x512, .f32⟩
  | 47 => ⟨S8x4096x512, .f32⟩
  | 48 => ⟨S8x4096x512, .f32⟩
  | 49 => ⟨S8x4096x512, .f32⟩
  | 50 => ⟨S8x4096x512, .f32⟩
  | 51 => ⟨S8x4096x4x128, .f32⟩
  | 52 => ⟨S8x4096x4x128, .f32⟩
  | 53 => ⟨S_, .f32⟩
  | 54 => ⟨S8x4096x4, .f32⟩
  | 55 => ⟨S8x4096x4x1, .f32⟩
  | 56 => ⟨S_, .f32⟩
  | 57 => ⟨S8x4096x4x1, .f32⟩
  | 58 => ⟨S8x4096x4x1, .f32⟩
  | 59 => ⟨S_, .f32⟩
  | 60 => ⟨S8x4096x4x1, .f32⟩
  | 61 => ⟨S8x4096x4x1, .f32⟩
  | 62 => ⟨S8x4096x4x1, .f32⟩
  | 63 => ⟨S8x4096x4x128, .f32⟩
  | 64 => ⟨S8x4096x4x128, .f32⟩
  | 65 => ⟨S1x1x1x128, .f32⟩
  | 66 => ⟨S8x4096x4x128, .f32⟩
  | 67 => ⟨S8x4096x4x128, .f32⟩
  | 68 => ⟨S8x4096x512, .f32⟩
  | 69 => ⟨S8x4096x512, .f32⟩
  | 70 => ⟨S8x4096x512, .f32⟩
  | 71 => ⟨S_, .f32⟩
  | 72 => ⟨S8x4096x512, .f32⟩
  | 73 => ⟨S8x4096x512, .f32⟩
  | 74 => ⟨S_, .f32⟩
  | 75 => ⟨S8x4096x512, .f32⟩
  | 76 => ⟨S8x4096x512, .f32⟩
  | 77 => ⟨S8x4096x512, .f32⟩
  | 78 => ⟨S8x4096x512, .f32⟩
  | 79 => ⟨S8x4096x512, .f32⟩
  | 80 => ⟨S8x4096x512, .f32⟩
  | 81 => ⟨S_, .f32⟩
  | 82 => ⟨S8x4096x512, .f32⟩
  | 83 => ⟨S8x4096x512, .f32⟩
  | 84 => ⟨S_, .f32⟩
  | 85 => ⟨S8x4096x512, .f32⟩
  | 86 => ⟨S8x4096x512, .f32⟩
  | 87 => ⟨S8x4096x512, .f32⟩
  | 88 => ⟨S8x4096x512, .f32⟩
  | 89 => ⟨S8x4096x1024, .f32⟩
  | 90 => ⟨S8x4096x1024, .f32⟩
  | 91 => ⟨S8x4096x1024, .f32⟩
  | 92 => ⟨S8x4096x1024, .f32⟩
  | 93 => ⟨S8x4096x1024, .f32⟩
  | 94 => ⟨S_, .f32⟩
  | 95 => ⟨S8x4096x1024, .f32⟩
  | 96 => ⟨S8x4096x1024, .f32⟩
  | 97 => ⟨S_, .f32⟩
  | 98 => ⟨S8x4096x1024, .f32⟩
  | 99 => ⟨S8x4096x1024, .f32⟩
  | 100 => ⟨S1x512x1024, .f32⟩
  | 101 => ⟨S512x1024, .f32⟩
  | 102 => ⟨S8x4096x1024, .f32⟩
  | 103 => ⟨S8x4096x1024, .f32⟩
  | 104 => ⟨S8x4096x1024, .f32⟩
  | 105 => ⟨S8x4096x1024, .f32⟩
  | 106 => ⟨S_, .f32⟩
  | 107 => ⟨S8x4096x1024, .f32⟩
  | 108 => ⟨S8x4096x1024, .f32⟩
  | 109 => ⟨S_, .f32⟩
  | 110 => ⟨S8x4096x1024, .f32⟩
  | 111 => ⟨S8x4096x1024, .f32⟩
  | 112 => ⟨S1x512x1024, .f32⟩
  | 113 => ⟨S512x1024, .f32⟩
  | 114 => ⟨S8x4096x1024, .f32⟩
  | 115 => ⟨S8x4096x1024, .f32⟩
  | 116 => ⟨S8x4096x1024, .f32⟩
  | 117 => ⟨S8x4096x1024, .f32⟩
  | 118 => ⟨S8x4096x1024, .f32⟩
  | 119 => ⟨S_, .f32⟩
  | 120 => ⟨S8x4096x1024, .f32⟩
  | 121 => ⟨S8x4096x1024, .f32⟩
  | 122 => ⟨S_, .f32⟩
  | 123 => ⟨S8x4096x1024, .f32⟩
  | 124 => ⟨S8x4096x1024, .f32⟩
  | 125 => ⟨S1x512x1024, .f32⟩
  | 126 => ⟨S512x1024, .f32⟩
  | 127 => ⟨S8x4096x1024, .f32⟩
  | _ => ⟨S8x4096x1024, .bf16⟩

abbrev hbmTy0_1 (i : Nat) : BufTy := match i % 128 with
  | 0 => ⟨S8x4096x1024, .f32⟩
  | 1 => ⟨S8x4096x1024, .f32⟩
  | 2 => ⟨S8x4096x1024, .f32⟩
  | 3 => ⟨S8x4096x1024, .f32⟩
  | 4 => ⟨S_, .f32⟩
  | 5 => ⟨S8x4096, .f32⟩
  | 6 => ⟨S8x4096x1, .f32⟩
  | 7 => ⟨S_, .f32⟩
  | 8 => ⟨S8x4096x1, .f32⟩
  | 9 => ⟨S8x4096x1, .f32⟩
  | 10 => ⟨S_, .f32⟩
  | 11 => ⟨S8x4096x1, .f32⟩
  | 12 => ⟨S8x4096x1, .f32⟩
  | 13 => ⟨S8x4096x1, .f32⟩
  | 14 => ⟨S8x4096x1024, .f32⟩
  | 15 => ⟨S8x4096x1024, .f32⟩
  | 16 => ⟨S1x1x1024, .f32⟩
  | 17 => ⟨S8x4096x1024, .f32⟩
  | 18 => ⟨S8x4096x1024, .f32⟩
  | 19 => ⟨S8x4096x1024, .f32⟩
  | 20 => ⟨S8x4096x1024, .f32⟩
  | 21 => ⟨S8x4096x1024, .f32⟩
  | _ => ⟨S8x4096x1024, .bf16⟩

abbrev hbmTy (i : Nat) : BufTy := match i / 128 with
  | 0 => hbmTy0_0 i
  | 1 => hbmTy0_1 i
  | _ => ⟨S8x4096x1024, .bf16⟩

abbrev bufTy : (tb : Table) → Fin (tcTables nBuf tb) → BufTy
  | .hbm, ⟨i, _⟩ => hbmTy i
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst : Ref sig .tc := ⟨.hbm, 53, rfl⟩
abbrev main_v28 : Ref sig .tc := ⟨.hbm, 54, rfl⟩
abbrev main_v29 : Ref sig .tc := ⟨.hbm, 55, rfl⟩
abbrev main_cst_0 : Ref sig .tc := ⟨.hbm, 56, rfl⟩
abbrev main_v30 : Ref sig .tc := ⟨.hbm, 57, rfl⟩
abbrev main_v31 : Ref sig .tc := ⟨.hbm, 58, rfl⟩
abbrev main_cst_1 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v41 : Ref sig .tc := ⟨.hbm, 77, rfl⟩
abbrev main_v42 : Ref sig .tc := ⟨.hbm, 78, rfl⟩
abbrev main_call2_v0 : Ref sig .tc := ⟨.hbm, 79, rfl⟩
abbrev main_call2_v1 : Ref sig .tc := ⟨.hbm, 80, rfl⟩
abbrev main_call2_cst : Ref sig .tc := ⟨.hbm, 81, rfl⟩
abbrev main_call2_v2 : Ref sig .tc := ⟨.hbm, 82, rfl⟩
abbrev main_call2_v3 : Ref sig .tc := ⟨.hbm, 83, rfl⟩
abbrev main_call2_cst_0 : Ref sig .tc := ⟨.hbm, 84, rfl⟩
abbrev main_call2_v4 : Ref sig .tc := ⟨.hbm, 85, rfl⟩
abbrev main_call2_v5 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_2 : Ref sig .tc := ⟨.hbm, 94, rfl⟩
abbrev main_v50 : Ref sig .tc := ⟨.hbm, 95, rfl⟩
abbrev main_v51 : Ref sig .tc := ⟨.hbm, 96, rfl⟩
abbrev main_cst_3 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_4 : Ref sig .tc := ⟨.hbm, 106, rfl⟩
abbrev main_v60 : Ref sig .tc := ⟨.hbm, 107, rfl⟩
abbrev main_v61 : Ref sig .tc := ⟨.hbm, 108, rfl⟩
abbrev main_cst_5 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_6 : Ref sig .tc := ⟨.hbm, 119, rfl⟩
abbrev main_v71 : Ref sig .tc := ⟨.hbm, 120, rfl⟩
abbrev main_v72 : Ref sig .tc := ⟨.hbm, 121, rfl⟩
abbrev main_cst_7 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_8 : Ref sig .tc := ⟨.hbm, 132, rfl⟩
abbrev main_v82 : Ref sig .tc := ⟨.hbm, 133, rfl⟩
abbrev main_v83 : Ref sig .tc := ⟨.hbm, 134, rfl⟩
abbrev main_cst_9 : Ref sig .tc := ⟨.hbm, 135, rfl⟩
abbrev main_v84 : Ref sig .tc := ⟨.hbm, 136, rfl⟩
abbrev main_v85 : Ref sig .tc := ⟨.hbm, 137, rfl⟩
abbrev main_cst_10 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩

abbrev nD : Nat := 1
abbrev τ : Topo := Topo.v7x

variable {F : FTy → Type} [FloatOps F]
-- ==== Proj1.lean ====
abbrev S8x4096x1024 : Shape := ⟨3, ![8, 4096, 1024]⟩
abbrev S8x1x1024 : Shape := ⟨3, ![8, 1, 1024]⟩
abbrev S1024 : Shape := ⟨1, ![1024]⟩
abbrev S1024x512 : Shape := ⟨2, ![1024, 512]⟩
abbrev S1024x1536 : Shape := ⟨2, ![1024, 1536]⟩
abbrev S1024x128 : Shape := ⟨2, ![1024, 128]⟩
abbrev S1x1024 : Shape := ⟨2, ![1, 1024]⟩
abbrev S8x64x32768 : Shape := ⟨3, ![8, 64, 32768]⟩
abbrev S8x4096x512 : Shape := ⟨3, ![8, 4096, 512]⟩
abbrev S8x4096x1536 : Shape := ⟨3, ![8, 4096, 1536]⟩
abbrev S8x4096x128 : Shape := ⟨3, ![8, 4096, 128]⟩
abbrev S1x1024x1024 : Shape := ⟨3, ![1, 1024, 1024]⟩
abbrev S1x1x1024 : Shape := ⟨3, ![1, 1, 1024]⟩
abbrev S1x16x32768 : Shape := ⟨3, ![1, 16, 32768]⟩
abbrev S1x1024x512 : Shape := ⟨3, ![1, 1024, 512]⟩
abbrev S1x1024x1536 : Shape := ⟨3, ![1, 1024, 1536]⟩
abbrev S1x1024x128 : Shape := ⟨3, ![1, 1024, 128]⟩
abbrev S4x1152x128 : Shape := ⟨3, ![4, 1152, 128]⟩
abbrev S1024x1024 : Shape := ⟨2, ![1024, 1024]⟩
abbrev S1024x1 : Shape := ⟨2, ![1024, 1]⟩
abbrev S64x128 : Shape := ⟨2, ![64, 128]⟩
abbrev S1x64x128 : Shape := ⟨3, ![1, 64, 128]⟩
abbrev S1x16x128 : Shape := ⟨3, ![1, 16, 128]⟩
abbrev S16x128 : Shape := ⟨2, ![16, 128]⟩

abbrev nBuf : Space → Nat
  | .hbm => 15
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x512, .bf16⟩
  | .hbm, ⟨5, _⟩ => ⟨S1024x512, .bf16⟩
  | .hbm, ⟨6, _⟩ => ⟨S1024x1536, .bf16⟩
  | .hbm, ⟨7, _⟩ => ⟨S1024x512, .bf16⟩
  | .hbm, ⟨8, _⟩ => ⟨S1024x128, .bf16⟩
  | .hbm, ⟨9, _⟩ => ⟨S1x1024, .f32⟩
  | .hbm, ⟨10, _⟩ => ⟨S8x64x32768, .bf16⟩
  | .hbm, ⟨11, _⟩ => ⟨S8x4096x512, .bf16⟩
  | .hbm, ⟨12, _⟩ => ⟨S8x4096x1536, .bf16⟩
  | .hbm, ⟨13, _⟩ => ⟨S8x4096x512, .bf16⟩
  | .hbm, ⟨14, _⟩ => ⟨S8x4096x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x512, .bf16⟩
  | .local _ .vmem, ⟨8, _⟩ => ⟨S1024x512, .bf16⟩
  | .local _ .vmem, ⟨9, _⟩ => ⟨S1024x1536, .bf16⟩
  | .local _ .vmem, ⟨10, _⟩ => ⟨S1024x512, .bf16⟩
  | .local _ .vmem, ⟨11, _⟩ => ⟨S1024x128, .bf16⟩
  | .local _ .vmem, ⟨12, _⟩ => ⟨S1x16x32768, .bf16⟩
  | .local _ .vmem, ⟨13, _⟩ => ⟨S1x16x32768, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x1536, .bf16⟩
  | .local _ .vmem, ⟨17, _⟩ => ⟨S1x1024x1536, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x128, .f32⟩
  | .local _ .vmem, ⟨21, _⟩ => ⟨S1x1024x128, .f32⟩
  | .local _ .vmem, ⟨22, _⟩ => ⟨S4x1152x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x16x32768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Proj1RefIdeal.lean ====
abbrev S8x4096x1024 : Shape := ⟨3, ![8, 4096, 1024]⟩
abbrev S8x1x1024 : Shape := ⟨3, ![8, 1, 1024]⟩
abbrev S1024 : Shape := ⟨1, ![1024]⟩
abbrev S1024x512 : Shape := ⟨2, ![1024, 512]⟩
abbrev S1024x1536 : Shape := ⟨2, ![1024, 1536]⟩
abbrev S1024x128 : Shape := ⟨2, ![1024, 128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x512 : Shape := ⟨3, ![8, 4096, 512]⟩
abbrev S8x4096x1536 : Shape := ⟨3, ![8, 4096, 1536]⟩
abbrev S8x4096x128 : Shape := ⟨3, ![8, 4096, 128]⟩
abbrev S8x64x32768 : Shape := ⟨3, ![8, 64, 32768]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S1024x512, .bf16⟩
  | .hbm, ⟨5, _⟩ => ⟨S1024x512, .bf16⟩
  | .hbm, ⟨6, _⟩ => ⟨S1024x1536, .bf16⟩
  | .hbm, ⟨7, _⟩ => ⟨S1024x512, .bf16⟩
  | .hbm, ⟨8, _⟩ => ⟨S1024x128, .bf16⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S1024x512, .f32⟩
  | .hbm, ⟨33, _⟩ => ⟨S8x4096x512, .f32⟩
  | .hbm, ⟨34, _⟩ => ⟨S1024x512, .f32⟩
  | .hbm, ⟨35, _⟩ => ⟨S8x4096x512, .f32⟩
  | .hbm, ⟨36, _⟩ => ⟨S1024x1536, .f32⟩
  | .hbm, ⟨37, _⟩ => ⟨S8x4096x1536, .f32⟩
  | .hbm, ⟨38, _⟩ => ⟨S1024x512, .f32⟩
  | .hbm, ⟨39, _⟩ => ⟨S8x4096x512, .f32⟩
  | .hbm, ⟨40, _⟩ => ⟨S1024x128, .f32⟩
  | .hbm, ⟨41, _⟩ => ⟨S8x4096x128, .f32⟩
  | .hbm, ⟨42, _⟩ => ⟨S8x64x32768, .f32⟩
  | .hbm, ⟨43, _⟩ => ⟨S8x64x32768, .bf16⟩
  | .hbm, ⟨44, _⟩ => ⟨S8x4096x512, .bf16⟩
  | .hbm, ⟨45, _⟩ => ⟨S8x4096x1536, .bf16⟩
  | .hbm, ⟨46, _⟩ => ⟨S8x4096x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Prep.lean ====
abbrev S8x4096x384 : Shape := ⟨3, ![8, 4096, 384]⟩
abbrev S8x4096x256 : Shape := ⟨3, ![8, 4096, 256]⟩
abbrev S8x4096x32 : Shape := ⟨3, ![8, 4096, 32]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S4096x32 : Shape := ⟨2, ![4096, 32]⟩
abbrev S_ : Shape := ⟨0, ![]⟩
abbrev S8x4096x64 : Shape := ⟨3, ![8, 4096, 64]⟩
abbrev S8x4096x128 : Shape := ⟨3, ![8, 4096, 128]⟩
abbrev S8x4096x8 : Shape := ⟨3, ![8, 4096, 8]⟩
abbrev S8x4096x896 : Shape := ⟨3, ![8, 4096, 896]⟩
abbrev S384x8x96 : Shape := ⟨3, ![384, 8, 96]⟩
abbrev S384x8x32 : Shape := ⟨3, ![384, 8, 32]⟩
abbrev S384x8x128 : Shape := ⟨3, ![384, 8, 128]⟩
abbrev S384x1024 : Shape := ⟨2, ![384, 1024]⟩
abbrev S384x8x64 : Shape := ⟨3, ![384, 8, 64]⟩
abbrev S384x8x8 : Shape := ⟨3, ![384, 8, 8]⟩
abbrev S256x8x128 : Shape := ⟨3, ![256, 8, 128]⟩
abbrev S256x8x64 : Shape := ⟨3, ![256, 8, 64]⟩
abbrev S4096x64 : Shape := ⟨2, ![4096, 64]⟩
abbrev S4096x128 : Shape := ⟨2, ![4096, 128]⟩
abbrev S1024x256 : Shape := ⟨2, ![1024, 256]⟩
abbrev S1x384 : Shape := ⟨2, ![1, 384]⟩
abbrev S1x256 : Shape := ⟨2, ![1, 256]⟩
abbrev S8x8x4096x128 : Shape := ⟨4, ![8, 8, 4096, 128]⟩
abbrev S8x8x128x4096 : Shape := ⟨4, ![8, 8, 128, 4096]⟩
abbrev S1x512x896 : Shape := ⟨3, ![1, 512, 896]⟩
abbrev S512x128 : Shape := ⟨2, ![512, 128]⟩
abbrev S1x8x512x128 : Shape := ⟨4, ![1, 8, 512, 128]⟩
abbrev S1x8x128x512 : Shape := ⟨4, ![1, 8, 128, 512]⟩
abbrev S512x896 : Shape := ⟨2, ![512, 896]⟩
abbrev S512x384 : Shape := ⟨2, ![512, 384]⟩
abbrev S512x256 : Shape := ⟨2, ![512, 256]⟩
abbrev S512 : Shape := ⟨1, ![512]⟩
abbrev S512x1 : Shape := ⟨2, ![512, 1]⟩
abbrev S512x1024 : Shape := ⟨2, ![512, 1024]⟩
abbrev S1024x512 : Shape := ⟨2, ![1024, 512]⟩
abbrev S128x512 : Shape := ⟨2, ![128, 512]⟩
abbrev S1x1x512x128 : Shape := ⟨4, ![1, 1, 512, 128]⟩
abbrev S1x1x128x512 : Shape := ⟨4, ![1, 1, 128, 512]⟩

abbrev nBuf : Space → Nat
  | .hbm => 71
  | .vmem => 18
  | .smem => 0
  | _ => 0

abbrev bufTy : (tb : Table) → Fin (tcTables nBuf tb) → BufTy
  | .hbm, ⟨0, _⟩ => ⟨S8x4096x384, .bf16⟩
  | .hbm, ⟨1, _⟩ => ⟨S8x4096x256, .bf16⟩
  | .hbm, ⟨2, _⟩ => ⟨S8x4096x32, .bf16⟩
  | .hbm, ⟨3, _⟩ => ⟨S384, .f32⟩
  | .hbm, ⟨4, _⟩ => ⟨S256, .f32⟩
  | .hbm, ⟨5, _⟩ => ⟨S384x768, .bf16⟩
  | .hbm, ⟨6, _⟩ => ⟨S256x1024, .bf16⟩
  | .hbm, ⟨7, _⟩ => ⟨S4096x32, .f32⟩
  | .hbm, ⟨8, _⟩ => ⟨S4096x32, .f32⟩
  | .hbm, ⟨9, _⟩ => ⟨S_, .bf16⟩
  | .hbm, ⟨10, _⟩ => ⟨S8x4096x64, .bf16⟩
  | .hbm, ⟨11, _⟩ => ⟨S_, .bf16⟩
  | .hbm, ⟨12, _⟩ => ⟨S8x4096x32, .bf16⟩
  | .hbm, ⟨13, _⟩ => ⟨S8x4096x128, .bf16⟩
  | .hbm, ⟨14, _⟩ => ⟨S8x4096x8, .bf16⟩
  | .hbm, ⟨15, _⟩ => ⟨S8x4096x8, .bf16⟩
  | .hbm, ⟨16, _⟩ => ⟨S8x4096x8, .bf16⟩
  | .hbm, ⟨17, _⟩ => ⟨S8x4096x8, .bf16⟩
  | .hbm, ⟨18, _⟩ => ⟨S8x4096x8, .bf16⟩
  | .hbm, ⟨19, _⟩ => ⟨S8x4096x8, .bf16⟩
  | .hbm, ⟨20, _⟩ => ⟨S8x4096x32, .bf16⟩
  | .hbm, ⟨21, _⟩ => ⟨S_, .bf16⟩
  | .hbm, ⟨22, _⟩ => ⟨S8x4096x64, .bf16⟩
  | .hbm, ⟨23, _⟩ => ⟨S_, .bf16⟩
  | .hbm, ⟨24, _⟩ => ⟨S8x4096x32, .bf16⟩
  | .hbm, ⟨25, _⟩ => ⟨S8x4096x128, .bf16⟩
  | .hbm, ⟨26, _⟩ => ⟨S8x4096x896, .bf16⟩
  | .hbm, ⟨27, _⟩ => ⟨S384x8x96, .bf16⟩
  | .hbm, ⟨28, _⟩ => ⟨S_, .bf16⟩
  | .hbm, ⟨29, _⟩ => ⟨S384x8x32, .bf16⟩
  | .hbm, ⟨30, _⟩ => ⟨S384x8x128, .bf16⟩
  | .hbm, ⟨31, _⟩ => ⟨S384x1024, .bf16⟩
  | .hbm, ⟨32, _⟩ => ⟨S_, .bf16⟩
  | .hbm, ⟨33, _⟩ => ⟨S384x8x64, .bf16⟩
  | .hbm, ⟨34, _⟩ => ⟨S384x8x32, .bf16⟩
  | .hbm, ⟨35, _⟩ => ⟨S384x8x8, .bf16⟩
  | .hbm, ⟨36, _⟩ => ⟨S384x8x8, .bf16⟩
  | .hbm, ⟨37, _⟩ => ⟨S384x8x8, .bf16⟩
  | .hbm, ⟨38, _⟩ => ⟨S384x8x8, .bf16⟩
  | .hbm, ⟨39, _⟩ => ⟨S384x8x8, .bf16⟩
  | .hbm, ⟨40, _⟩ => ⟨S384x8x8, .bf16⟩
  | .hbm, ⟨41, _⟩ => ⟨S384x8x32, .bf16⟩
  | .hbm, ⟨42, _⟩ => ⟨S384x8x128, .bf16⟩
  | .hbm, ⟨43, _⟩ => ⟨S384x1024, .bf16⟩
  | .hbm, ⟨44, _⟩ => ⟨S256x8x128, .bf16⟩
  | .hbm, ⟨45, _⟩ => ⟨S_, .bf16⟩
  | .hbm, ⟨46, _⟩ => ⟨S256x8x64, .bf16⟩
  | .hbm, ⟨47, _⟩ => ⟨S256x8x64, .bf16⟩
  | .hbm, ⟨48, _⟩ => ⟨S256x8x128, .bf16⟩
  | .hbm, ⟨49, _⟩ => ⟨S256x1024, .bf16⟩
  | .hbm, ⟨50, _⟩ => ⟨S256x8x64, .bf16⟩
  | .hbm, ⟨51, _⟩ => ⟨S_, .bf16⟩
  | .hbm, ⟨52, _⟩ => ⟨S256x8x64, .bf16⟩
  | .hbm, ⟨53, _⟩ => ⟨S256x8x128, .bf16⟩
  | .hbm, ⟨54, _⟩ => ⟨S256x1024, .bf16⟩
  | .hbm, ⟨55, _⟩ => ⟨S_, .f32⟩
  | .hbm, ⟨56, _⟩ => ⟨S4096x64, .f32⟩
  | .hbm, ⟨57, _⟩ => ⟨S_, .f32⟩
  | .hbm, ⟨58, _⟩ => ⟨S4096x32, .f32⟩
  | .hbm, ⟨59, _⟩ => ⟨S4096x128, .f32⟩
  | .hbm, ⟨60, _⟩ => ⟨S_, .f32⟩
  | .hbm, ⟨61, _⟩ => ⟨S4096x64, .f32⟩
  | .hbm, ⟨62, _⟩ => ⟨S_, .f32⟩
  | .hbm, ⟨63, _⟩ => ⟨S4096x32, .f32⟩
  | .hbm, ⟨64, _⟩ => ⟨S4096x128, .f32⟩
  | .hbm, ⟨65, _⟩ => ⟨S1024x256, .bf16⟩
  | .hbm, ⟨66, _⟩ => ⟨S1x384, .f32⟩
  | .hbm, ⟨67, _⟩ => ⟨S1x256, .f32⟩
  | .hbm, ⟨68, _⟩ => ⟨S8x8x4096x128, .bf16⟩
  | .hbm, ⟨69, _⟩ => ⟨S8x8x4096x128, .bf16⟩
  | .hbm, ⟨70, _⟩ => ⟨S8x8x128x4096, .bf16⟩
  | .local _ .vmem, ⟨0, _⟩ => ⟨S1x512x896, .bf16⟩
  | .local _ .vmem, ⟨1, _⟩ => ⟨S1x512x896, .bf16⟩
  | .local _ .vmem, ⟨2, _⟩ => ⟨S1x384, .f32⟩
  | .local _ .vmem, ⟨3, _⟩ => ⟨S1x256, .f32⟩
  | .local _ .vmem, ⟨4, _⟩ => ⟨S384x1024, .bf16⟩
  | .local _ .vmem, ⟨5, _⟩ => ⟨S384x1024, .bf16⟩
  | .local _ .vmem, ⟨6, _⟩ => ⟨S256x1024, .bf16⟩
  | .local _ .vmem, ⟨7, _⟩ => ⟨S1024x256, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x8x512x128, .bf16⟩
  | .local _ .vmem, ⟨13, _⟩ => ⟨S1x8x512x128, .bf16⟩
  | .local _ .vmem, ⟨14, _⟩ => ⟨S1x8x512x128, .bf16⟩
  | .local _ .vmem, ⟨15, _⟩ => ⟨S1x8x512x128, .bf16⟩
  | .local _ .vmem, ⟨16, _⟩ => ⟨S1x8x128x512, .bf16⟩
  | .local _ .vmem, ⟨17, _⟩ => ⟨S1x8x128x512, .bf16⟩
  | _, _ => ⟨S8x4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47_0 : Ref sig .tc := ⟨.hbm, 68, rfl⟩
abbrev main_v47_1 : Ref sig .tc := ⟨.hbm, 69, rfl⟩
abbrev main_v47_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== PrepRefIdeal.lean ====
abbrev S8x4096x384 : Shape := ⟨3, ![8, 4096, 384]⟩
abbrev S8x4096x256 : Shape := ⟨3, ![8, 4096, 256]⟩
abbrev S8x4096x32 : Shape := ⟨3, ![8, 4096, 32]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S4096x32 : Shape := ⟨2, ![4096, 32]⟩
abbrev S_ : Shape := ⟨0, ![]⟩
abbrev S8x4096 : Shape := ⟨2, ![8, 4096]⟩
abbrev S8x4096x1 : Shape := ⟨3, ![8, 4096, 1]⟩
abbrev S1x1x384 : Shape := ⟨3, ![1, 1, 384]⟩
abbrev S8x4096x768 : Shape := ⟨3, ![8, 4096, 768]⟩
abbrev S8x4096x8x96 : Shape := ⟨4, ![8, 4096, 8, 96]⟩
abbrev S1x1x256 : Shape := ⟨3, ![1, 1, 256]⟩
abbrev S8x4096x1024 : Shape := ⟨3, ![8, 4096, 1024]⟩
abbrev S8x4096x8x128 : Shape := ⟨4, ![8, 4096, 8, 128]⟩
abbrev S8x4096x8x64 : Shape := ⟨4, ![8, 4096, 8, 64]⟩
abbrev S8x4096x8x32 : Shape := ⟨4, ![8, 4096, 8, 32]⟩
abbrev S4096x1x32 : Shape := ⟨3, ![4096, 1, 32]⟩
abbrev S1x4096x1x32 : Shape := ⟨4, ![1, 4096, 1, 32]⟩
abbrev S8x4096x8x8 : Shape := ⟨4, ![8, 4096, 8, 8]⟩
abbrev S1x4096x32 : Shape := ⟨3, ![1, 4096, 32]⟩
abbrev S8x4096x8 : Shape := ⟨3, ![8, 4096, 8]⟩
abbrev S8x4096x1x32 : Shape := ⟨4, ![8, 4096, 1, 32]⟩
abbrev S8x4096x8x1 : Shape := ⟨4, ![8, 4096, 8, 1]⟩
abbrev S8x4096x8x63 : Shape := ⟨4, ![8, 4096, 8, 63]⟩
abbrev S8x8x4096x128 : Shape := ⟨4, ![8, 8, 4096, 128]⟩
abbrev S8x8x128x4096 : Shape := ⟨4, ![8, 8, 128, 4096]⟩

abbrev nBuf : Space → Nat
  | .hbm => 104
  | .vmem => 0
  | .smem => 0
  | _ => 0

abbrev bufTy : (tb : Table) → Fin (tcTables nBuf tb) → BufTy
  | .hbm, ⟨0, _⟩ => ⟨S8x4096x384, .bf16⟩
  | .hbm, ⟨1, _⟩ => ⟨S8x4096x256, .bf16⟩
  | .hbm, ⟨2, _⟩ => ⟨S8x4096x32, .bf16⟩
  | .hbm, ⟨3, _⟩ => ⟨S384, .f32⟩
  | .hbm, ⟨4, _⟩ => ⟨S256, .f32⟩
  | .hbm, ⟨5, _⟩ => ⟨S384x768, .bf16⟩
  | .hbm, ⟨6, _⟩ => ⟨S256x1024, .bf16⟩
  | .hbm, ⟨7, _⟩ => ⟨S4096x32, .f32⟩
  | .hbm, ⟨8, _⟩ => ⟨S4096x32, .f32⟩
  | .hbm, ⟨9, _⟩ => ⟨S8x4096x384, .f32⟩
  | .hbm, ⟨10, _⟩ => ⟨S8x4096x256, .f32⟩
  | .hbm, ⟨11, _⟩ => ⟨S8x4096x32, .f32⟩
  | .hbm, ⟨12, _⟩ => ⟨S384x768, .f32⟩
  | .hbm, ⟨13, _⟩ => ⟨S256x1024, .f32⟩
  | .hbm, ⟨14, _⟩ => ⟨S8x4096x384, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x384, .f32⟩
  | .hbm, ⟨26, _⟩ => ⟨S8x4096x384, .f32⟩
  | .hbm, ⟨27, _⟩ => ⟨S1x1x384, .f32⟩
  | .hbm, ⟨28, _⟩ => ⟨S8x4096x384, .f32⟩
  | .hbm, ⟨29, _⟩ => ⟨S8x4096x384, .f32⟩
  | .hbm, ⟨30, _⟩ => ⟨S8x4096x768, .f32⟩
  | .hbm, ⟨31, _⟩ => ⟨S8x4096x8x96, .f32⟩
  | .hbm, ⟨32, _⟩ => ⟨S8x4096x256, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S8x4096x256, .f32⟩
  | .hbm, ⟨44, _⟩ => ⟨S8x4096x256, .f32⟩
  | .hbm, ⟨45, _⟩ => ⟨S1x1x256, .f32⟩
  | .hbm, ⟨46, _⟩ => ⟨S8x4096x256, .f32⟩
  | .hbm, ⟨47, _⟩ => ⟨S8x4096x256, .f32⟩
  | .hbm, ⟨48, _⟩ => ⟨S8x4096x1024, .f32⟩
  | .hbm, ⟨49, _⟩ => ⟨S8x4096x8x128, .f32⟩
  | .hbm, ⟨50, _⟩ => ⟨S8x4096x8x64, .f32⟩
  | .hbm, ⟨51, _⟩ => ⟨S8x4096x8x32, .f32⟩
  | .hbm, ⟨52, _⟩ => ⟨S8x4096x8x64, .f32⟩
  | .hbm, ⟨53, _⟩ => ⟨S8x4096x8x64, .f32⟩
  | .hbm, ⟨54, _⟩ => ⟨S4096x1x32, .f32⟩
  | .hbm, ⟨55, _⟩ => ⟨S4096x1x32, .f32⟩
  | .hbm, ⟨56, _⟩ => ⟨S1x4096x1x32, .f32⟩
  | .hbm, ⟨57, _⟩ => ⟨S8x4096x8x32, .f32⟩
  | .hbm, ⟨58, _⟩ => ⟨S8x4096x8x32, .f32⟩
  | .hbm, ⟨59, _⟩ => ⟨S8x4096x8x8, .f32⟩
  | .hbm, ⟨60, _⟩ => ⟨S8x4096x8x8, .f32⟩
  | .hbm, ⟨61, _⟩ => ⟨S8x4096x8x8, .f32⟩
  | .hbm, ⟨62, _⟩ => ⟨S8x4096x8x8, .f32⟩
  | .hbm, ⟨63, _⟩ => ⟨S8x4096x8x8, .f32⟩
  | .hbm, ⟨64, _⟩ => ⟨S8x4096x8x8, .f32⟩
  | .hbm, ⟨65, _⟩ => ⟨S8x4096x8x32, .f32⟩
  | .hbm, ⟨66, _⟩ => ⟨S1x4096x1x32, .f32⟩
  | .hbm, ⟨67, _⟩ => ⟨S8x4096x8x32, .f32⟩
  | .hbm, ⟨68, _⟩ => ⟨S8x4096x8x32, .f32⟩
  | .hbm, ⟨69, _⟩ => ⟨S8x4096x8x32, .f32⟩
  | .hbm, ⟨70, _⟩ => ⟨S1x4096x32, .f32⟩
  | .hbm, ⟨71, _⟩ => ⟨S8x4096x32, .f32⟩
  | .hbm, ⟨72, _⟩ => ⟨S8x4096x32, .f32⟩
  | .hbm, ⟨73, _⟩ => ⟨S8x4096x8, .f32⟩
  | .hbm, ⟨74, _⟩ => ⟨S8x4096x8, .f32⟩
  | .hbm, ⟨75, _⟩ => ⟨S8x4096x8, .f32⟩
  | .hbm, ⟨76, _⟩ => ⟨S8x4096x8, .f32⟩
  | .hbm, ⟨77, _⟩ => ⟨S8x4096x8, .f32⟩
  | .hbm, ⟨78, _⟩ => ⟨S8x4096x8, .f32⟩
  | .hbm, ⟨79, _⟩ => ⟨S8x4096x32, .f32⟩
  | .hbm, ⟨80, _⟩ => ⟨S1x4096x32, .f32⟩
  | .hbm, ⟨81, _⟩ => ⟨S8x4096x32, .f32⟩
  | .hbm, ⟨82, _⟩ => ⟨S8x4096x32, .f32⟩
  | .hbm, ⟨83, _⟩ => ⟨S8x4096x32, .f32⟩
  | .hbm, ⟨84, _⟩ => ⟨S8x4096x1x32, .f32⟩
  | .hbm, ⟨85, _⟩ => ⟨S8x4096x8x32, .f32⟩
  | .hbm, ⟨86, _⟩ => ⟨S_, .f32⟩
  | .hbm, ⟨87, _⟩ => ⟨S8x4096x8x32, .f32⟩
  | .hbm, ⟨88, _⟩ => ⟨S8x4096x8x128, .f32⟩
  | .hbm, ⟨89, _⟩ => ⟨S_, .f32⟩
  | .hbm, ⟨90, _⟩ => ⟨S8x4096x8x128, .f32⟩
  | .hbm, ⟨91, _⟩ => ⟨S8x4096x8x128, .f32⟩
  | .hbm, ⟨92, _⟩ => ⟨S8x4096x8x128, .f32⟩
  | .hbm, ⟨93, _⟩ => ⟨S_, .f32⟩
  | .hbm, ⟨94, _⟩ => ⟨S8x4096x8x1, .f32⟩
  | .hbm, ⟨95, _⟩ => ⟨S_, .f32⟩
  | .hbm, ⟨96, _⟩ => ⟨S8x4096x8x63, .f32⟩
  | .hbm, ⟨97, _⟩ => ⟨S8x4096x8x128, .f32⟩
  | .hbm, ⟨98, _⟩ => ⟨S8x8x4096x128, .f32⟩
  | .hbm, ⟨99, _⟩ => ⟨S8x8x4096x128, .bf16⟩
  | .hbm, ⟨100, _⟩ => ⟨S8x8x4096x128, .f32⟩
  | .hbm, ⟨101, _⟩ => ⟨S8x8x4096x128, .bf16⟩
  | .hbm, ⟨102, _⟩ => ⟨S8x8x128x4096, .f32⟩
  | .hbm, ⟨103, _⟩ => ⟨S8x8x128x4096, .bf16⟩
  | _, _ => ⟨S8x4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_5 : Ref sig .tc := ⟨.hbm, 86, rfl⟩
abbrev main_v71 : Ref sig .tc := ⟨.hbm, 87, rfl⟩
abbrev main_v72 : Ref sig .tc := ⟨.hbm, 88, rfl⟩
abbrev main_cst_6 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_7 : Ref sig .tc := ⟨.hbm, 93, rfl⟩
abbrev main_v76 : Ref sig .tc := ⟨.hbm, 94, rfl⟩
abbrev main_cst_8 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩

abbrev nD : Nat := 1
abbrev τ : Topo := Topo.v7x

variable {F : FTy → Type} [FloatOps F]
-- ==== Proof.Modulated.lean ====
/-
  The layer's modulated normalisation of one token, over the extended reals: the token over its root mean square, scaled
  by the layer's weight and by one plus the batch's scale, shifted by the batch's shift.
-/
module

public import Idealize.ShloMosaic.Lib.Pointwise

@[expose] public section

noncomputable section

namespace Cert.Modulated

open Idealize.ShloMosaic

/-- Column `e` of the normalised token: `x` is the token, `g` the weight, `sc` the scale and `sh` the shift. -/
def normed (x g sc sh : Fin 1024 → EReal) (e : Fin 1024) : EReal :=
  x e * Ideal.rsqrt (Ideal.div (∑ k, x k * x k) (Ideal.ofBits .f32 0x44800000#32) + Ideal.ofBits .f32 0x358637BD#32) * g e
      * (Ideal.ofBits .f32 0x3F800000#32 + sc e) + sh e

/-- Column `d` of the normalised token times a matrix whose column `d` is `w`. -/
def project (x g sc sh : Fin 1024 → EReal) (w : Fin 1024 → EReal) : EReal := ∑ k, normed x g sc sh k * w k

end Cert.Modulated

end
-- ==== Proof.Proj2Unit.lean ====
/-
  What the second input projection computes on one block of 1024 tokens: its payloads read at an index.
-/
module

public import proofs.«01_k».proof.Proof.Modulated
public import proofs.«01_k».proof.Proof.Gen.Proj2Ideal.Frame
public import Idealize.ShloMosaic.Lib.Pointwise

@[expose] public section

set_option maxRecDepth 16384

noncomputable section

namespace Cert.Proj2Value

open Cert.Proj2Ideal Cert.Proj2Ideal.Gen Idealize.ShloMosaic Cert.Modulated

/-- The normalised block, token by token. -/
theorem normed_apply (x : Vec Ideal S1x1024x1024 .f32) (g : Vec Ideal S1x1024 .f32) (sc sh : Vec Ideal S1x1x1024 .f32) (r e : Fin 1024) :
    k0_pay4 x g sc sh (ix2 r e)
      = normed (fun k => x (ix3 0 r k)) (fun k => g (ix2 0 k)) (fun k => sc (ix3 0 0 k)) (fun k => sh (ix3 0 0 k)) e := by
  unfold normed
  pointwise [k0_pay4]

/-- A block times a matrix of 512 columns. -/
theorem wide_apply (h : FVec Ideal S1024x1024 .bf16) (w : Vec Ideal S1024x512 .bf16) (r : Fin 1024) (d : Fin 512) :
    k0_pay6 h w (ix3 0 r d) = ∑ k : Fin 1024, h (ix2 r k) * w (ix2 k d) := by
  pointwise [k0_pay6, dot_S1024x1024_S1024x512_S1024x512_1_0_0_1_n_n]

/-- The normalised block times a matrix of 896 columns. -/
theorem mla_apply (x : Vec Ideal S1x1024x1024 .f32) (g : Vec Ideal S1x1024 .f32) (sc sh : Vec Ideal S1x1x1024 .f32)
    (w : Vec Ideal S1024x896 .bf16) (r : Fin 1024) (d : Fin 896) :
    k0_pay5 x g sc sh w (ix3 0 r d) = ∑ k : Fin 1024, k0_pay4 x g sc sh (ix2 r k) * w (ix2 k d) := by
  pointwise [k0_pay5, dot_S1024x1024_S1024x896_S1024x896_1_0_0_1_n_n]

end Cert.Proj2Value

end
-- ==== Proof.Proj2Block.lean ====
/-
  What one grid point of the second input projection leaves in its three output blocks, each as one function of the
  block's index.
-/
module

public import proofs.«01_k».proof.Proof.Proj2Unit
public import Idealize.ShloMosaic.Lib.Pipeline.ValueKit

@[expose] public section

set_option maxRecDepth 16384

noncomputable section

namespace Cert.Proj2Value

open Cert.Proj2Ideal Cert.Proj2Ideal.Gen Idealize.ShloMosaic Cert.Modulated

variable (x : Vec Ideal S1x1024x1024 .f32) (sc sh : Vec Ideal S1x1x1024 .f32) (g : Vec Ideal S1x1024 .f32)

/-- The column `w` of a matrix times the block's normalised token `r`. -/
def blockAt (w : Fin 1024 → EReal) (r : Fin 1024) : EReal :=
  project (fun k => x (ix3 0 r k)) (fun k => g (ix2 0 k)) (fun k => sc (ix3 0 0 k)) (fun k => sh (ix3 0 0 k)) w

theorem ld_x (r k : Fin 1024) : View.ld x r0_0 (ix3 0 r k) = x (ix3 0 r k) := by
  refine View.ld_unit_apply_of _ _ _ _ _ _ fun b => ?_
  fin_cases b <;> first | rfl | simp
theorem ld_g (k : Fin 1024) : View.ld g r0_1 (ix2 0 k) = g (ix2 0 k) := by
  refine View.ld_unit_apply_of _ _ _ _ _ _ fun b => ?_
  fin_cases b <;> first | rfl | simp
theorem ld_s (k : Fin 1024) : View.ld sc r0_2 (ix3 0 0 k) = sc (ix3 0 0 k) := by
  refine View.ld_unit_apply_of _ _ _ _ _ _ fun b => ?_
  fin_cases b <;> first | rfl | simp

/-- The normalised block, from the loaded windows. -/
def hid : FVec Ideal S1024x1024 .bf16 := k0_pay4 (View.ld x r0_0) (View.ld g r0_1) (View.ld sc r0_2) (View.ld sh r0_2)

theorem hid_apply (r e : Fin 1024) : hid x sc sh g (ix2 r e)
    = normed (fun k => x (ix3 0 r k)) (fun k => g (ix2 0 k)) (fun k => sc (ix3 0 0 k)) (fun k => sh (ix3 0 0 k)) e := by
  unfold hid
  rw [normed_apply]
  have hx : (fun k => View.ld x r0_0 (ix3 0 r k)) = fun k => x (ix3 0 r k) := funext (ld_x x r)
  have hg : (fun k => View.ld g r0_1 (ix2 0 k)) = fun k => g (ix2 0 k) := funext (ld_g g)
  have hsc : (fun k => View.ld sc r0_2 (ix3 0 0 k)) = fun k => sc (ix3 0 0 k) := funext (ld_s sc)
  have hsh : (fun k => View.ld sh r0_2 (ix3 0 0 k)) = fun k => sh (ix3 0 0 k) := funext (ld_s sh)
  exact congrFun (congr (congr (congr (congrArg normed hx) hg) hsc) hsh) e

/-- The first output block: the latent attention's columns. -/
theorem out7_eq (w : Vec Ideal S1024x896 .bf16) (w5 : Vec Ideal S1024x512 .bf16) (w6 : Vec Ideal S1024x3072 .bf16) :
    out0_7 x sc sh g w w5 w6 = fun i : S1x1024x896.Idx => blockAt x sc sh g (fun k => w (ix2 k (i 2))) (i 1) := by
  funext y
  unfold out0_7
  refine View.canon_apply_of_pieces (Val := Elt Ideal) (e := .bf16) (fun i : S1x1024x896.Idx => blockAt x sc sh g (fun k => w (ix2 k (i 2))) (i 1)) _ ?_ y (cover0_7 _ y)
  refine List.forall_mem_cons.2 ⟨fun z => ?_, fun p hp => absurd hp (List.not_mem_nil)⟩
  obtain ⟨r, hr⟩ : ∃ r : Fin 1024, r = z 1 := ⟨_, rfl⟩
  obtain ⟨d, hd⟩ : ∃ d : Fin 896, d = z 2 := ⟨_, rfl⟩
  have hz : z = ix3 0 r d := by
    subst hr hd
    funext a
    match a with
    | ⟨0, _⟩ => exact Fin.ext (by have := (z 0).isLt; show (z 0).val = 0; change (z 0).val < 1 at this; omega)
    | ⟨1, _⟩ => rfl
    | ⟨2, _⟩ => rfl
  have e1 : (r0_4.emb (ix3 0 r d)) 1 = r := Fin.ext ((Rect.idx_unit_val (s := S1x1024x896) ![0, 0, 0] S1x1024x896.size _ (ix3 0 r d) 1).trans (Nat.zero_add _))
  have e2 : (r0_4.emb (ix3 0 r d)) 2 = d := Fin.ext ((Rect.idx_unit_val (s := S1x1024x896) ![0, 0, 0] S1x1024x896.size _ (ix3 0 r d) 2).trans (Nat.zero_add _))
  have lw : ∀ k : Fin 1024, View.ld w r0_3 (ix2 k d) = w (ix2 k d) := by
    intro k
    refine View.ld_unit_apply_of _ _ _ _ _ _ fun b => ?_
    fin_cases b <;> first | rfl | simp
  rw [hz]
  show k0_pay5 (F := Ideal) _ _ _ _ _ _ = blockAt x sc sh g (fun k => w (ix2 k ((r0_4.emb (ix3 0 r d)) 2))) ((r0_4.emb (ix3 0 r d)) 1)
  rw [mla_apply, e1, e2]
  unfold blockAt project
  exact Finset.sum_congr rfl fun k _ => congrArg₂ (· * ·) (hid_apply x sc sh g r k) (lw k)

/-- The second output block: the attention's gate's columns. -/
theorem out8_eq (w : Vec Ideal S1024x896 .bf16) (w5 : Vec Ideal S1024x512 .bf16) (w6 : Vec Ideal S1024x3072 .bf16) :
    out0_8 x sc sh g w w5 w6 = fun i : S1x1024x512.Idx => blockAt x sc sh g (fun k => w5 (ix2 k (i 2))) (i 1) := by
  funext y
  unfold out0_8
  refine View.canon_apply_of_pieces (Val := Elt Ideal) (e := .bf16) (fun i : S1x1024x512.Idx => blockAt x sc sh g (fun k => w5 (ix2 k (i 2))) (i 1)) _ ?_ y (cover0_8 _ y)
  refine List.forall_mem_cons.2 ⟨fun z => ?_, fun p hp => absurd hp (List.not_mem_nil)⟩
  obtain ⟨r, hr⟩ : ∃ r : Fin 1024, r = z 1 := ⟨_, rfl⟩
  obtain ⟨d, hd⟩ : ∃ d : Fin 512, d = z 2 := ⟨_, rfl⟩
  have hz : z = ix3 0 r d := by
    subst hr hd
    funext a
    match a with
    | ⟨0, _⟩ => exact Fin.ext (by have := (z 0).isLt; show (z 0).val = 0; change (z 0).val < 1 at this; omega)
    | ⟨1, _⟩ => rfl
    | ⟨2, _⟩ => rfl
  have e1 : (r0_6.emb (ix3 0 r d)) 1 = r := Fin.ext ((Rect.idx_unit_val (s := S1x1024x512) ![0, 0, 0] S1x1024x512.size _ (ix3 0 r d) 1).trans (Nat.zero_add _))
  have e2 : (r0_6.emb (ix3 0 r d)) 2 = d := Fin.ext ((Rect.idx_unit_val (s := S1x1024x512) ![0, 0, 0] S1x1024x512.size _ (ix3 0 r d) 2).trans (Nat.zero_add _))
  have lw : ∀ k : Fin 1024, View.ld w5 r0_5 (ix2 k d) = w5 (ix2 k d) := by
    intro k
    refine View.ld_unit_apply_of _ _ _ _ _ _ fun b => ?_
    fin_cases b <;> first | rfl | simp
  rw [hz]
  show k0_pay6 (F := Ideal) _ _ _ = blockAt x sc sh g (fun k => w5 (ix2 k ((r0_6.emb (ix3 0 r d)) 2))) ((r0_6.emb (ix3 0 r d)) 1)
  rw [wide_apply, e1, e2]
  unfold blockAt project
  exact Finset.sum_congr rfl fun k _ => congrArg₂ (· * ·) (hid_apply x sc sh g r k) (lw k)

/-- One of the six stores of the third output block, at columns `o` on, is the block's function on its rectangle. -/
theorem gate_piece (w : Vec Ideal S1024x3072 .bf16) (o : ℕ) (hw : ∀ a, ![0, o] a + S1024x512.size a ≤ S1024x3072.size a)
    (ho : ∀ a, ![0, 0, o] a + S1x1024x512.size a ≤ S1x1024x3072.size a) (z : S1x1024x512.Idx) :
    k0_pay6 (hid x sc sh g) (View.ld w (Rect.unit (s := S1024x3072) ![0, o] S1024x512.size hw)) z
      = (fun i : S1x1024x3072.Idx => blockAt x sc sh g (fun k => w (ix2 k (i 2))) (i 1))
          ((Rect.unit (s := S1x1024x3072) ![0, 0, o] S1x1024x512.size ho).emb z) := by
  obtain ⟨r, hr⟩ : ∃ r : Fin 1024, r = z 1 := ⟨_, rfl⟩
  obtain ⟨d, hd⟩ : ∃ d : Fin 512, d = z 2 := ⟨_, rfl⟩
  have hz : z = ix3 0 r d := by
    subst hr hd
    funext a
    match a with
    | ⟨0, _⟩ => exact Fin.ext (by have := (z 0).isLt; show (z 0).val = 0; change (z 0).val < 1 at this; omega)
    | ⟨1, _⟩ => rfl
    | ⟨2, _⟩ => rfl
  have hb : o + 512 ≤ 3072 := hw 1
  have e1 : ((Rect.unit (s := S1x1024x3072) ![0, 0, o] S1x1024x512.size ho).emb (ix3 0 r d)) 1 = r :=
    Fin.ext ((Rect.idx_unit_val (s := S1x1024x3072) ![0, 0, o] S1x1024x512.size ho (ix3 0 r d) 1).trans (Nat.zero_add _))
  have e2 : ((Rect.unit (s := S1x1024x3072) ![0, 0, o] S1x1024x512.size ho).emb (ix3 0 r d)) 2 = (⟨o + d.val, by omega⟩ : Fin 3072) :=
    Fin.ext (Rect.idx_unit_val (s := S1x1024x3072) ![0, 0, o] S1x1024x512.size ho (ix3 0 r d) 2)
  have lw : ∀ k : Fin 1024, View.ld w (Rect.unit (s := S1024x3072) ![0, o] S1024x512.size hw) (ix2 k d) = w (ix2 k ⟨o + d.val, by omega⟩) := by
    intro k
    refine View.ld_unit_apply_of _ _ _ _ _ _ fun b => ?_
    fin_cases b <;> first | rfl | simp
  rw [hz]
  show _ = blockAt x sc sh g (fun k => w (ix2 k _)) _
  rw [wide_apply, e1, e2]
  unfold blockAt project
  exact Finset.sum_congr rfl fun k _ => congrArg₂ (· * ·) (hid_apply x sc sh g r k) (lw k)

/-- The third output block: the merge's gates' columns. -/
theorem out9_eq (w : Vec Ideal S1024x896 .bf16) (w5 : Vec Ideal S1024x512 .bf16) (w6 : Vec Ideal S1024x3072 .bf16) :
    out0_9 x sc sh g w w5 w6 = fun i : S1x1024x3072.Idx => blockAt x sc sh g (fun k => w6 (ix2 k (i 2))) (i 1) := by
  funext y
  unfold out0_9
  refine View.canon_apply_of_pieces (Val := Elt Ideal) (e := .bf16) (fun i : S1x1024x3072.Idx => blockAt x sc sh g (fun k => w6 (ix2 k (i 2))) (i 1)) _ ?_ y (cover0_9 _ _ _ _ _ _ y)
  refine List.forall_mem_cons.2 ⟨fun z => gate_piece x sc sh g w6 2560 (by decide) (by decide) z, ?_⟩
  refine List.forall_mem_cons.2 ⟨fun z => gate_piece x sc sh g w6 2048 (by decide) (by decide) z, ?_⟩
  refine List.forall_mem_cons.2 ⟨fun z => gate_piece x sc sh g w6 1536 (by decide) (by decide) z, ?_⟩
  refine List.forall_mem_cons.2 ⟨fun z => gate_piece x sc sh g w6 1024 (by decide) (by decide) z, ?_⟩
  refine List.forall_mem_cons.2 ⟨fun z => gate_piece x sc sh g w6 512 (by decide) (by decide) z, ?_⟩
  refine List.forall_mem_cons.2 ⟨fun z => gate_piece x sc sh g w6 0 (by decide) (by decide) z, ?_⟩
  exact fun p hp => absurd hp (List.not_mem_nil)

end Cert.Proj2Value

end
-- ==== Proof.Proj2Array.lean ====
/-
  What the second input projection's three result arrays hold after the run: each one function of the argument arrays.
-/
module

public import proofs.«01_k».proof.Proof.Proj2Block
public import proofs.«01_k».proof.Proof.Gen.Proj2Ideal.Value
public import Idealize.ShloMosaic.Lib.Claim

@[expose] public section

set_option maxRecDepth 16384

noncomputable section

namespace Cert.Proj2Value

open Cert.Proj2Ideal Cert.Proj2Ideal.Gen Idealize.ShloMosaic Idealize.ShloMosaic.TcCoe Idealize.SL.Sem Cert.Modulated

/-- Token `r` of batch `b`, normalised, times the column `w` of a matrix. -/
def entry (x : Vec Ideal S8x4096x1024 .f32) (sc sh : Vec Ideal S8x1x1024 .f32) (g : Vec Ideal S1024 .f32) (w : Fin 1024 → EReal)
    (b : Fin 8) (r : Fin 4096) : EReal :=
  project (fun k => x (ix3 b r k)) (fun k => g (ix1 k)) (fun k => sc (ix3 b 0 k)) (fun k => sh (ix3 b 0 k)) w

variable (m : (ℓ : Loc nD τ sig) → Buf (Elt Ideal) ℓ) (ρ : Dev nD → PrngReg)

/-- `entry` of device `c`'s arguments. -/
def entryOf (c : Dev nD) (w : Fin 1024 → EReal) (b : Fin 8) (r : Fin 4096) : EReal :=
  entry (m ((c : Thread nD τ).loc main_arg0)) (m ((c : Thread nD τ).loc main_arg1)) (m ((c : Thread nD τ).loc main_arg2))
    (m ((c : Thread nD τ).loc main_arg3)) w b r

/-- The first result array: the latent attention's columns. -/
def mlaOf (c : Dev nD) : Buf (Elt Ideal) ((c : Thread nD τ).loc main_v1_0) := fun i =>
  entryOf m c (fun k => m ((c : Thread nD τ).loc main_arg4) (ix2 k (i 2))) (i 0) (i 1)
/-- The second result array: the attention's gate's columns. -/
def zOf (c : Dev nD) : Buf (Elt Ideal) ((c : Thread nD τ).loc main_v1_1) := fun i =>
  entryOf m c (fun k => m ((c : Thread nD τ).loc main_arg5) (ix2 k (i 2))) (i 0) (i 1)
/-- The third result array: the merge's gates' columns. -/
def gateOf (c : Dev nD) : Buf (Elt Ideal) ((c : Thread nD τ).loc main_v1_2) := fun i =>
  entryOf m c (fun k => m ((c : Thread nD τ).loc main_arg6) (ix2 k (i 2))) (i 0) (i 1)

/-- Which blocks point `t` works on: batch `t / 4` and the tokens' tile `t % 4`. -/
theorem idx0 : ∀ t : Fin cfg0.N, win0_0.index t = ![t.val / 4, t.val % 4, 0] :=
  (by decide +kernel : ∀ t : Fin grid0.N, win0_0.index t = ![t.val / 4, t.val % 4, 0])
theorem idx1 : ∀ t : Fin cfg0.N, win0_1.index t = ![t.val / 4, 0, 0] :=
  (by decide +kernel : ∀ t : Fin grid0.N, win0_1.index t = ![t.val / 4, 0, 0])
theorem idx2 : ∀ t : Fin cfg0.N, win0_2.index t = ![t.val / 4, 0, 0] :=
  (by decide +kernel : ∀ t : Fin grid0.N, win0_2.index t = ![t.val / 4, 0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![t.val / 4, t.val % 4, 0] :=
  (by decide +kernel : ∀ t : Fin grid0.N, win0_7.index t = ![t.val / 4, t.val % 4, 0])
theorem idx8 : ∀ t : Fin cfg0.N, win0_8.index t = ![t.val / 4, t.val % 4, 0] :=
  (by decide +kernel : ∀ t : Fin grid0.N, win0_8.index t = ![t.val / 4, t.val % 4, 0])
theorem idx9 : ∀ t : Fin cfg0.N, win0_9.index t = ![t.val / 4, t.val % 4, 0] :=
  (by decide +kernel : ∀ t : Fin grid0.N, win0_9.index t = ![t.val / 4, t.val % 4, 0])

theorem lt_N (t : Fin cfg0.N) : t.val < 32 := by have h := t.isLt; have hN : cfg0.N = 32 := N_0; omega

/-- The weight the kernel reads is the argument read as one row. -/
theorem weight_row (c : Dev nD) (k : Fin 1024) : V m c main_v0 (ix2 0 k) = m ((c : Thread nD τ).loc main_arg3) (ix1 k) := by
  entry_read
  pointwise

/-- A normalised token of the block at point `t`, times `w`, is the array's. -/
theorem block_entry (c : Dev nD) (t : Fin cfg0.N) (w : Fin 1024 → EReal) (r : Fin 1024) :
    blockAt (iblk m c 0 t) (iblk m c 1 t) (iblk m c 2 t) (iblk m c 3 t) w r
      = entryOf m c w ⟨t.val / 4, by have := lt_N t; omega⟩ ⟨t.val % 4 * 1024 + r.val, by omega⟩ := by
  have hN := lt_N t
  have lx : ∀ k : Fin 1024, iblk m c 0 t (ix3 0 r k)
      = m ((c : Thread nD τ).loc main_arg0) (ix3 ⟨t.val / 4, by omega⟩ ⟨t.val % 4 * 1024 + r.val, by omega⟩ k) := by
    intro k; blk_ext [iblk, V_main_arg0, idx0 t]
  have lsc : ∀ k : Fin 1024, iblk m c 1 t (ix3 0 0 k) = m ((c : Thread nD τ).loc main_arg1) (ix3 ⟨t.val / 4, by omega⟩ 0 k) := by
    intro k; blk_ext [iblk, V_main_arg1, idx1 t]
  have lsh : ∀ k : Fin 1024, iblk m c 2 t (ix3 0 0 k) = m ((c : Thread nD τ).loc main_arg2) (ix3 ⟨t.val / 4, by omega⟩ 0 k) := by
    intro k; blk_ext [iblk, V_main_arg2, idx2 t]
  have lg : ∀ k : Fin 1024, iblk m c 3 t (ix2 0 k) = m ((c : Thread nD τ).loc main_arg3) (ix1 k) := by
    intro k
    rw [← weight_row m c k]
    blk_ext [iblk, idx3 t]
  unfold blockAt entryOf entry
  simp only [lx, lsc, lsh, lg]

/-- What the first result array holds after the run. -/
theorem final7 (c : Dev nD) : (dats m 0 c).arrAt 7 cfg0.N = mlaOf m c := by
  refine (dats m 0 c).arrAt_eq_of_covers 7 _ (by decide +kernel) fun t hf y => ?_
  blk_simp
  rw [after0_7, out7_eq]
  obtain ⟨r, hr⟩ : ∃ r : Fin 1024, r = y 1 := ⟨_, rfl⟩
  obtain ⟨d, hd⟩ : ∃ d : Fin 896, d = y 2 := ⟨_, rfl⟩
  have hN := lt_N t
  have h0 : (y 0).val = 0 := by have := (y 0).isLt; change (y 0).val < 1 at this; omega
  have e0 : ((win0_7.blk t).view.emb y) 0 = (⟨t.val / 4, by omega⟩ : Fin 8) := Fin.ext (by blk_simp [idx7 t]; first | done | simp [h0])
  have e1 : ((win0_7.blk t).view.emb y) 1 = (⟨t.val % 4 * 1024 + r.val, by omega⟩ : Fin 4096) := Fin.ext (by blk_simp [idx7 t]; first | done | simp [hr])
  have e2 : ((win0_7.blk t).view.emb y) 2 = d := Fin.ext (by blk_simp [idx7 t]; first | done | simp [hd])
  have lw : ∀ k : Fin 1024, iblk m c 4 t (ix2 k d) = m ((c : Thread nD τ).loc main_arg4) (ix2 k d) := by
    intro k; blk_ext [iblk, V_main_arg4, idx4 t]
  show blockAt _ _ _ _ (fun k => iblk m c 4 t (ix2 k (y 2))) (y 1) = mlaOf m c ((win0_7.blk t).view.emb y)
  unfold mlaOf
  rw [e0, e1, e2, ← hr, ← hd, block_entry]
  simp only [lw]

/-- What the second result array holds after the run. -/
theorem final8 (c : Dev nD) : (dats m 0 c).arrAt 8 cfg0.N = zOf m c := by
  refine (dats m 0 c).arrAt_eq_of_covers 8 _ (by decide +kernel) fun t hf y => ?_
  blk_simp
  rw [after0_8, out8_eq]
  obtain ⟨r, hr⟩ : ∃ r : Fin 1024, r = y 1 := ⟨_, rfl⟩
  obtain ⟨d, hd⟩ : ∃ d : Fin 512, d = y 2 := ⟨_, rfl⟩
  have hN := lt_N t
  have h0 : (y 0).val = 0 := by have := (y 0).isLt; change (y 0).val < 1 at this; omega
  have e0 : ((win0_8.blk t).view.emb y) 0 = (⟨t.val / 4, by omega⟩ : Fin 8) := Fin.ext (by blk_simp [idx8 t]; first | done | simp [h0])
  have e1 : ((win0_8.blk t).view.emb y) 1 = (⟨t.val % 4 * 1024 + r.val, by omega⟩ : Fin 4096) := Fin.ext (by blk_simp [idx8 t]; first | done | simp [hr])
  have e2 : ((win0_8.blk t).view.emb y) 2 = d := Fin.ext (by blk_simp [idx8 t]; first | done | simp [hd])
  have lw : ∀ k : Fin 1024, iblk m c 5 t (ix2 k d) = m ((c : Thread nD τ).loc main_arg5) (ix2 k d) := by
    intro k; blk_ext [iblk, V_main_arg5, idx5 t]
  show blockAt _ _ _ _ (fun k => iblk m c 5 t (ix2 k (y 2))) (y 1) = zOf m c ((win0_8.blk t).view.emb y)
  unfold zOf
  rw [e0, e1, e2, ← hr, ← hd, block_entry]
  simp only [lw]

/-- What the third result array holds after the run. -/
theorem final9 (c : Dev nD) : (dats m 0 c).arrAt 9 cfg0.N = gateOf m c := by
  refine (dats m 0 c).arrAt_eq_of_covers 9 _ (by decide +kernel) fun t hf y => ?_
  blk_simp
  rw [after0_9, out9_eq]
  obtain ⟨r, hr⟩ : ∃ r : Fin 1024, r = y 1 := ⟨_, rfl⟩
  obtain ⟨d, hd⟩ : ∃ d : Fin 3072, d = y 2 := ⟨_, rfl⟩
  have hN := lt_N t
  have h0 : (y 0).val = 0 := by have := (y 0).isLt; change (y 0).val < 1 at this; omega
  have e0 : ((win0_9.blk t).view.emb y) 0 = (⟨t.val / 4, by omega⟩ : Fin 8) := Fin.ext (by blk_simp [idx9 t]; first | done | simp [h0])
  have e1 : ((win0_9.blk t).view.emb y) 1 = (⟨t.val % 4 * 1024 + r.val, by omega⟩ : Fin 4096) := Fin.ext (by blk_simp [idx9 t]; first | done | simp [hr])
  have e2 : ((win0_9.blk t).view.emb y) 2 = d := Fin.ext (by blk_simp [idx9 t]; first | done | simp [hd])
  have lw : ∀ k : Fin 1024, iblk m c 6 t (ix2 k d) = m ((c : Thread nD τ).loc main_arg6) (ix2 k d) := by
    intro k; blk_ext [iblk, V_main_arg6, idx6 t]
  show blockAt _ _ _ _ (fun k => iblk m c 6 t (ix2 k (y 2))) (y 1) = gateOf m c ((win0_9.blk t).view.emb y)
  unfold gateOf
  rw [e0, e1, e2, ← hr, ← hd, block_entry]
  simp only [lw]

end Cert.Proj2Value

end
-- ==== Proof.Proj2Ref.lean ====
/-
  What the reference of the second input projection computes, read at an index over the extended reals.
-/
module

public import proofs.«01_k».proof.Proof.Modulated
public import proofs.«01_k».proof.Proof.Gen.Proj2RefIdeal.Read

@[expose] public section

set_option maxRecDepth 16384

noncomputable section

namespace Cert.Proj2Ref

open Cert.Proj2RefIdeal Cert.Proj2RefIdeal.Gen Cert.Proj2RefIdeal.Read Idealize.ShloMosaic Cert.Modulated

variable (x : (⟨S8x4096x1024, .f32⟩ : BufTy).Contents (Elt Ideal)) (sc sh : (⟨S8x1x1024, .f32⟩ : BufTy).Contents (Elt Ideal))
  (g : (⟨S1024, .f32⟩ : BufTy).Contents (Elt Ideal))

/-- The sum of a token's squares. -/
theorem squares_apply (b : Fin 8) (r : Fin 4096) :
    val_main_v1 (F := Ideal) x (ix2 b r) = ∑ k : Fin 1024, x (ix3 b r k) * x (ix3 b r k) := by
  rw [val_main_v1_apply, val_main_cst_apply]
  have z : (FloatOps.ofBits .f32 0x00000000#32 : Ideal .f32) = (0 : EReal) := by
    show Ideal.ofBits .f32 0x00000000#32 = 0
    simp [Ideal.ofBits, Ideal.ieee]
  rw [z]
  refine (zero_add _).trans (Finset.sum_congr rfl fun k _ => ?_)
  rw [val_main_v0_apply]
  have e : idx_main_v1 (ix2 b r) k = ix3 b r k := by
    funext a
    match a with
    | ⟨0, _⟩ | ⟨1, _⟩ | ⟨2, _⟩ => rfl
  rw [e]
  rfl

/-- The reference's normalised token. -/
theorem hidden_apply (b : Fin 8) (r : Fin 4096) (e : Fin 1024) :
    val_main_v18 (F := Ideal) x sc sh g (ix3 b r e)
      = normed (fun k => x (ix3 b r k)) (fun k => g (ix1 k)) (fun k => sc (ix3 b 0 k)) (fun k => sh (ix3 b 0 k)) e := by
  rw [val_main_v18_apply, val_main_v16_apply, val_main_v12_apply, val_main_v9_apply, val_main_v8_apply, val_main_v7_apply,
    val_main_v6_apply, val_main_v4_apply, val_main_v2_apply, val_main_v3_apply, val_main_v5_apply, val_main_cst_0_apply,
    val_main_cst_1_apply, val_main_v11_apply, val_main_v10_apply, val_main_v15_apply, val_main_v14_apply, val_main_v13_apply,
    val_main_cst_2_apply, val_main_v17_apply]
  have e1 : idx_main_v2 (idx_main_v8 (ix3 b r e)) = ix2 b r := by
    funext a
    match a with
    | ⟨0, _⟩ | ⟨1, _⟩ => rfl
  have e2 : idx_main_v10 (idx_main_v11 (ix3 b r e)) = ix1 e := by
    funext a
    match a with
    | ⟨0, _⟩ => rfl
  have e3 : idx_main_v15 (ix3 b r e) = ix3 b 0 e := by
    funext a
    match a with
    | ⟨0, _⟩ | ⟨1, _⟩ | ⟨2, _⟩ => rfl
  have e4 : idx_main_v17 (ix3 b r e) = ix3 b 0 e := by
    funext a
    match a with
    | ⟨0, _⟩ | ⟨1, _⟩ | ⟨2, _⟩ => rfl
  rw [e1, e2, e3, e4, squares_apply]
  rfl

/-- The reference's first result: the latent attention's columns. -/
theorem mla_apply (w : (⟨S1024x896, .bf16⟩ : BufTy).Contents (Elt Ideal)) (b : Fin 8) (r : Fin 4096) (d : Fin 896) :
    val_main_v21 (F := Ideal) x sc sh g w (ix3 b r d)
      = project (fun k => x (ix3 b r k)) (fun k => g (ix1 k)) (fun k => sc (ix3 b 0 k)) (fun k => sh (ix3 b 0 k)) (fun k => w (ix2 k d)) := by
  rw [val_main_v21_apply]
  refine (val_main_v20_apply x sc sh g w (ix3 b r d)).trans (Finset.sum_congr rfl fun k _ => ?_)
  rw [← hidden_apply]
  refine congrArg₂ (· * ·) (congrArg (val_main_v18 (F := Ideal) x sc sh g) ?_) (congrArg w ?_)
  · funext a
    match a with
    | ⟨0, _⟩ | ⟨1, _⟩ | ⟨2, _⟩ => rfl
  · funext a
    match a with
    | ⟨0, _⟩ | ⟨1, _⟩ => rfl

/-- The reference's second result: the attention's gate's columns. -/
theorem z_apply (w : (⟨S1024x512, .bf16⟩ : BufTy).Contents (Elt Ideal)) (b : Fin 8) (r : Fin 4096) (d : Fin 512) :
    val_main_v24 (F := Ideal) x sc sh g w (ix3 b r d)
      = project (fun k => x (ix3 b r k)) (fun k => g (ix1 k)) (fun k => sc (ix3 b 0 k)) (fun k => sh (ix3 b 0 k)) (fun k => w (ix2 k d)) := by
  rw [val_main_v24_apply]
  refine (val_main_v23_apply x sc sh g w (ix3 b r d)).trans (Finset.sum_congr rfl fun k _ => ?_)
  rw [← hidden_apply]
  refine congrArg₂ (· * ·) (congrArg (val_main_v18 (F := Ideal) x sc sh g) ?_) (congrArg w ?_)
  · funext a
    match a with
    | ⟨0, _⟩ | ⟨1, _⟩ | ⟨2, _⟩ => rfl
  · funext a
    match a with
    | ⟨0, _⟩ | ⟨1, _⟩ => rfl

/-- The reference's third result: the merge's gates' columns. -/
theorem gate_apply (w : (⟨S1024x3072, .bf16⟩ : BufTy).Contents (Elt Ideal)) (b : Fin 8) (r : Fin 4096) (d : Fin 3072) :
    val_main_v27 (F := Ideal) x sc sh g w (ix3 b r d)
      = project (fun k => x (ix3 b r k)) (fun k => g (ix1 k)) (fun k => sc (ix3 b 0 k)) (fun k => sh (ix3 b 0 k)) (fun k => w (ix2 k d)) := by
  rw [val_main_v27_apply]
  refine (val_main_v26_apply x sc sh g w (ix3 b r d)).trans (Finset.sum_congr rfl fun k _ => ?_)
  rw [← hidden_apply]
  refine congrArg₂ (· * ·) (congrArg (val_main_v18 (F := Ideal) x sc sh g) ?_) (congrArg w ?_)
  · funext a
    match a with
    | ⟨0, _⟩ | ⟨1, _⟩ | ⟨2, _⟩ => rfl
  · funext a
    match a with
    | ⟨0, _⟩ | ⟨1, _⟩ => rfl

end Cert.Proj2Ref

end
-- ==== Proof.Proj2Eq.lean ====
/-
  The claims about the second input projection: its reference's frame, and the equality of the kernel's three result
  arrays with the reference's.
-/
module

public import proofs.«01_k».proof.Defs
public import proofs.«01_k».proof.Proof.Proj2Array
public import proofs.«01_k».proof.Proof.Proj2Ref
public import Idealize.ShloMosaic.Lib.Quiescent

@[expose] public section

noncomputable section

namespace Cert.Proof

open Idealize.ShloMosaic Idealize.ShloMosaic.TcCoe Idealize.SL.Sem

/-- An index of a rank-three array is its three coordinates. -/
theorem ix3_self {n₀ n₁ n₂ : ℕ} (i : (⟨3, ![n₀, n₁, n₂]⟩ : Shape).Idx) :
    i = ix3 (n0 := n₀) (n1 := n₁) (n2 := n₂) (i 0) (i 1) (i 2) := by
  funext a
  match a with
  | ⟨0, _⟩ | ⟨1, _⟩ | ⟨2, _⟩ => rfl

/-- The projection's reference runs to the end, its arguments unchanged and every counter at zero. -/
theorem proj2_reference_frame : Cert.quiescent_Proj2RefIdeal := by
  intro m ρ _
  exact (θ_run _ _ _).mono (fun r h => ⟨fun c => (h c).2.2.2, sem_eq_zero_of_no_sems (by decide) r.2⟩) (Cert.Proj2RefIdeal.Value.run (F := Ideal) m ρ)

/-- The ideal projection and its reference end with the same three result arrays, from the same arguments. -/
theorem proj2_algebraic : Cert.algebraic_Proj2Ideal_Proj2RefIdeal := by
  intro m ρ m' ρ' _ hag
  refine ⟨fun c => Cert.Proj2Value.mlaOf m c, fun c => Cert.Proj2Value.zOf m c, fun c => Cert.Proj2Value.gateOf m c, ?_, ?_⟩
  · exact (θ_run _ _ _).mono (fun _ h c => ⟨((h c).1).trans (Cert.Proj2Value.final7 m c), ((h c).2.1).trans (Cert.Proj2Value.final8 m c),
      ((h c).2.2.1).trans (Cert.Proj2Value.final9 m c), (h c).2.2.2⟩) (Cert.Proj2Ideal.Value.run_blocks m ρ)
  · refine (θ_run _ _ _).mono (fun _ h c => ⟨((h c).1).trans ?_, ((h c).2.1).trans ?_, ((h c).2.2.1).trans ?_, (h c).2.2.2⟩)
      (Cert.Proj2RefIdeal.Value.run (F := Ideal) m' ρ')
    · obtain ⟨h0, h1, h2, h3, h4, h5, h6⟩ := hag c
      rw [h0, h1, h2, h3, h4]
      refine (Cert.Proj2RefIdeal.Read.val_main_v21_eq _ _ _ _ _).trans ?_
      funext i
      rw [ix3_self (n₀ := 8) (n₁ := 4096) (n₂ := 896) i]
      exact Cert.Proj2Ref.mla_apply _ _ _ _ _ (i 0) (i 1) (i 2)
    · obtain ⟨h0, h1, h2, h3, h4, h5, h6⟩ := hag c
      rw [h0, h1, h2, h3, h5]
      refine (Cert.Proj2RefIdeal.Read.val_main_v24_eq _ _ _ _ _).trans ?_
      funext i
      rw [ix3_self (n₀ := 8) (n₁ := 4096) (n₂ := 512) i]
      exact Cert.Proj2Ref.z_apply _ _ _ _ _ (i 0) (i 1) (i 2)
    · obtain ⟨h0, h1, h2, h3, h4, h5, h6⟩ := hag c
      rw [h0, h1, h2, h3, h6]
      refine (Cert.Proj2RefIdeal.Read.val_main_v27_eq _ _ _ _ _).trans ?_
      funext i
      rw [ix3_self (n₀ := 8) (n₁ := 4096) (n₂ := 3072) i]
      exact Cert.Proj2Ref.gate_apply _ _ _ _ _ (i 0) (i 1) (i 2)

end Cert.Proof

end
-- ==== Proof.Logistic.lean ====
/-
  The logistic function over the extended reals, in the two forms in which programs write it: by the hyperbolic tangent of
  the half, and by the exponential of the negative.
-/
module

public import Idealize.ShloMosaic.Lib.Pointwise

@[expose] public section

noncomputable section

namespace Cert.Logistic

open Idealize.ShloMosaic

/-- The word `0x3F00` of bf16 is one half. -/
theorem half_word : Ideal.ofBits .bf16 0x3F00#16 = ((1 / 2 : ℝ) : EReal) := by
  simp [Ideal.ofBits, Ideal.ieee]
  rw [← EReal.coe_mul]
  norm_num

/-- The word `0x3F800000` of f32 is one. -/
theorem one_word : Ideal.ofBits .f32 0x3F800000#32 = 1 := by
  simp [Ideal.ofBits, Ideal.ieee]
  rw [← EReal.coe_mul]
  norm_num

/-- Over the reals: half the hyperbolic tangent of the half, plus one half. -/
theorem tanh_half (v : ℝ) : 1 / 2 * Real.tanh (1 / 2 * v) + 1 / 2 = (1 + Real.exp (-v))⁻¹ := by
  have h : Real.exp (-v) = Real.exp (-(1 / 2 * v)) / Real.exp (1 / 2 * v) := by
    rw [← Real.exp_sub]; congr 1; ring
  rw [Real.tanh_eq_sinh_div_cosh, Real.sinh_eq, Real.cosh_eq, h]
  have p := Real.exp_pos (1 / 2 * v)
  have q := Real.exp_pos (-(1 / 2 * v))
  field_simp
  ring

/-- Half the hyperbolic tangent of the half, plus one half, is the logistic function: everywhere, the infinities
    included. -/
theorem tanh_form (v : EReal) :
    Ideal.ofBits .bf16 0x3F00#16 * Ideal.tanh (Ideal.ofBits .bf16 0x3F00#16 * v) + Ideal.ofBits .bf16 0x3F00#16
      = Ideal.logistic v := by
  rw [half_word]
  unfold Ideal.logistic
  induction v using EReal.rec with
  | bot =>
    rw [EReal.coe_mul_bot_of_pos (by norm_num), EReal.neg_bot]
    show _ * (-1 : EReal) + _ = Ideal.div 1 (1 + ⊤)
    have : ((1 / 2 : ℝ) : EReal) * (-1) + ((1 / 2 : ℝ) : EReal) = 0 := by
      have e : (-1 : EReal) = ((-1 : ℝ) : EReal) := by simp
      rw [e, ← EReal.coe_mul, ← EReal.coe_add]; norm_num
    have t : (1 : EReal) + ⊤ = ⊤ := by rw [← EReal.coe_one]; exact EReal.coe_add_top 1
    rw [this, t]
    simp [Ideal.div]
  | top =>
    rw [EReal.coe_mul_top_of_pos (by norm_num), EReal.neg_top]
    show _ * (1 : EReal) + _ = Ideal.div 1 (1 + 0)
    rw [mul_one, ← EReal.coe_add]
    norm_num [Ideal.div]
  | coe v =>
    rw [← EReal.coe_mul, ← EReal.coe_neg]
    show _ * ((Real.tanh (1 / 2 * v) : ℝ) : EReal) + _ = Ideal.div 1 (1 + ((Real.exp (-v) : ℝ) : EReal))
    have e1 : (1 : EReal) = ((1 : ℝ) : EReal) := by simp
    have p := Real.exp_pos (-v)
    have ne : ((1 + Real.exp (-v) : ℝ) : EReal) ≠ 0 := by
      rw [← EReal.coe_zero]; exact fun h => (by positivity : (1 + Real.exp (-v)) ≠ 0) (EReal.coe_injective h)
    rw [← EReal.coe_mul, ← EReal.coe_add, tanh_half, e1, ← EReal.coe_add]
    unfold Ideal.div
    rw [if_neg ne, ← EReal.coe_inv, ← EReal.coe_mul, one_mul]

/-- One over one plus the exponential of the negative is the logistic function. -/
theorem exp_form (v : EReal) :
    Ideal.div (Ideal.ofBits .f32 0x3F800000#32) (Ideal.ofBits .f32 0x3F800000#32 + Ideal.exp (-v)) = Ideal.logistic v := by
  rw [one_word]; rfl

/-- An extended real times its logistic function. -/
def silu (v : EReal) : EReal := v * Ideal.logistic v

end Cert.Logistic

end
-- ==== Proof.MergeMath.lean ====
/-
  The layer's merge of one token, over the extended reals: the gated Fourier mixture, the gated sum of the two delta-rule
  directions, the gated latent attention, their gated sum, the output projection and its normalisation into the residual.
-/
module

public import proofs.«01_k».proof.Proof.Logistic

@[expose] public section

noncomputable section

namespace Cert.MergeMath

open Idealize.ShloMosaic Cert.Logistic

/-- The head of a channel, of four heads of 128 channels. -/
def hd (j : Fin 512) : Fin 4 := ⟨j.val / 128, by omega⟩
/-- The place of a channel in its head. -/
def ln (j : Fin 512) : Fin 128 := ⟨j.val % 128, by omega⟩
/-- The channel at a place of a head. -/
def col (g : Fin 4) (e : Fin 128) : Fin 512 := ⟨g.val * 128 + e.val, by omega⟩
/-- A channel of the first half of 1024. -/
def lo (j : Fin 512) : Fin 1024 := ⟨j.val, by omega⟩
/-- A channel of the second half of 1024. -/
def up (j : Fin 512) : Fin 1024 := ⟨512 + j.val, by omega⟩

theorem hd_col (g : Fin 4) (e : Fin 128) : hd (col g e) = g := Fin.ext (by simp only [hd, col]; omega)
theorem ln_col (g : Fin 4) (e : Fin 128) : ln (col g e) = e := Fin.ext (by simp only [ln, col]; omega)

/-- The channel direction's real part: the cosine sums less the sine sums. -/
def spectral (p q : Fin 128 → EReal) (cc sc : Fin 128 → Fin 128 → EReal) (c : Fin 128) : EReal :=
  ∑ e, p e * cc e c - ∑ e, q e * sc e c

/-- The real part times a head's mixing matrix. -/
def filtered (p q : Fin 128 → EReal) (cc sc w : Fin 128 → Fin 128 → EReal) (d : Fin 128) : EReal :=
  ∑ c, spectral p q cc sc c * w c d

/-- A head over its root mean square, scaled by the weight. -/
def headNorm (o g : Fin 128 → EReal) (d : Fin 128) : EReal :=
  o d * Ideal.rsqrt (Ideal.div (∑ e, o e * o e) (Ideal.ofBits .f32 0x43000000#32) + Ideal.ofBits .f32 0x358637BD#32) * g d

/-- The Fourier mixer's channel: filtered, times the gate. -/
def fourier (pq : Fin 1024 → EReal) (faz : Fin 512 → EReal) (cc sc : Fin 128 → Fin 128 → EReal)
    (fw : Fin 4 → Fin 128 → Fin 128 → EReal) (j : Fin 512) : EReal :=
  filtered (fun e => pq (lo (col (hd j) e))) (fun e => pq (up (col (hd j) e))) cc sc (fw (hd j)) (ln j) * silu (faz j)

/-- The delta rule's channel: the two directions' sum, normalised in its head, times the gate. -/
def delta (f b z : Fin 512 → EReal) (g : Fin 128 → EReal) (j : Fin 512) : EReal :=
  headNorm (fun e => f (col (hd j) e) + b (col (hd j) e)) g (ln j) * silu (z j)

/-- The latent attention's channel times its gate. -/
def latent (o z : Fin 512 → EReal) (j : Fin 512) : EReal := o j * silu (z j)

/-- Column `n` of the three mixers' gated projections' sum. -/
def merged (ya yb yc : Fin 512 → EReal) (ga gb gc : Fin 1024 → EReal) (wa wb wc : Fin 512 → Fin 1024 → EReal) (n : Fin 1024) : EReal :=
  Ideal.logistic (ga n) * (∑ k, ya k * wa k n) + Ideal.logistic (gb n) * (∑ k, yb k * wb k n)
    + Ideal.logistic (gc n) * (∑ k, yc k * wc k n)

/-- Column `n` of the output projection. -/
def projected (m : Fin 1024 → EReal) (wo : Fin 1024 → Fin 1024 → EReal) (n : Fin 1024) : EReal := ∑ k, m k * wo k n

/-- Column `n` of the projection over its root mean square. -/
def rooted (y : Fin 1024 → EReal) (n : Fin 1024) : EReal :=
  y n * Ideal.rsqrt (Ideal.div (∑ k, y k * y k) (Ideal.ofBits .f32 0x44800000#32) + Ideal.ofBits .f32 0x358637BD#32)

/-- What one token's merge reads. -/
structure Token where
  /-- the Fourier mixer's token-direction sums, cosine and sine -/
  pq : Fin 1024 → EReal
  /-- the Fourier mixer's gate -/
  faz : Fin 512 → EReal
  /-- the delta rule forwards -/
  of : Fin 512 → EReal
  /-- the delta rule backwards -/
  ob : Fin 512 → EReal
  /-- the delta rule's gate -/
  dnz : Fin 512 → EReal
  /-- the latent attention -/
  om : Fin 512 → EReal
  /-- the latent attention's gate -/
  mz : Fin 512 → EReal
  /-- the three mixers' gates -/
  ga : Fin 1024 → EReal
  gb : Fin 1024 → EReal
  gc : Fin 1024 → EReal
  /-- the residual -/
  x : Fin 1024 → EReal
  /-- the batch's gate -/
  gate : Fin 1024 → EReal

/-- The merge's weights. -/
structure Weights where
  /-- the last normalisation's -/
  post : Fin 1024 → EReal
  /-- the Fourier mixer's heads' mixing matrices -/
  fw : Fin 4 → Fin 128 → Fin 128 → EReal
  /-- the channel direction's cosines -/
  cc : Fin 128 → Fin 128 → EReal
  /-- the channel direction's sines -/
  sc : Fin 128 → Fin 128 → EReal
  /-- the delta rule's normalisation's -/
  dn : Fin 128 → EReal
  /-- the mixers' projections -/
  wa : Fin 512 → Fin 1024 → EReal
  wb : Fin 512 → Fin 1024 → EReal
  wc : Fin 512 → Fin 1024 → EReal
  /-- the output projection -/
  wo : Fin 1024 → Fin 1024 → EReal

/-- The projected merge of a token. -/
def mix (t : Token) (w : Weights) : Fin 1024 → EReal :=
  projected (merged (fourier t.pq t.faz w.cc w.sc w.fw) (delta t.of t.ob t.dnz w.dn) (latent t.om t.mz) t.ga t.gb t.gc w.wa w.wb w.wc) w.wo

/-- The layer's output of a token: the residual plus the batch's gate times the normalised merge. -/
def output (t : Token) (w : Weights) (n : Fin 1024) : EReal := t.x n + t.gate n * (rooted (mix t w) n * w.post n)

end Cert.MergeMath

end
-- ==== Proof.MergeUnit.lean ====
/-
  What the merge computes on one block of 512 tokens: its payloads read at an index.
-/
module

public import proofs.«01_k».proof.Proof.MergeMath
public import proofs.«01_k».proof.Proof.Gen.MergeIdeal.Frame
public import Idealize.ShloMosaic.Lib.Pointwise

@[expose] public section

set_option maxRecDepth 16384

noncomputable section

namespace Cert.MergeValue

open Cert.MergeIdeal Cert.MergeIdeal.Gen Idealize.ShloMosaic Cert.MergeMath Cert.Logistic

theorem pq_apply (v : Vec Ideal S1x512x1024 .bf16) (r : Fin 512) (k : Fin 1024) : k0_pay2 v (ix2 r k) = v (ix3 0 r k) := by
  pointwise [k0_pay2]

theorem silu_apply (v : Vec Ideal S1x512x512 .bf16) (r j : Fin 512) : k0_pay3 v (ix2 r j) = silu (v (ix3 0 r j)) := by
  unfold silu
  rw [← tanh_form]
  pointwise [k0_pay3]

theorem silu_apply' (v : Vec Ideal S1x512x512 .bf16) (r j : Fin 512) : k0_pay12 v (ix2 r j) = silu (v (ix3 0 r j)) :=
  silu_apply v r j

theorem sum_apply (f b : Vec Ideal S1x512x512 .bf16) (r j : Fin 512) : k0_pay11 f b (ix2 r j) = f (ix3 0 r j) + b (ix3 0 r j) := by
  pointwise [k0_pay11]

variable (pq : Vec Ideal S1x512x1024 .bf16) (cc sc : Vec Ideal S128x128 .bf16) (w : Vec Ideal S1x128x128 .bf16)
  (z : FVec Ideal S512x512 .f32) (r : Fin 512) (d : Fin 128)

/-- One head of the Fourier mixture, its channels starting at `o`, and at `u` among the sine sums. -/
def fourierAt (o u : ℕ) (ho : o + 128 ≤ 512) (hu : u + 128 ≤ 1024) : EReal :=
  filtered (fun e => pq (ix3 0 r ⟨o + e.val, by omega⟩)) (fun e => pq (ix3 0 r ⟨u + e.val, by omega⟩))
    (fun e c => cc (ix2 e c)) (fun e c => sc (ix2 e c)) (fun c d => w (ix3 0 c d)) d * z (ix2 r ⟨o + d.val, by omega⟩)

theorem fourier0_apply (v : Vec Ideal S1x512x512 .bf16) :
    k0_pay4 pq v cc sc w (ix2 r d) = fourierAt pq cc sc w (k0_pay3 v) r d 0 512 (by decide) (by decide) := by
  unfold fourierAt filtered spectral
  pointwise [k0_pay4, pq_apply, dot_S512x128_S128x128_S512x128_1_0_0_1_n_n]

theorem fourier1_apply :
    k0_pay7 z (k0_pay5 pq cc) (k0_pay6 pq sc) w (ix2 r d) = fourierAt pq cc sc w z r d 128 640 (by decide) (by decide) := by
  unfold fourierAt filtered spectral
  pointwise [k0_pay7, k0_pay5, k0_pay6, pq_apply, dot_S512x128_S128x128_S512x128_1_0_0_1_n_n]

theorem fourier2_apply :
    k0_pay8 (k0_pay2 pq) z cc sc w (ix2 r d) = fourierAt pq cc sc w z r d 256 768 (by decide) (by decide) := by
  unfold fourierAt filtered spectral
  pointwise [k0_pay8, pq_apply, dot_S512x128_S128x128_S512x128_1_0_0_1_n_n]

theorem fourier3_apply :
    k0_pay9 (k0_pay2 pq) z cc sc w (ix2 r d) = fourierAt pq cc sc w z r d 384 896 (by decide) (by decide) := by
  unfold fourierAt filtered spectral
  pointwise [k0_pay9, pq_apply, dot_S512x128_S128x128_S512x128_1_0_0_1_n_n]

/-- A head of the block's Fourier mixture is the token's. -/
theorem fourierAt_eq (faz : Vec Ideal S1x512x512 .bf16) (fw : Vec Ideal S4x128x128 .bf16) (h : Fin 4) (o u : ℕ)
    (ho : o + 128 ≤ 512) (hu : u + 128 ≤ 1024) (eo : o = h.val * 128) (eu : u = 512 + h.val * 128)
    (hw : ∀ c d : Fin 128, w (ix3 0 c d) = fw (ix3 h c d)) (hz : ∀ j : Fin 512, z (ix2 r j) = silu (faz (ix3 0 r j))) :
    fourierAt pq cc sc w z r d o u ho hu
      = fourier (fun k => pq (ix3 0 r k)) (fun j => faz (ix3 0 r j)) (fun e c => cc (ix2 e c)) (fun e c => sc (ix2 e c))
          (fun g c d => fw (ix3 g c d)) ⟨o + d.val, by omega⟩ := by
  subst eo eu
  have e1 : (⟨h.val * 128 + d.val, by omega⟩ : Fin 512) = col h d := rfl
  rw [e1]
  unfold fourier fourierAt
  rw [hd_col, ln_col, e1, hz]
  have e2 : ∀ e : Fin 128, (⟨512 + h.val * 128 + e.val, by omega⟩ : Fin 1024) = up (col h e) := fun e =>
    Fin.ext (by simp only [up, col]; omega)
  have e3 : ∀ e : Fin 128, (⟨h.val * 128 + e.val, by omega⟩ : Fin 1024) = lo (col h e) := fun e => rfl
  simp only [e2, e3, hw]

variable (f b v : Vec Ideal S1x512x512 .bf16) (s : FVec Ideal S512x512 .f32) (g : Vec Ideal S1x128 .f32)

/-- One head of the delta rule's normalised sum, its channels starting at `o`. -/
def normAt (o : ℕ) (ho : o + 128 ≤ 512) : EReal :=
  headNorm (fun e => s (ix2 r ⟨o + e.val, by omega⟩)) (fun e => g (ix2 0 e)) d

theorem delta0_apply :
    k0_pay13 f b v g (ix2 r d) = normAt r d (k0_pay11 f b) g 0 (by decide) * k0_pay12 v (ix2 r ⟨0 + d.val, by omega⟩) := by
  unfold normAt headNorm
  pointwise [k0_pay13]

theorem delta1_apply :
    k0_pay16 z (k0_pay14 f b) (k0_pay15 f b) (Scalar.ofBits .f32 0x43000000#32) g (ix2 r d)
      = normAt r d (k0_pay11 f b) g 128 (by decide) * z (ix2 r ⟨128 + d.val, by omega⟩) := by
  unfold normAt headNorm
  pointwise [k0_pay16, k0_pay14, k0_pay15]

theorem delta2_apply :
    k0_pay17 s z g (ix2 r d) = normAt r d s g 256 (by decide) * z (ix2 r ⟨256 + d.val, by omega⟩) := by
  unfold normAt headNorm
  pointwise [k0_pay17]

theorem delta3_apply :
    k0_pay18 s g (ix2 r d) = normAt r d s g 384 (by decide) := by
  unfold normAt headNorm
  pointwise [k0_pay18]

/-- A head of the block's delta rule is the token's. -/
theorem normAt_eq (f b v : Vec Ideal S1x512x512 .bf16) (h : Fin 4) (o : ℕ) (ho : o + 128 ≤ 512) (eo : o = h.val * 128)
    (hs : ∀ j : Fin 512, s (ix2 r j) = f (ix3 0 r j) + b (ix3 0 r j)) (hz : ∀ j : Fin 512, z (ix2 r j) = silu (v (ix3 0 r j))) :
    normAt r d s g o ho * z (ix2 r ⟨o + d.val, by omega⟩)
      = delta (fun j => f (ix3 0 r j)) (fun j => b (ix3 0 r j)) (fun j => v (ix3 0 r j)) (fun e => g (ix2 0 e)) ⟨o + d.val, by omega⟩ := by
  subst eo
  have e1 : ∀ e : Fin 128, (⟨h.val * 128 + e.val, by omega⟩ : Fin 512) = col h e := fun e => rfl
  unfold delta normAt
  simp only [e1, hd_col, ln_col, hz, hs]

theorem latent_apply (j : Fin 512) : k0_pay20 f v (ix2 r j) = f (ix3 0 r j) * silu (v (ix3 0 r j)) := by
  unfold silu
  rw [← tanh_form]
  pointwise [k0_pay20]

/-- Four heads side by side, read at a channel. -/
theorem four_apply (a0 a1 a2 a3 : FVec Ideal S512x128 .bf16) (h : Fin 512 → EReal)
    (h0 : ∀ d : Fin 128, a0 (ix2 r d) = h ⟨0 + d.val, by omega⟩) (h1 : ∀ d : Fin 128, a1 (ix2 r d) = h ⟨128 + d.val, by omega⟩)
    (h2 : ∀ d : Fin 128, a2 (ix2 r d) = h ⟨256 + d.val, by omega⟩) (h3 : ∀ d : Fin 128, a3 (ix2 r d) = h ⟨384 + d.val, by omega⟩)
    (j : Fin 512) : k0_pay10 a0 a1 a2 a3 (ix2 r j) = h j := by
  pointwise [k0_pay10]
  split_ifs <;> first
    | exact (h0 _).trans (congrArg h (Fin.ext (by simp)))
    | exact (h1 _).trans (congrArg h (Fin.ext (by simp; omega)))
    | exact (h2 _).trans (congrArg h (Fin.ext (by simp; omega)))
    | exact (h3 _).trans (congrArg h (Fin.ext (by simp; omega)))

/-- Four heads side by side, the last times its part of the gate, read at a channel. -/
theorem four_apply' (a0 a1 a2 : FVec Ideal S512x128 .bf16) (a3 : FVec Ideal S512x128 .f32) (h : Fin 512 → EReal)
    (h0 : ∀ d : Fin 128, a0 (ix2 r d) = h ⟨0 + d.val, by omega⟩) (h1 : ∀ d : Fin 128, a1 (ix2 r d) = h ⟨128 + d.val, by omega⟩)
    (h2 : ∀ d : Fin 128, a2 (ix2 r d) = h ⟨256 + d.val, by omega⟩)
    (h3 : ∀ d : Fin 128, a3 (ix2 r d) * z (ix2 r ⟨384 + d.val, by omega⟩) = h ⟨384 + d.val, by omega⟩)
    (j : Fin 512) : k0_pay19 z a0 a1 a2 a3 (ix2 r j) = h j := by
  refine four_apply r a0 a1 a2 (truncf .bf16 (mulf a3 (extractStridedSlice S512x128 ![0, 384] z slices_S512x512_o0_384_S512x128)) bitsLt_bf16_f32) h h0 h1 h2 (fun d => ?_) j
  rw [← h3]
  pointwise

/-- The gated projections' sum, projected and over its root mean square. -/
theorem mix_apply (a b c : FVec Ideal S512x512 .bf16) (ga gb gc : Vec Ideal S1x512x1024 .bf16)
    (wa wb wc : Vec Ideal S1x512x1024 .bf16) (wo : Vec Ideal S1024x1024 .bf16) (n : Fin 1024) :
    k0_pay23 b c (k0_pay21 a ga wa) (k0_pay22 gb) (Scalar.ofBits .bf16 0x3F00#16) wb gc wc wo (ix2 r n)
      = rooted (projected (merged (fun j => a (ix2 r j)) (fun j => b (ix2 r j)) (fun j => c (ix2 r j))
          (fun n => ga (ix3 0 r n)) (fun n => gb (ix3 0 r n)) (fun n => gc (ix3 0 r n))
          (fun k n => wa (ix3 0 k n)) (fun k n => wb (ix3 0 k n)) (fun k n => wc (ix3 0 k n))) (fun k n => wo (ix2 k n))) n := by
  unfold rooted projected merged
  simp only [← tanh_form]
  pointwise [k0_pay23, k0_pay21, k0_pay22, dot_S512x512_S512x1024_S512x1024_1_0_0_1_n_n, dot_S512x1024_S1024x1024_S512x1024_1_0_0_1_n_n]

/-- The residual plus the batch's gate times the weighted merge. -/
theorem output_apply (y : FVec Ideal S512x1024 .f32) (gp : Vec Ideal S1x1024 .f32) (x : Vec Ideal S1x512x1024 .f32)
    (gm : Vec Ideal S1x1x1024 .f32) (n : Fin 1024) :
    k0_pay1 y gp x gm (ix3 0 r n) = x (ix3 0 r n) + gm (ix3 0 0 n) * (y (ix2 r n) * gp (ix2 0 n)) := by
  pointwise [k0_pay1]

end Cert.MergeValue

end
-- ==== Proof.MergeBlock.lean ====
/-
  What one grid point of the merge leaves in its output block, as one function of the block's index.
-/
module

public import proofs.«01_k».proof.Proof.MergeUnit
public import Idealize.ShloMosaic.Lib.Pipeline.ValueKit

@[expose] public section

set_option maxRecDepth 16384

noncomputable section

namespace Cert.MergeValue

open Cert.MergeIdeal Cert.MergeIdeal.Gen Idealize.ShloMosaic Cert.MergeMath Cert.Logistic

/-- Whole windows are loaded as they are. -/
theorem ld0 (x : Vec Ideal S1x512x1024 .bf16) : View.ld x r0_0 = x := by
  funext y
  refine View.ld_unit_apply_of _ _ _ _ _ _ fun b => ?_
  fin_cases b <;> first | rfl | simp
theorem ld0' (x : Vec Ideal S1x512x1024 .f32) : View.ld x r0_0 = x := by
  funext y
  refine View.ld_unit_apply_of _ _ _ _ _ _ fun b => ?_
  fin_cases b <;> first | rfl | simp
theorem ld1 (x : Vec Ideal S1x512x512 .bf16) : View.ld x r0_1 = x := by
  funext y
  refine View.ld_unit_apply_of _ _ _ _ _ _ fun b => ?_
  fin_cases b <;> first | rfl | simp
theorem ld2 (x : Vec Ideal S128x128 .bf16) : View.ld x r0_2 = x := by
  funext y
  refine View.ld_unit_apply_of _ _ _ _ _ _ fun b => ?_
  fin_cases b <;> first | rfl | simp
theorem ld7 (x : Vec Ideal S1x128 .f32) : View.ld x r0_7 = x := by
  funext y
  refine View.ld_unit_apply_of _ _ _ _ _ _ fun b => ?_
  fin_cases b <;> first | rfl | simp
theorem ld14 (x : Vec Ideal S1024x1024 .bf16) : View.ld x r0_14 = x := by
  funext y
  refine View.ld_unit_apply_of _ _ _ _ _ _ fun b => ?_
  fin_cases b <;> first | rfl | simp
theorem ld15 (x : Vec Ideal S1x1024 .f32) : View.ld x r0_15 = x := by
  funext y
  refine View.ld_unit_apply_of _ _ _ _ _ _ fun b => ?_
  fin_cases b <;> first | rfl | simp
theorem ld16 (x : Vec Ideal S1x1x1024 .f32) : View.ld x r0_16 = x := by
  funext y
  refine View.ld_unit_apply_of _ _ _ _ _ _ fun b => ?_
  fin_cases b <;> first | rfl | simp

/-- A head's mixing matrix is the array's. -/
theorem ld_fw (x : Vec Ideal S4x128x128 .bf16) (h : Fin 4) (hi : ∀ a, ![h.val, 0, 0] a + S1x128x128.size a ≤ S4x128x128.size a)
    (c d : Fin 128) : View.ld x (Rect.unit (s := S4x128x128) ![h.val, 0, 0] S1x128x128.size hi) (ix3 0 c d) = x (ix3 h c d) := by
  refine View.ld_unit_apply_of _ _ _ _ _ _ fun b => ?_
  fin_cases b <;> first | rfl | simp
/-- A mixer's gates are the array's columns from `o` on. -/
theorem ld_gl (x : Vec Ideal S1x512x3072 .bf16) (o : ℕ) (hi : ∀ a, ![0, 0, o] a + S1x512x1024.size a ≤ S1x512x3072.size a)
    (r : Fin 512) (n : Fin 1024) (hb : o + n.val < 3072) :
    View.ld x (Rect.unit (s := S1x512x3072) ![0, 0, o] S1x512x1024.size hi) (ix3 0 r n) = x (ix3 0 r ⟨o + n.val, hb⟩) := by
  refine View.ld_unit_apply_of _ _ _ _ _ _ fun b => ?_
  fin_cases b <;> first | rfl | simp
/-- A mixer's projection is the array's. -/
theorem ld_wb (x : Vec Ideal S3x512x1024 .bf16) (h : Fin 3) (hi : ∀ a, ![h.val, 0, 0] a + S1x512x1024.size a ≤ S3x512x1024.size a)
    (k : Fin 512) (n : Fin 1024) :
    View.ld x (Rect.unit (s := S3x512x1024) ![h.val, 0, 0] S1x512x1024.size hi) (ix3 0 k n) = x (ix3 h k n) := by
  refine View.ld_unit_apply_of _ _ _ _ _ _ fun b => ?_
  fin_cases b <;> first | rfl | simp

variable (x0 : Vec Ideal S1x512x1024 .bf16) (x1 x2 x3 x4 x5 x6 : Vec Ideal S1x512x512 .bf16) (x7 : Vec Ideal S1x512x3072 .bf16)
  (x8 : Vec Ideal S1x512x1024 .f32) (x9 : Vec Ideal S1x1x1024 .f32) (x10 : Vec Ideal S1x1024 .f32) (x11 : Vec Ideal S4x128x128 .bf16)
  (x12 x13 : Vec Ideal S128x128 .bf16) (x14 : Vec Ideal S1x128 .f32) (x15 : Vec Ideal S3x512x1024 .bf16)
  (x16 : Vec Ideal S1024x1024 .bf16)

/-- Token `r` of the block. -/
def tokenAt (r : Fin 512) : Token where
  pq k := x0 (ix3 0 r k)
  faz j := x1 (ix3 0 r j)
  of j := x2 (ix3 0 r j)
  ob j := x3 (ix3 0 r j)
  dnz j := x4 (ix3 0 r j)
  om j := x5 (ix3 0 r j)
  mz j := x6 (ix3 0 r j)
  ga n := x7 (ix3 0 r ⟨0 + n.val, by omega⟩)
  gb n := x7 (ix3 0 r ⟨1024 + n.val, by omega⟩)
  gc n := x7 (ix3 0 r ⟨2048 + n.val, by omega⟩)
  x n := x8 (ix3 0 r n)
  gate n := x9 (ix3 0 0 n)

/-- The block's weights. -/
def weightsAt : Weights where
  post n := x10 (ix2 0 n)
  fw g c d := x11 (ix3 g c d)
  cc e c := x12 (ix2 e c)
  sc e c := x13 (ix2 e c)
  dn e := x14 (ix2 0 e)
  wa k n := x15 (ix3 0 k n)
  wb k n := x15 (ix3 1 k n)
  wc k n := x15 (ix3 2 k n)
  wo k n := x16 (ix2 k n)

/-- The Fourier mixture's four heads are the token's. -/
theorem heads_fourier (r j : Fin 512) :
    k0_pay10 (k0_pay4 x0 x1 x12 x13 (View.ld x11 r0_3)) (k0_pay7 (k0_pay3 x1) (k0_pay5 x0 x12) (k0_pay6 x0 x13) (View.ld x11 r0_4))
        (k0_pay8 (k0_pay2 x0) (k0_pay3 x1) x12 x13 (View.ld x11 r0_5)) (k0_pay9 (k0_pay2 x0) (k0_pay3 x1) x12 x13 (View.ld x11 r0_6)) (ix2 r j)
      = fourier (fun k => x0 (ix3 0 r k)) (fun j => x1 (ix3 0 r j)) (fun e c => x12 (ix2 e c)) (fun e c => x13 (ix2 e c))
          (fun g c d => x11 (ix3 g c d)) j := by
  refine four_apply r _ _ _ _ (fourier (fun k => x0 (ix3 0 r k)) (fun j => x1 (ix3 0 r j)) (fun e c => x12 (ix2 e c))
    (fun e c => x13 (ix2 e c)) (fun g c d => x11 (ix3 g c d))) (fun d => ?_) (fun d => ?_) (fun d => ?_) (fun d => ?_) j
  · exact (fourier0_apply x0 x12 x13 _ r d x1).trans
      (fourierAt_eq x0 x12 x13 _ _ r d x1 x11 0 0 512 _ _ rfl rfl (ld_fw x11 0 _) (silu_apply x1 r))
  · exact (fourier1_apply x0 x12 x13 _ _ r d).trans
      (fourierAt_eq x0 x12 x13 _ _ r d x1 x11 1 128 640 _ _ rfl rfl (ld_fw x11 1 _) (silu_apply x1 r))
  · exact (fourier2_apply x0 x12 x13 _ _ r d).trans
      (fourierAt_eq x0 x12 x13 _ _ r d x1 x11 2 256 768 _ _ rfl rfl (ld_fw x11 2 _) (silu_apply x1 r))
  · exact (fourier3_apply x0 x12 x13 _ _ r d).trans
      (fourierAt_eq x0 x12 x13 _ _ r d x1 x11 3 384 896 _ _ rfl rfl (ld_fw x11 3 _) (silu_apply x1 r))

/-- The delta rule's four heads are the token's. -/
theorem heads_delta (r j : Fin 512) :
    k0_pay19 (k0_pay12 x4) (k0_pay13 x2 x3 x4 x14)
        (k0_pay16 (k0_pay12 x4) (k0_pay14 x2 x3) (k0_pay15 x2 x3) (Scalar.ofBits .f32 0x43000000#32) x14)
        (k0_pay17 (k0_pay11 x2 x3) (k0_pay12 x4) x14) (k0_pay18 (k0_pay11 x2 x3) x14) (ix2 r j)
      = delta (fun j => x2 (ix3 0 r j)) (fun j => x3 (ix3 0 r j)) (fun j => x4 (ix3 0 r j)) (fun e => x14 (ix2 0 e)) j := by
  refine four_apply' _ r _ _ _ _ (delta (fun j => x2 (ix3 0 r j)) (fun j => x3 (ix3 0 r j)) (fun j => x4 (ix3 0 r j))
    (fun e => x14 (ix2 0 e))) (fun d => ?_) (fun d => ?_) (fun d => ?_) (fun d => ?_) j
  · exact (delta0_apply r d x2 x3 x4 x14).trans
      (normAt_eq _ r d _ x14 x2 x3 x4 0 0 _ rfl (sum_apply x2 x3 r) (silu_apply' x4 r))
  · exact (delta1_apply _ r d x2 x3 x14).trans
      (normAt_eq _ r d _ x14 x2 x3 x4 1 128 _ rfl (sum_apply x2 x3 r) (silu_apply' x4 r))
  · exact (delta2_apply _ r d _ x14).trans
      (normAt_eq _ r d _ x14 x2 x3 x4 2 256 _ rfl (sum_apply x2 x3 r) (silu_apply' x4 r))
  · exact (congrArg (· * _) (delta3_apply r d _ x14)).trans
      (normAt_eq _ r d _ x14 x2 x3 x4 3 384 _ rfl (sum_apply x2 x3 r) (silu_apply' x4 r))

/-- The stored value, read at a token and a column. -/
theorem stored_apply (r : Fin 512) (n : Fin 1024) :
    k0_pay1 (k0_pay23 (k0_pay19 (k0_pay12 x4) (k0_pay13 x2 x3 x4 x14)
        (k0_pay16 (k0_pay12 x4) (k0_pay14 x2 x3) (k0_pay15 x2 x3) (Scalar.ofBits .f32 0x43000000#32) x14)
        (k0_pay17 (k0_pay11 x2 x3) (k0_pay12 x4) x14) (k0_pay18 (k0_pay11 x2 x3) x14)) (k0_pay20 x5 x6)
        (k0_pay21 (k0_pay10 (k0_pay4 x0 x1 x12 x13 (View.ld x11 r0_3)) (k0_pay7 (k0_pay3 x1) (k0_pay5 x0 x12) (k0_pay6 x0 x13) (View.ld x11 r0_4))
          (k0_pay8 (k0_pay2 x0) (k0_pay3 x1) x12 x13 (View.ld x11 r0_5)) (k0_pay9 (k0_pay2 x0) (k0_pay3 x1) x12 x13 (View.ld x11 r0_6)))
          (View.ld x7 r0_8) (View.ld x15 r0_9)) (k0_pay22 (View.ld x7 r0_10)) (Scalar.ofBits .bf16 0x3F00#16) (View.ld x15 r0_11)
        (View.ld x7 r0_12) (View.ld x15 r0_13) x16) x10 x8 x9 (ix3 0 r n)
      = output (tokenAt x0 x1 x2 x3 x4 x5 x6 x7 x8 x9 r) (weightsAt x10 x11 x12 x13 x14 x15 x16) n := by
  rw [output_apply, mix_apply]
  have ga : ∀ n : Fin 1024, View.ld x7 r0_8 (ix3 0 r n) = x7 (ix3 0 r ⟨0 + n.val, by omega⟩) := fun n => ld_gl x7 0 _ r n _
  have gb : ∀ n : Fin 1024, View.ld x7 r0_10 (ix3 0 r n) = x7 (ix3 0 r ⟨1024 + n.val, by omega⟩) := fun n => ld_gl x7 1024 _ r n _
  have gc : ∀ n : Fin 1024, View.ld x7 r0_12 (ix3 0 r n) = x7 (ix3 0 r ⟨2048 + n.val, by omega⟩) := fun n => ld_gl x7 2048 _ r n _
  have wa : ∀ (k : Fin 512) (n : Fin 1024), View.ld x15 r0_9 (ix3 0 k n) = x15 (ix3 0 k n) := fun k n => ld_wb x15 0 _ k n
  have wb : ∀ (k : Fin 512) (n : Fin 1024), View.ld x15 r0_11 (ix3 0 k n) = x15 (ix3 1 k n) := fun k n => ld_wb x15 1 _ k n
  have wc : ∀ (k : Fin 512) (n : Fin 1024), View.ld x15 r0_13 (ix3 0 k n) = x15 (ix3 2 k n) := fun k n => ld_wb x15 2 _ k n
  have ya := funext fun j => heads_fourier x0 x1 x11 x12 x13 r j
  have yb := funext fun j => heads_delta x2 x3 x4 x14 r j
  have yc := funext fun j => latent_apply r x5 x6 j
  have m := congr (congr (congr (congr (congr (congr (congr (congr (congrArg merged ya) yb) yc) (funext ga)) (funext gb)) (funext gc))
    (funext fun k => funext (wa k))) (funext fun k => funext (wb k))) (funext fun k => funext (wc k))
  exact congrArg (fun y : Fin 1024 → EReal => x8 (ix3 0 r n) + x9 (ix3 0 0 n) * (rooted (projected y (fun k n => x16 (ix2 k n))) n * x10 (ix2 0 n))) m

/-- The output block: each token's merge. -/
theorem out17_eq :
    out0_17 x0 x1 x2 x3 x4 x5 x6 x7 x8 x9 x10 x11 x12 x13 x14 x15 x16
      = fun i : S1x512x1024.Idx => output (tokenAt x0 x1 x2 x3 x4 x5 x6 x7 x8 x9 (i 1)) (weightsAt x10 x11 x12 x13 x14 x15 x16) (i 2) := by
  funext y
  unfold out0_17 k0_pay24 k0_pay25 k0_pay26 k0_pay27
  rw [ld0 x0, ld1 x1, ld1 x2, ld1 x3, ld1 x4, ld1 x5, ld1 x6, ld0' x8, ld16 x9, ld15 x10, ld2 x12, ld2 x13, ld7 x14, ld14 x16]
  refine View.canon_apply_of_pieces (Val := Elt Ideal) (e := .f32) (fun i : S1x512x1024.Idx => output (tokenAt x0 x1 x2 x3 x4 x5 x6 x7 x8 x9 (i 1)) (weightsAt x10 x11 x12 x13 x14 x15 x16) (i 2)) _ ?_ y (cover0_17 _ y)
  refine List.forall_mem_cons.2 ⟨fun z => ?_, fun p hp => absurd hp (List.not_mem_nil)⟩
  obtain ⟨r, hr⟩ : ∃ r : Fin 512, r = z 1 := ⟨_, rfl⟩
  obtain ⟨d, hd⟩ : ∃ d : Fin 1024, d = z 2 := ⟨_, rfl⟩
  have hz : z = ix3 0 r d := by
    subst hr hd
    funext a
    match a with
    | ⟨0, _⟩ => exact Fin.ext (by have := (z 0).isLt; show (z 0).val = 0; change (z 0).val < 1 at this; omega)
    | ⟨1, _⟩ => rfl
    | ⟨2, _⟩ => rfl
  have e1 : (r0_0.emb (ix3 0 r d)) 1 = r := Fin.ext ((Rect.idx_unit_val (s := S1x512x1024) ![0, 0, 0] S1x512x1024.size _ (ix3 0 r d) 1).trans (Nat.zero_add _))
  have e2 : (r0_0.emb (ix3 0 r d)) 2 = d := Fin.ext ((Rect.idx_unit_val (s := S1x512x1024) ![0, 0, 0] S1x512x1024.size _ (ix3 0 r d) 2).trans (Nat.zero_add _))
  rw [hz]
  show k0_pay1 (F := Ideal) _ _ _ _ _ = output (tokenAt x0 x1 x2 x3 x4 x5 x6 x7 x8 x9 ((r0_0.emb (ix3 0 r d)) 1)) (weightsAt x10 x11 x12 x13 x14 x15 x16) ((r0_0.emb (ix3 0 r d)) 2)
  rw [e1, e2]
  exact stored_apply x0 x1 x2 x3 x4 x5 x6 x7 x8 x9 x10 x11 x12 x13 x14 x15 x16 r d

end Cert.MergeValue

end
-- ==== Proof.MergeArray.lean ====
/-
  What the merge's result array holds after the run: one function of the argument arrays.
-/
module

public import proofs.«01_k».proof.Proof.MergeBlock
public import proofs.«01_k».proof.Proof.Gen.MergeIdeal.Value
public import Idealize.ShloMosaic.Lib.Claim

@[expose] public section

set_option maxRecDepth 16384

noncomputable section

namespace Cert.MergeValue

open Cert.MergeIdeal Cert.MergeIdeal.Gen Idealize.ShloMosaic Idealize.ShloMosaic.TcCoe Idealize.SL.Sem Cert.MergeMath

/-- Token `r` of batch `b` of the arrays. -/
def tokenIn (a0 : Vec Ideal S8x4096x1024 .bf16) (a1 a2 a3 a4 a5 a6 : Vec Ideal S8x4096x512 .bf16) (a7 : Vec Ideal S8x4096x3072 .bf16)
    (a8 : Vec Ideal S8x4096x1024 .f32) (a9 : Vec Ideal S8x1x1024 .f32) (b : Fin 8) (r : Fin 4096) : Token where
  pq k := a0 (ix3 b r k)
  faz j := a1 (ix3 b r j)
  of j := a2 (ix3 b r j)
  ob j := a3 (ix3 b r j)
  dnz j := a4 (ix3 b r j)
  om j := a5 (ix3 b r j)
  mz j := a6 (ix3 b r j)
  ga n := a7 (ix3 b r ⟨0 + n.val, by omega⟩)
  gb n := a7 (ix3 b r ⟨1024 + n.val, by omega⟩)
  gc n := a7 (ix3 b r ⟨2048 + n.val, by omega⟩)
  x n := a8 (ix3 b r n)
  gate n := a9 (ix3 b 0 n)

/-- The weights, of the arrays. -/
def weightsIn (a10 : Vec Ideal S1024 .f32) (a11 : Vec Ideal S4x128x128 .bf16) (a12 a13 : Vec Ideal S128x128 .bf16)
    (a14 : Vec Ideal S128 .f32) (a15 : Vec Ideal S3x512x1024 .bf16) (a16 : Vec Ideal S1024x1024 .bf16) : Weights where
  post n := a10 (ix1 n)
  fw g c d := a11 (ix3 g c d)
  cc e c := a12 (ix2 e c)
  sc e c := a13 (ix2 e c)
  dn e := a14 (ix1 e)
  wa k n := a15 (ix3 0 k n)
  wb k n := a15 (ix3 1 k n)
  wc k n := a15 (ix3 2 k n)
  wo k n := a16 (ix2 k n)

variable (m : (ℓ : Loc nD τ sig) → Buf (Elt Ideal) ℓ) (ρ : Dev nD → PrngReg)

/-- Token `r` of batch `b` of device `c`'s arguments. -/
def tokenOf (c : Dev nD) (b : Fin 8) (r : Fin 4096) : Token :=
  tokenIn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) b r

/-- The weights of device `c`'s arguments. -/
def weightsOf (c : Dev nD) : Weights :=
  weightsIn (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- The result array: the layer's output. -/
def outputOf (c : Dev nD) : Buf (Elt Ideal) ((c : Thread nD τ).loc main_v2) := fun i =>
  output (tokenOf m c (i 0) (i 1)) (weightsOf m c) (i 2)

/-- Which blocks point `t` works on: batch `t / 8` and the tokens' tile `t % 8`. -/
theorem idx0 : ∀ t : Fin cfg0.N, win0_0.index t = ![t.val / 8, t.val % 8, 0] :=
  (by decide +kernel : ∀ t : Fin grid0.N, win0_0.index t = ![t.val / 8, t.val % 8, 0])
theorem idx1 : ∀ t : Fin cfg0.N, win0_1.index t = ![t.val / 8, t.val % 8, 0] :=
  (by decide +kernel : ∀ t : Fin grid0.N, win0_1.index t = ![t.val / 8, t.val % 8, 0])
theorem idx2 : ∀ t : Fin cfg0.N, win0_2.index t = ![t.val / 8, t.val % 8, 0] :=
  (by decide +kernel : ∀ t : Fin grid0.N, win0_2.index t = ![t.val / 8, t.val % 8, 0])
theorem idx3 : ∀ t : Fin cfg0.N, win0_3.index t = ![t.val / 8, t.val % 8, 0] :=
  (by decide +kernel : ∀ t : Fin grid0.N, win0_3.index t = ![t.val / 8, t.val % 8, 0])
theorem idx4 : ∀ t : Fin cfg0.N, win0_4.index t = ![t.val / 8, t.val % 8, 0] :=
  (by decide +kernel : ∀ t : Fin grid0.N, win0_4.index t = ![t.val / 8, t.val % 8, 0])
theorem idx5 : ∀ t : Fin cfg0.N, win0_5.index t = ![t.val / 8, t.val % 8, 0] :=
  (by decide +kernel : ∀ t : Fin grid0.N, win0_5.index t = ![t.val / 8, t.val % 8, 0])
theorem idx6 : ∀ t : Fin cfg0.N, win0_6.index t = ![t.val / 8, t.val % 8, 0] :=
  (by decide +kernel : ∀ t : Fin grid0.N, win0_6.index t = ![t.val / 8, t.val % 8, 0])
theorem idx7 : ∀ t : Fin cfg0.N, win0_7.index t = ![t.val / 8, t.val % 8, 0] :=
  (by decide +kernel : ∀ t : Fin grid0.N, win0_7.index t = ![t.val / 8, t.val % 8, 0])
theorem idx8 : ∀ t : Fin cfg0.N, win0_8.index t = ![t.val / 8, t.val % 8, 0] :=
  (by decide +kernel : ∀ t : Fin grid0.N, win0_8.index t = ![t.val / 8, t.val % 8, 0])
theorem idx9 : ∀ t : Fin cfg0.N, win0_9.index t = ![t.val / 8, 0, 0] :=
  (by decide +kernel : ∀ t : Fin grid0.N, win0_9.index t = ![t.val / 8, 0, 0])
theorem idx10 : ∀ t : Fin cfg0.N, win0_10.index t = ![0, 0] :=
  (by decide +kernel : ∀ t : Fin grid0.N, win0_10.index t = ![0, 0])
theorem idx11 : ∀ t : Fin cfg0.N, win0_11.index t = ![0, 0, 0] :=
  (by decide +kernel : ∀ t : Fin grid0.N, win0_11.index t = ![0, 0, 0])
theorem idx12 : ∀ t : Fin cfg0.N, win0_12.index t = ![0, 0] :=
  (by decide +kernel : ∀ t : Fin grid0.N, win0_12.index t = ![0, 0])
theorem idx13 : ∀ t : Fin cfg0.N, win0_13.index t = ![0, 0] :=
  (by decide +kernel : ∀ t : Fin grid0.N, win0_13.index t = ![0, 0])
theorem idx14 : ∀ t : Fin cfg0.N, win0_14.index t = ![0, 0] :=
  (by decide +kernel : ∀ t : Fin grid0.N, win0_14.index t = ![0, 0])
theorem idx15 : ∀ t : Fin cfg0.N, win0_15.index t = ![0, 0, 0] :=
  (by decide +kernel : ∀ t : Fin grid0.N, win0_15.index t = ![0, 0, 0])
theorem idx16 : ∀ t : Fin cfg0.N, win0_16.index t = ![0, 0] :=
  (by decide +kernel : ∀ t : Fin grid0.N, win0_16.index t = ![0, 0])
theorem idx17 : ∀ t : Fin cfg0.N, win0_17.index t = ![t.val / 8, t.val % 8, 0] :=
  (by decide +kernel : ∀ t : Fin grid0.N, win0_17.index t = ![t.val / 8, t.val % 8, 0])

theorem lt_N (t : Fin cfg0.N) : t.val < 64 := by have h := t.isLt; have hN : cfg0.N = 64 := N_0; omega

/-- The last normalisation's weight the kernel reads is the argument read as one row. -/
theorem post_row (c : Dev nD) (k : Fin 1024) : V m c main_v0 (ix2 0 k) = m ((c : Thread nD τ).loc main_arg10) (ix1 k) := by
  entry_read
  pointwise

/-- The delta rule's normalisation's weight the kernel reads is the argument read as one row. -/
theorem dn_row (c : Dev nD) (k : Fin 128) : V m c main_v1 (ix2 0 k) = m ((c : Thread nD τ).loc main_arg14) (ix1 k) := by
  entry_read
  pointwise

/-- A token of the blocks at point `t` is the arrays'. -/
theorem block_token (c : Dev nD) (t : Fin cfg0.N) (r : Fin 512) :
    tokenAt (iblk m c 0 t) (iblk m c 1 t) (iblk m c 2 t) (iblk m c 3 t) (iblk m c 4 t) (iblk m c 5 t) (iblk m c 6 t) (iblk m c 7 t) (iblk m c 8 t) (iblk m c 9 t) r
      = tokenOf m c ⟨t.val / 8, by have := lt_N t; omega⟩ ⟨t.val % 8 * 512 + r.val, by omega⟩ := by
  have hN := lt_N t
  have l0 : ∀ k : Fin 1024, iblk m c 0 t (ix3 0 r k)
      = m ((c : Thread nD τ).loc main_arg0) (ix3 ⟨t.val / 8, by omega⟩ ⟨t.val % 8 * 512 + r.val, by omega⟩ k) := by
    intro k; blk_ext [iblk, V_main_arg0, idx0 t]
  have l1 : ∀ k : Fin 512, iblk m c 1 t (ix3 0 r k)
      = m ((c : Thread nD τ).loc main_arg1) (ix3 ⟨t.val / 8, by omega⟩ ⟨t.val % 8 * 512 + r.val, by omega⟩ k) := by
    intro k; blk_ext [iblk, V_main_arg1, idx1 t]
  have l2 : ∀ k : Fin 512, iblk m c 2 t (ix3 0 r k)
      = m ((c : Thread nD τ).loc main_arg2) (ix3 ⟨t.val / 8, by omega⟩ ⟨t.val % 8 * 512 + r.val, by omega⟩ k) := by
    intro k; blk_ext [iblk, V_main_arg2, idx2 t]
  have l3 : ∀ k : Fin 512, iblk m c 3 t (ix3 0 r k)
      = m ((c : Thread nD τ).loc main_arg3) (ix3 ⟨t.val / 8, by omega⟩ ⟨t.val % 8 * 512 + r.val, by omega⟩ k) := by
    intro k; blk_ext [iblk, V_main_arg3, idx3 t]
  have l4 : ∀ k : Fin 512, iblk m c 4 t (ix3 0 r k)
      = m ((c : Thread nD τ).loc main_arg4) (ix3 ⟨t.val / 8, by omega⟩ ⟨t.val % 8 * 512 + r.val, by omega⟩ k) := by
    intro k; blk_ext [iblk, V_main_arg4, idx4 t]
  have l5 : ∀ k : Fin 512, iblk m c 5 t (ix3 0 r k)
      = m ((c : Thread nD τ).loc main_arg5) (ix3 ⟨t.val / 8, by omega⟩ ⟨t.val % 8 * 512 + r.val, by omega⟩ k) := by
    intro k; blk_ext [iblk, V_main_arg5, idx5 t]
  have l6 : ∀ k : Fin 512, iblk m c 6 t (ix3 0 r k)
      = m ((c : Thread nD τ).loc main_arg6) (ix3 ⟨t.val / 8, by omega⟩ ⟨t.val % 8 * 512 + r.val, by omega⟩ k) := by
    intro k; blk_ext [iblk, V_main_arg6, idx6 t]
  have l7 : ∀ k : Fin 3072, iblk m c 7 t (ix3 0 r k)
      = m ((c : Thread nD τ).loc main_arg7) (ix3 ⟨t.val / 8, by omega⟩ ⟨t.val % 8 * 512 + r.val, by omega⟩ k) := by
    intro k; blk_ext [iblk, V_main_arg7, idx7 t]
  have l8 : ∀ k : Fin 1024, iblk m c 8 t (ix3 0 r k)
      = m ((c : Thread nD τ).loc main_arg8) (ix3 ⟨t.val / 8, by omega⟩ ⟨t.val % 8 * 512 + r.val, by omega⟩ k) := by
    intro k; blk_ext [iblk, V_main_arg8, idx8 t]
  have l9 : ∀ k : Fin 1024, iblk m c 9 t (ix3 0 0 k) = m ((c : Thread nD τ).loc main_arg9) (ix3 ⟨t.val / 8, by omega⟩ 0 k) := by
    intro k; blk_ext [iblk, V_main_arg9, idx9 t]
  unfold tokenAt tokenOf tokenIn
  simp only [l0, l1, l2, l3, l4, l5, l6, l7, l8, l9]

/-- The weights at point `t` are the arrays'. -/
theorem block_weights (c : Dev nD) (t : Fin cfg0.N) :
    weightsAt (iblk m c 10 t) (iblk m c 11 t) (iblk m c 12 t) (iblk m c 13 t) (iblk m c 14 t) (iblk m c 15 t) (iblk m c 16 t) = weightsOf m c := by
  have l10 : ∀ (k : Fin 1024), iblk m c 10 t (ix2 0 k) = m ((c : Thread nD τ).loc main_arg10) (ix1 k) := by
    intro k
    rw [← post_row m c k]
    blk_ext [iblk, idx10 t]
  have l11 : ∀ (g : Fin 4) (i : Fin 128) (d : Fin 128), iblk m c 11 t (ix3 g i d) = m ((c : Thread nD τ).loc main_arg11) (ix3 g i d) := by
    intro g i d; blk_ext [iblk, V_main_arg11, idx11 t]
  have l12 : ∀ (e : Fin 128) (d : Fin 128), iblk m c 12 t (ix2 e d) = m ((c : Thread nD τ).loc main_arg12) (ix2 e d) := by
    intro e d; blk_ext [iblk, V_main_arg12, idx12 t]
  have l13 : ∀ (e : Fin 128) (d : Fin 128), iblk m c 13 t (ix2 e d) = m ((c : Thread nD τ).loc main_arg13) (ix2 e d) := by
    intro e d; blk_ext [iblk, V_main_arg13, idx13 t]
  have l14 : ∀ (k : Fin 128), iblk m c 14 t (ix2 0 k) = m ((c : Thread nD τ).loc main_arg14) (ix1 k) := by
    intro k
    rw [← dn_row m c k]
    blk_ext [iblk, idx14 t]
  have l15 : ∀ (g : Fin 3) (k : Fin 512) (n : Fin 1024), iblk m c 15 t (ix3 g k n) = m ((c : Thread nD τ).loc main_arg15) (ix3 g k n) := by
    intro g k n; blk_ext [iblk, V_main_arg15, idx15 t]
  have l16 : ∀ (k : Fin 1024) (n : Fin 1024), iblk m c 16 t (ix2 k n) = m ((c : Thread nD τ).loc main_arg16) (ix2 k n) := by
    intro k n; blk_ext [iblk, V_main_arg16, idx16 t]
  unfold weightsAt weightsOf weightsIn
  simp only [l10, l11, l12, l13, l14, l15, l16]

/-- What the result array holds after the run. -/
theorem final17 (c : Dev nD) : (dats m 0 c).arrAt 17 cfg0.N = outputOf m c := by
  refine (dats m 0 c).arrAt_eq_of_covers 17 _ (by decide +kernel) fun t hf y => ?_
  blk_simp
  rw [after0_17, out17_eq]
  obtain ⟨r, hr⟩ : ∃ r : Fin 512, r = y 1 := ⟨_, rfl⟩
  obtain ⟨d, hd⟩ : ∃ d : Fin 1024, d = y 2 := ⟨_, rfl⟩
  have hN := lt_N t
  have h0 : (y 0).val = 0 := by have := (y 0).isLt; change (y 0).val < 1 at this; omega
  have e0 : ((win0_17.blk t).view.emb y) 0 = (⟨t.val / 8, by omega⟩ : Fin 8) := Fin.ext (by blk_simp [idx17 t]; first | done | simp [h0])
  have e1 : ((win0_17.blk t).view.emb y) 1 = (⟨t.val % 8 * 512 + r.val, by omega⟩ : Fin 4096) := Fin.ext (by blk_simp [idx17 t]; first | done | simp [hr])
  have e2 : ((win0_17.blk t).view.emb y) 2 = d := Fin.ext (by blk_simp [idx17 t]; first | done | simp [hd])
  show output (tokenAt _ _ _ _ _ _ _ _ _ _ (y 1)) (weightsAt _ _ _ _ _ _ _) (y 2) = outputOf m c ((win0_17.blk t).view.emb y)
  unfold outputOf
  rw [e0, e1, e2, ← hr, ← hd, block_token, block_weights]

end Cert.MergeValue

end
-- ==== Proof.MergeRef.lean ====
/-
  What the merge's reference computes, read at an index over the extended reals.
-/
module

public import proofs.«01_k».proof.Proof.MergeArray
public import proofs.«01_k».proof.Proof.Gen.MergeRefIdeal.Read

@[expose] public section

set_option maxRecDepth 16384

noncomputable section

namespace Cert.MergeRef

open Cert.MergeRefIdeal Cert.MergeRefIdeal.Gen Cert.MergeRefIdeal.Read Idealize.ShloMosaic Cert.MergeMath Cert.Logistic
open Cert.MergeValue (tokenIn weightsIn)

variable (x0 : (⟨S8x4096x1024, .bf16⟩ : BufTy).Contents (Elt Ideal)) (x1 x2 x3 x4 x5 x6 : (⟨S8x4096x512, .bf16⟩ : BufTy).Contents (Elt Ideal))
  (x7 : (⟨S8x4096x3072, .bf16⟩ : BufTy).Contents (Elt Ideal)) (x8 : (⟨S8x4096x1024, .f32⟩ : BufTy).Contents (Elt Ideal))
  (x9 : (⟨S8x1x1024, .f32⟩ : BufTy).Contents (Elt Ideal)) (x10 : (⟨S1024, .f32⟩ : BufTy).Contents (Elt Ideal))
  (x11 : (⟨S4x128x128, .bf16⟩ : BufTy).Contents (Elt Ideal)) (x12 x13 : (⟨S128x128, .bf16⟩ : BufTy).Contents (Elt Ideal))
  (x14 : (⟨S128, .f32⟩ : BufTy).Contents (Elt Ideal)) (x15 : (⟨S3x512x1024, .bf16⟩ : BufTy).Contents (Elt Ideal))
  (x16 : (⟨S1024x1024, .bf16⟩ : BufTy).Contents (Elt Ideal)) (b : Fin 8) (r : Fin 4096)

/-- The Fourier mixer's gate. -/
theorem gate0_apply (j : Fin 512) : val_main_v23 (F := Ideal) x1 (ix3 b r j) = silu (x1 (ix3 b r j)) := by
  rw [val_main_v23_apply, val_main_call0_v5_apply, val_main_call0_v4_apply, val_main_call0_cst_0_apply, val_main_call0_v3_apply, val_main_call0_v2_apply, val_main_call0_cst_apply,
    val_main_call0_v1_apply, val_main_call0_v0_apply, val_main_v1_apply]
  exact congrArg (x1 (ix3 b r j) * ·) (exp_form _)

/-- The delta rule's gate. -/
theorem gate1_apply (j : Fin 512) : val_main_v41 (F := Ideal) x4 (ix3 b r j) = silu (x4 (ix3 b r j)) := by
  rw [val_main_v41_apply, val_main_call1_v5_apply, val_main_call1_v4_apply, val_main_call1_cst_0_apply, val_main_call1_v3_apply, val_main_call1_v2_apply, val_main_call1_cst_apply,
    val_main_call1_v1_apply, val_main_call1_v0_apply, val_main_v4_apply]
  exact congrArg (x4 (ix3 b r j) * ·) (exp_form _)

/-- The latent attention's gate. -/
theorem gate2_apply (j : Fin 512) : val_main_v43 (F := Ideal) x6 (ix3 b r j) = silu (x6 (ix3 b r j)) := by
  rw [val_main_v43_apply, val_main_call2_v5_apply, val_main_call2_v4_apply, val_main_call2_cst_0_apply, val_main_call2_v3_apply, val_main_call2_v2_apply, val_main_call2_cst_apply,
    val_main_call2_v1_apply, val_main_call2_v0_apply, val_main_v6_apply]
  exact congrArg (x6 (ix3 b r j) * ·) (exp_form _)

/-- The cosine sums. -/
theorem cosines_apply (g : Fin 4) (c : Fin 128) :
    val_main_v17 (F := Ideal) x0 x12 (ix4 b r g c) = ∑ e : Fin 128, x0 (ix3 b r (lo (col g e))) * x12 (ix2 e c) := by
  refine (val_main_v17_apply x0 x12 (ix4 b r g c)).trans (Finset.sum_congr rfl fun e _ => ?_)
  rw [val_main_v14_apply, val_main_v13_apply, val_main_v0_apply, val_main_v9_apply]
  refine congrArg₂ (· * ·) (congrArg x0 ?_) (congrArg x12 ?_)
  · funext a
    match a with
    | ⟨0, _⟩ => exact Fin.ext (by show (((b.val * 4096 + r.val) * 4 + g.val) * 128 + e.val) / 2097152 = b.val; omega)
    | ⟨1, _⟩ => exact Fin.ext (by show (((b.val * 4096 + r.val) * 4 + g.val) * 128 + e.val) / 512 % 4096 = r.val; omega)
    | ⟨2, _⟩ => exact Fin.ext (by show (((b.val * 4096 + r.val) * 4 + g.val) * 128 + e.val) % 512 = g.val * 128 + e.val; omega)
  · funext a
    match a with
    | ⟨0, _⟩ | ⟨1, _⟩ => rfl

/-- The sine sums. -/
theorem sines_apply (g : Fin 4) (c : Fin 128) :
    val_main_v18 (F := Ideal) x0 x13 (ix4 b r g c) = ∑ e : Fin 128, x0 (ix3 b r (up (col g e))) * x13 (ix2 e c) := by
  refine (val_main_v18_apply x0 x13 (ix4 b r g c)).trans (Finset.sum_congr rfl fun e _ => ?_)
  rw [val_main_v16_apply, val_main_v15_apply, val_main_v0_apply, val_main_v10_apply]
  refine congrArg₂ (· * ·) (congrArg x0 ?_) (congrArg x13 ?_)
  · funext a
    match a with
    | ⟨0, _⟩ => exact Fin.ext (by show (((b.val * 4096 + r.val) * 4 + g.val) * 128 + e.val) / 2097152 = b.val; omega)
    | ⟨1, _⟩ => exact Fin.ext (by show (((b.val * 4096 + r.val) * 4 + g.val) * 128 + e.val) / 512 % 4096 = r.val; omega)
    | ⟨2, _⟩ => exact Fin.ext (by show 512 + (((b.val * 4096 + r.val) * 4 + g.val) * 128 + e.val) % 512 = 512 + (g.val * 128 + e.val); omega)
  · funext a
    match a with
    | ⟨0, _⟩ | ⟨1, _⟩ => rfl

/-- The real part times a head's mixing matrix. -/
theorem filtered_apply (g : Fin 4) (d : Fin 128) :
    val_main_v20 (F := Ideal) x0 x11 x12 x13 (ix4 g d b r)
      = filtered (fun e => x0 (ix3 b r (lo (col g e)))) (fun e => x0 (ix3 b r (up (col g e)))) (fun e c => x12 (ix2 e c))
          (fun e c => x13 (ix2 e c)) (fun c d => x11 (ix3 g c d)) d := by
  refine (val_main_v20_apply x0 x11 x12 x13 (ix4 g d b r)).trans (Finset.sum_congr rfl fun c _ => ?_)
  have e1 : lidx_main_v20 (ix4 g d b r) c = ix3 g c d := by
    funext a
    match a with
    | ⟨0, _⟩ | ⟨1, _⟩ | ⟨2, _⟩ => rfl
  have e2 : ridx_main_v20 (ix4 g d b r) c = ix4 b r g c := by
    funext a
    match a with
    | ⟨0, _⟩ | ⟨1, _⟩ | ⟨2, _⟩ | ⟨3, _⟩ => rfl
  rw [e1, e2, val_main_v8_apply, val_main_v19_apply, cosines_apply, sines_apply]
  exact mul_comm _ _

/-- The gated Fourier mixture. -/
theorem fourier_apply (j : Fin 512) :
    val_main_v24 (F := Ideal) x0 x1 x11 x12 x13 (ix3 b r j)
      = fourier (fun k => x0 (ix3 b r k)) (fun j => x1 (ix3 b r j)) (fun e c => x12 (ix2 e c)) (fun e c => x13 (ix2 e c))
          (fun g c d => x11 (ix3 g c d)) j := by
  rw [val_main_v24_apply, gate0_apply, val_main_v22_apply, val_main_v21_apply]
  have e : idx_main_v21 (idx_main_v22 (ix3 b r j)) = ix4 (hd j) (ln j) b r := by
    funext a
    match a with
    | ⟨0, _⟩ => exact Fin.ext (by show ((b.val * 4096 + r.val) * 512 + j.val) / 128 % 4 = j.val / 128; omega)
    | ⟨1, _⟩ => exact Fin.ext (by show ((b.val * 4096 + r.val) * 512 + j.val) % 128 = j.val % 128; omega)
    | ⟨2, _⟩ => exact Fin.ext (by show ((b.val * 4096 + r.val) * 512 + j.val) / 2097152 = b.val; omega)
    | ⟨3, _⟩ => exact Fin.ext (by show ((b.val * 4096 + r.val) * 512 + j.val) / 512 % 4096 = r.val; omega)
  rw [e, filtered_apply]
  rfl

/-- The two directions' sum, in its heads. -/
theorem sum_apply (g : Fin 4) (e : Fin 128) :
    val_main_v26 (F := Ideal) x2 x3 (ix4 b r g e) = x2 (ix3 b r (col g e)) + x3 (ix3 b r (col g e)) := by
  rw [val_main_v26_apply, val_main_v25_apply, val_main_v2_apply, val_main_v3_apply]
  have h : idx_main_v26 (ix4 b r g e) = ix3 b r (col g e) := by
    funext a
    match a with
    | ⟨0, _⟩ => exact Fin.ext (by show (((b.val * 4096 + r.val) * 4 + g.val) * 128 + e.val) / 2097152 = b.val; omega)
    | ⟨1, _⟩ => exact Fin.ext (by show (((b.val * 4096 + r.val) * 4 + g.val) * 128 + e.val) / 512 % 4096 = r.val; omega)
    | ⟨2, _⟩ => exact Fin.ext (by show (((b.val * 4096 + r.val) * 4 + g.val) * 128 + e.val) % 512 = g.val * 128 + e.val; omega)
  rw [h]
  rfl

theorem zero_word : (FloatOps.ofBits .f32 0x00000000#32 : Ideal .f32) = (0 : EReal) := by
  show Ideal.ofBits .f32 0x00000000#32 = 0
  simp [Ideal.ofBits, Ideal.ieee]

/-- A head's sum of squares. -/
theorem squares_apply (g : Fin 4) :
    val_main_v28 (F := Ideal) x2 x3 (ix3 b r g)
      = ∑ e : Fin 128, (x2 (ix3 b r (col g e)) + x3 (ix3 b r (col g e))) * (x2 (ix3 b r (col g e)) + x3 (ix3 b r (col g e))) := by
  rw [val_main_v28_apply, val_main_cst_apply, zero_word]
  refine (zero_add _).trans (Finset.sum_congr rfl fun e _ => ?_)
  have h : idx_main_v28 (ix3 b r g) e = ix4 b r g e := by
    funext a
    match a with
    | ⟨0, _⟩ | ⟨1, _⟩ | ⟨2, _⟩ | ⟨3, _⟩ => rfl
  rw [val_main_v27_apply, h, sum_apply]
  rfl

/-- A head over its root mean square, scaled by the weight. -/
theorem head_apply (g : Fin 4) (d : Fin 128) :
    val_main_v39 (F := Ideal) x2 x3 x14 (ix4 b r g d)
      = headNorm (fun e => x2 (ix3 b r (col g e)) + x3 (ix3 b r (col g e))) (fun e => x14 (ix1 e)) d := by
  rw [val_main_v39_apply, val_main_v36_apply, sum_apply, val_main_v35_apply, val_main_v34_apply, val_main_v33_apply, val_main_v31_apply,
    val_main_v29_apply, val_main_v30_apply, val_main_cst_0_apply, val_main_v32_apply, val_main_cst_1_apply, val_main_v38_apply, val_main_v37_apply]
  have e1 : idx_main_v29 (idx_main_v35 (ix4 b r g d)) = ix3 b r g := by
    funext a
    match a with
    | ⟨0, _⟩ | ⟨1, _⟩ | ⟨2, _⟩ => rfl
  have e2 : idx_main_v37 (idx_main_v38 (ix4 b r g d)) = ix1 d := by
    funext a
    match a with
    | ⟨0, _⟩ => rfl
  rw [e1, e2, squares_apply]
  rfl

/-- The gated, normalised sum of the delta rule's directions. -/
theorem delta_apply (j : Fin 512) :
    val_main_v42 (F := Ideal) x2 x3 x4 x14 (ix3 b r j)
      = delta (fun j => x2 (ix3 b r j)) (fun j => x3 (ix3 b r j)) (fun j => x4 (ix3 b r j)) (fun e => x14 (ix1 e)) j := by
  rw [val_main_v42_apply, gate1_apply, val_main_v40_apply]
  have e : idx_main_v40 (ix3 b r j) = ix4 b r (hd j) (ln j) := by
    funext a
    match a with
    | ⟨0, _⟩ => exact Fin.ext (by show ((b.val * 4096 + r.val) * 512 + j.val) / 2097152 = b.val; omega)
    | ⟨1, _⟩ => exact Fin.ext (by show ((b.val * 4096 + r.val) * 512 + j.val) / 512 % 4096 = r.val; omega)
    | ⟨2, _⟩ => exact Fin.ext (by show ((b.val * 4096 + r.val) * 512 + j.val) / 128 % 4 = j.val / 128; omega)
    | ⟨3, _⟩ => exact Fin.ext (by show ((b.val * 4096 + r.val) * 512 + j.val) % 128 = j.val % 128; omega)
  rw [e, head_apply]
  rfl

/-- The gated latent attention. -/
theorem latent_apply (j : Fin 512) :
    val_main_v44 (F := Ideal) x5 x6 (ix3 b r j) = latent (fun j => x5 (ix3 b r j)) (fun j => x6 (ix3 b r j)) j := by
  rw [val_main_v44_apply, gate2_apply, val_main_v5_apply]
  rfl

/-- The Fourier mixer's weight in the merge. -/
theorem weightA_apply (n : Fin 1024) :
    val_main_v53 (F := Ideal) x7 (ix3 b r n) = Ideal.logistic (x7 (ix3 b r ⟨0 + n.val, by omega⟩)) := by
  rw [val_main_v53_apply, val_main_v52_apply, val_main_cst_3_apply, val_main_v51_apply, val_main_v50_apply,
    val_main_cst_2_apply, val_main_v49_apply, val_main_v48_apply, val_main_v45_apply, val_main_v7_apply]
  have e : idx_main_v45 (ix3 b r n) = ix3 b r ⟨0 + n.val, by omega⟩ := by
    funext a
    match a with
    | ⟨0, _⟩ | ⟨1, _⟩ => rfl
    | ⟨2, _⟩ => exact Fin.ext (by show n.val = 0 + n.val; omega)
  rw [e]
  exact exp_form _

/-- The delta rule's weight in the merge. -/
theorem weightB_apply (n : Fin 1024) :
    val_main_v63 (F := Ideal) x7 (ix3 b r n) = Ideal.logistic (x7 (ix3 b r ⟨1024 + n.val, by omega⟩)) := by
  rw [val_main_v63_apply, val_main_v62_apply, val_main_cst_5_apply, val_main_v61_apply, val_main_v60_apply,
    val_main_cst_4_apply, val_main_v59_apply, val_main_v58_apply, val_main_v46_apply, val_main_v7_apply]
  have e : idx_main_v46 (ix3 b r n) = ix3 b r ⟨1024 + n.val, by omega⟩ := by
    funext a
    match a with
    | ⟨0, _⟩ | ⟨1, _⟩ => rfl
    | ⟨2, _⟩ => exact Fin.ext (by show 1024 + n.val = 1024 + n.val; omega)
  rw [e]
  exact exp_form _

/-- The latent attention's weight in the merge. -/
theorem weightC_apply (n : Fin 1024) :
    val_main_v74 (F := Ideal) x7 (ix3 b r n) = Ideal.logistic (x7 (ix3 b r ⟨2048 + n.val, by omega⟩)) := by
  rw [val_main_v74_apply, val_main_v73_apply, val_main_cst_7_apply, val_main_v72_apply, val_main_v71_apply,
    val_main_cst_6_apply, val_main_v70_apply, val_main_v69_apply, val_main_v47_apply, val_main_v7_apply]
  have e : idx_main_v47 (ix3 b r n) = ix3 b r ⟨2048 + n.val, by omega⟩ := by
    funext a
    match a with
    | ⟨0, _⟩ | ⟨1, _⟩ => rfl
    | ⟨2, _⟩ => exact Fin.ext (by show 2048 + n.val = 2048 + n.val; omega)
  rw [e]
  exact exp_form _

/-- The Fourier mixer's projection. -/
theorem projA_apply (n : Fin 1024) :
    val_main_v56 (F := Ideal) x0 x1 x11 x12 x13 x15 (ix3 b r n) = ∑ k : Fin 512, val_main_v24 (F := Ideal) x0 x1 x11 x12 x13 (ix3 b r k) * x15 (ix3 0 k n) := by
  refine (val_main_v56_apply x0 x1 x11 x12 x13 x15 (ix3 b r n)).trans (Finset.sum_congr rfl fun k _ => ?_)
  have e1 : lidx_main_v56 (ix3 b r n) k = ix3 b r k := by
    funext a
    match a with
    | ⟨0, _⟩ | ⟨1, _⟩ | ⟨2, _⟩ => rfl
  have e2 : idx_main_v54 (idx_main_v55 (ridx_main_v56 (ix3 b r n) k)) = ix3 0 k n := by
    funext a
    match a with
    | ⟨0, _⟩ => rfl
    | ⟨1, _⟩ => exact Fin.ext (by show (k.val * 1024 + n.val) / 1024 % 512 = k.val; omega)
    | ⟨2, _⟩ => exact Fin.ext (by show (k.val * 1024 + n.val) % 1024 = n.val; omega)
  rw [val_main_v55_apply, val_main_v54_apply, val_main_v11_apply, e1, e2]
  rfl

/-- The delta rule's projection. -/
theorem projB_apply (n : Fin 1024) :
    val_main_v66 (F := Ideal) x2 x3 x4 x14 x15 (ix3 b r n) = ∑ k : Fin 512, val_main_v42 (F := Ideal) x2 x3 x4 x14 (ix3 b r k) * x15 (ix3 1 k n) := by
  refine (val_main_v66_apply x2 x3 x4 x14 x15 (ix3 b r n)).trans (Finset.sum_congr rfl fun k _ => ?_)
  have e1 : lidx_main_v66 (ix3 b r n) k = ix3 b r k := by
    funext a
    match a with
    | ⟨0, _⟩ | ⟨1, _⟩ | ⟨2, _⟩ => rfl
  have e2 : idx_main_v64 (idx_main_v65 (ridx_main_v66 (ix3 b r n) k)) = ix3 1 k n := by
    funext a
    match a with
    | ⟨0, _⟩ => rfl
    | ⟨1, _⟩ => exact Fin.ext (by show (k.val * 1024 + n.val) / 1024 % 512 = k.val; omega)
    | ⟨2, _⟩ => exact Fin.ext (by show (k.val * 1024 + n.val) % 1024 = n.val; omega)
  rw [val_main_v65_apply, val_main_v64_apply, val_main_v11_apply, e1, e2]
  rfl

/-- The latent attention's projection. -/
theorem projC_apply (n : Fin 1024) :
    val_main_v77 (F := Ideal) x5 x6 x15 (ix3 b r n) = ∑ k : Fin 512, val_main_v44 (F := Ideal) x5 x6 (ix3 b r k) * x15 (ix3 2 k n) := by
  refine (val_main_v77_apply x5 x6 x15 (ix3 b r n)).trans (Finset.sum_congr rfl fun k _ => ?_)
  have e1 : lidx_main_v77 (ix3 b r n) k = ix3 b r k := by
    funext a
    match a with
    | ⟨0, _⟩ | ⟨1, _⟩ | ⟨2, _⟩ => rfl
  have e2 : idx_main_v75 (idx_main_v76 (ridx_main_v77 (ix3 b r n) k)) = ix3 2 k n := by
    funext a
    match a with
    | ⟨0, _⟩ => rfl
    | ⟨1, _⟩ => exact Fin.ext (by show (k.val * 1024 + n.val) / 1024 % 512 = k.val; omega)
    | ⟨2, _⟩ => exact Fin.ext (by show (k.val * 1024 + n.val) % 1024 = n.val; omega)
  rw [val_main_v76_apply, val_main_v75_apply, val_main_v11_apply, e1, e2]
  rfl

/-- The gated projections' sum. -/
theorem merged_apply (n : Fin 1024) :
    val_main_v79 (F := Ideal) x0 x1 x2 x3 x4 x5 x6 x7 x11 x12 x13 x14 x15 (ix3 b r n)
      = merged
          (fourier (fun k => x0 (ix3 b r k)) (fun j => x1 (ix3 b r j)) (fun e c => x12 (ix2 e c)) (fun e c => x13 (ix2 e c)) (fun g c d => x11 (ix3 g c d)))
          (delta (fun j => x2 (ix3 b r j)) (fun j => x3 (ix3 b r j)) (fun j => x4 (ix3 b r j)) (fun e => x14 (ix1 e)))
          (latent (fun j => x5 (ix3 b r j)) (fun j => x6 (ix3 b r j)))
          (fun n => x7 (ix3 b r ⟨0 + n.val, by omega⟩)) (fun n => x7 (ix3 b r ⟨1024 + n.val, by omega⟩)) (fun n => x7 (ix3 b r ⟨2048 + n.val, by omega⟩))
          (fun k n => x15 (ix3 0 k n)) (fun k n => x15 (ix3 1 k n)) (fun k n => x15 (ix3 2 k n)) n := by
  rw [val_main_v79_apply, val_main_v68_apply, val_main_v57_apply, val_main_v67_apply, val_main_v78_apply, weightA_apply, weightB_apply,
    weightC_apply, projA_apply, projB_apply, projC_apply]
  have ha := Finset.sum_congr rfl fun (k : Fin 512) (_ : k ∈ Finset.univ) =>
    congrArg (· * x15 (ix3 0 k n)) (fourier_apply x0 x1 x11 x12 x13 b r k)
  have hb := Finset.sum_congr rfl fun (k : Fin 512) (_ : k ∈ Finset.univ) =>
    congrArg (· * x15 (ix3 1 k n)) (delta_apply x2 x3 x4 x14 b r k)
  have hc := Finset.sum_congr rfl fun (k : Fin 512) (_ : k ∈ Finset.univ) =>
    congrArg (· * x15 (ix3 2 k n)) (latent_apply x5 x6 b r k)
  exact congrArg₂ (· + ·) (congrArg₂ (· + ·) (congrArg (Ideal.logistic (x7 (ix3 b r ⟨0 + n.val, by omega⟩)) * ·) ha)
    (congrArg (Ideal.logistic (x7 (ix3 b r ⟨1024 + n.val, by omega⟩)) * ·) hb))
    (congrArg (Ideal.logistic (x7 (ix3 b r ⟨2048 + n.val, by omega⟩)) * ·) hc)

/-- The output projection. -/
theorem mix_apply (n : Fin 1024) :
    val_main_v80 (F := Ideal) x0 x1 x2 x3 x4 x5 x6 x7 x11 x12 x13 x14 x15 x16 (ix3 b r n) = mix (tokenIn x0 x1 x2 x3 x4 x5 x6 x7 x8 x9 b r) (weightsIn x10 x11 x12 x13 x14 x15 x16) n := by
  unfold mix projected
  refine (val_main_v80_apply x0 x1 x2 x3 x4 x5 x6 x7 x11 x12 x13 x14 x15 x16 (ix3 b r n)).trans (Finset.sum_congr rfl fun k _ => ?_)
  have e1 : lidx_main_v80 (ix3 b r n) k = ix3 b r k := by
    funext a
    match a with
    | ⟨0, _⟩ | ⟨1, _⟩ | ⟨2, _⟩ => rfl
  have e2 : ridx_main_v80 (ix3 b r n) k = ix2 k n := by
    funext a
    match a with
    | ⟨0, _⟩ | ⟨1, _⟩ => rfl
  rw [e1, e2, merged_apply, val_main_v12_apply]
  rfl

/-- The projection's sum of squares. -/
theorem mix_squares_apply :
    val_main_v82 (F := Ideal) x0 x1 x2 x3 x4 x5 x6 x7 x11 x12 x13 x14 x15 x16 (ix2 b r)
      = ∑ k : Fin 1024, mix (tokenIn x0 x1 x2 x3 x4 x5 x6 x7 x8 x9 b r) (weightsIn x10 x11 x12 x13 x14 x15 x16) k * mix (tokenIn x0 x1 x2 x3 x4 x5 x6 x7 x8 x9 b r) (weightsIn x10 x11 x12 x13 x14 x15 x16) k := by
  rw [val_main_v82_apply, val_main_cst_8_apply, zero_word]
  refine (zero_add _).trans (Finset.sum_congr rfl fun k _ => ?_)
  have h : idx_main_v82 (ix2 b r) k = ix3 b r k := by
    funext a
    match a with
    | ⟨0, _⟩ | ⟨1, _⟩ | ⟨2, _⟩ => rfl
  rw [val_main_v81_apply, h, mix_apply x0 x1 x2 x3 x4 x5 x6 x7 x8 x9 x10 x11 x12 x13 x14 x15 x16]
  rfl

/-- The reference's result: the layer's output. -/
theorem output_apply (n : Fin 1024) :
    val_main_v96 (F := Ideal) x0 x1 x2 x3 x4 x5 x6 x7 x8 x9 x10 x11 x12 x13 x14 x15 x16 (ix3 b r n) = output (tokenIn x0 x1 x2 x3 x4 x5 x6 x7 x8 x9 b r) (weightsIn x10 x11 x12 x13 x14 x15 x16) n := by
  rw [val_main_v96_apply, val_main_v95_apply, val_main_v94_apply, val_main_v93_apply, val_main_v92_apply, val_main_v91_apply, val_main_v90_apply,
    val_main_v89_apply, val_main_v88_apply, val_main_v87_apply, val_main_v85_apply, val_main_v83_apply, val_main_v84_apply, val_main_cst_9_apply,
    val_main_v86_apply, val_main_cst_10_apply, mix_apply x0 x1 x2 x3 x4 x5 x6 x7 x8 x9 x10 x11 x12 x13 x14 x15 x16]
  have e1 : idx_main_v83 (idx_main_v89 (ix3 b r n)) = ix2 b r := by
    funext a
    match a with
    | ⟨0, _⟩ | ⟨1, _⟩ => rfl
  have e2 : idx_main_v91 (idx_main_v92 (ix3 b r n)) = ix1 n := by
    funext a
    match a with
    | ⟨0, _⟩ => rfl
  have e3 : idx_main_v94 (ix3 b r n) = ix3 b 0 n := by
    funext a
    match a with
    | ⟨0, _⟩ | ⟨1, _⟩ | ⟨2, _⟩ => rfl
  rw [e1, e2, e3, mix_squares_apply x0 x1 x2 x3 x4 x5 x6 x7 x8 x9 x10 x11 x12 x13 x14 x15 x16]
  rfl

end Cert.MergeRef

end
-- ==== Proof.MergeEq.lean ====
/-
  The claims about the merge: its reference's frame, and the equality of the kernel's result array with the reference's.
-/
module

public import proofs.«01_k».proof.Proof.Proj2Eq
public import proofs.«01_k».proof.Proof.MergeRef

@[expose] public section

noncomputable section

namespace Cert.Proof

open Idealize.ShloMosaic Idealize.ShloMosaic.TcCoe Idealize.SL.Sem

/-- The merge's reference runs to the end, its arguments unchanged and every counter at zero. -/
theorem merge_reference_frame : Cert.quiescent_MergeRefIdeal := by
  intro m ρ _
  exact (θ_run _ _ _).mono (fun r h => ⟨fun c => (h c).2, sem_eq_zero_of_no_sems (by decide) r.2⟩) (Cert.MergeRefIdeal.Value.run (F := Ideal) m ρ)

/-- The ideal merge and its reference end with the same result array, from the same arguments. -/
theorem merge_algebraic : Cert.algebraic_MergeIdeal_MergeRefIdeal := by
  intro m ρ m' ρ' _ hag
  refine ⟨fun c => Cert.MergeValue.outputOf m c, ?_, ?_⟩
  · exact (θ_run _ _ _).mono (fun _ h c => ⟨((h c).1).trans (Cert.MergeValue.final17 m c), (h c).2⟩) (Cert.MergeIdeal.Value.run_blocks m ρ)
  · refine (θ_run _ _ _).mono (fun _ h c => ⟨((h c).1).trans ?_, (h c).2⟩) (Cert.MergeRefIdeal.Value.run (F := Ideal) m' ρ')
    obtain ⟨h0, h1, h2, h3, h4, h5, h6, h7, h8, h9, h10, h11, h12, h13, h14, h15, h16⟩ := hag c
    rw [Cert.MergeRefIdeal.Read.val_main_v96_eq, h0, h1, h2, h3, h4, h5, h6, h7, h8, h9, h10, h11, h12, h13, h14, h15, h16]
    funext i
    rw [ix3_self (n₀ := 8) (n₁ := 4096) (n₂ := 1024) i]
    exact Cert.MergeRef.output_apply _ _ _ _ _ _ _ _ _ _ _ _ _ _ _ _ _ (i 0) (i 1) (i 2)

end Cert.Proof

end
-- ==== Proof.Proj1Unit.lean ====
/-
  What the first input projection computes on one block of 1024 tokens: its payloads read at an index.
-/
module

public import proofs.«01_k».proof.Proof.Modulated
public import proofs.«01_k».proof.Proof.Gen.Proj1Ideal.Frame
public import Idealize.ShloMosaic.Lib.Pointwise

@[expose] public section

set_option maxRecDepth 16384

noncomputable section

namespace Cert.Proj1Value

open Cert.Proj1Ideal Cert.Proj1Ideal.Gen Idealize.ShloMosaic Cert.Modulated

/-- The normalised block, token by token. -/
theorem normed_apply (x : Vec Ideal S1x1024x1024 .f32) (g : Vec Ideal S1x1024 .f32) (sc sh : Vec Ideal S1x1x1024 .f32) (r e : Fin 1024) :
    k0_pay2 x g sc sh (ix2 r e)
      = normed (fun k => x (ix3 0 r k)) (fun k => g (ix2 0 k)) (fun k => sc (ix3 0 0 k)) (fun k => sh (ix3 0 0 k)) e := by
  unfold normed
  pointwise [k0_pay2]

/-- The normalised block times the Fourier mixer's input columns. -/
theorem input_apply (x : Vec Ideal S1x1024x1024 .f32) (g : Vec Ideal S1x1024 .f32) (sc sh : Vec Ideal S1x1x1024 .f32)
    (w : Vec Ideal S1024x512 .bf16) (r : Fin 1024) (d : Fin 512) :
    k0_pay3 x g sc sh w (ix2 r d) = ∑ k : Fin 1024, k0_pay2 x g sc sh (ix2 r k) * w (ix2 k d) := by
  pointwise [k0_pay3, dot_S1024x1024_S1024x512_S1024x512_1_0_0_1_n_n]

/-- A block times a matrix of 512 columns. -/
theorem wide_apply (h : FVec Ideal S1024x1024 .bf16) (w : Vec Ideal S1024x512 .bf16) (r : Fin 1024) (d : Fin 512) :
    k0_pay360 h w (ix3 0 r d) = ∑ k : Fin 1024, h (ix2 r k) * w (ix2 k d) := by
  pointwise [k0_pay360, dot_S1024x1024_S1024x512_S1024x512_1_0_0_1_n_n]

/-- A block times a matrix of 128 columns. -/
theorem slim_apply (h : FVec Ideal S1024x1024 .bf16) (w : Vec Ideal S1024x128 .bf16) (r : Fin 1024) (d : Fin 128) :
    k0_pay1 (k0_pay364 h w) (ix3 0 r d) = ∑ k : Fin 1024, h (ix2 r k) * w (ix2 k d) := by
  pointwise [k0_pay1, k0_pay364, dot_S1024x1024_S1024x128_S1024x128_1_0_0_1_n_n]

/-- Rows `o` on and columns `q` on of a block of 1024 rows, as a tile of 64 rows and 128 columns. -/
def tile (v : FVec Ideal S1024x512 .f32) (o q : ℕ) (h : Shape.Slices S1024x512 ![o, q] S64x128) : FVec Ideal S1x64x128 .f32 :=
  shapeCast S1x64x128 (extractStridedSlice S64x128 ![o, q] v h) shapeCasts_S64x128_S1x64x128

theorem tile_apply (v : FVec Ideal S1024x512 .f32) (o q : ℕ) (h : Shape.Slices S1024x512 ![o, q] S64x128) (r : Fin 64) (d : Fin 128)
    (hr : o + r.val < 1024) (hd : q + d.val < 512) :
    tile v o q h (ix3 0 r d) = v (ix2 ⟨o + r.val, hr⟩ ⟨q + d.val, hd⟩) := by
  pointwise [tile]

/-- One position of every group, as it leaves the scratch. -/
theorem fold_apply (v : Vec Ideal S1x16x128 .f32) (g : Fin 16) (d : Fin 128) : k0_pay73 v (ix3 0 g d) = v (ix3 0 g d) := by
  pointwise [k0_pay73]

end Cert.Proj1Value

end
-- ==== Proof.Proj1Scratch.lean ====
/-
  What the first input projection keeps in its scratch: the block's rows in groups of 64, the groups 72 rows apart, the
  columns in four chunks of 128; and what one position of every group, read back, holds.
-/
module

public import proofs.«01_k».proof.Proof.Proj1Unit
public import Idealize.ShloMosaic.Lib.Pipeline.ValueKit

@[expose] public section

set_option maxRecDepth 16384

noncomputable section

namespace Cert.Proj1Value

open Cert.Proj1Ideal Cert.Proj1Ideal.Gen Idealize.ShloMosaic Idealize.ShloMosaic.TcCoe

theorem chunk_slices : ∀ n : Fin 64, Shape.Slices S1024x512 ![64 * (n.val % 16), 128 * (n.val / 16)] S64x128 := by decide +kernel
theorem chunk_inb : ∀ n : Fin 64, ∀ a, ![n.val / 16, 72 * (n.val % 16), 0] a + S1x64x128.size a ≤ S4x1152x128.size a := by decide +kernel

/-- Store `n` of the scratch: group `n % 16` of column chunk `n / 16`. -/
def store (v : FVec Ideal S1024x512 .f32) (n : Fin 64) : View.Piece (Elt Ideal) S4x1152x128 .f32 :=
  ⟨Rect.unit (s := S4x1152x128) ![n.val / 16, 72 * (n.val % 16), 0] S1x64x128.size (chunk_inb n),
    tile v (64 * (n.val % 16)) (128 * (n.val / 16)) (chunk_slices n)⟩

/-- All of them, the last first. -/
def stores (v : FVec Ideal S1024x512 .f32) : List (View.Piece (Elt Ideal) S4x1152x128 .f32) :=
  List.ofFn fun n : Fin 64 => store v ⟨63 - n.val, by omega⟩

/-- Entry of a block of 1024 rows at a row and column given as numbers. -/
def entryAt (v : FVec Ideal S1024x512 .f32) (a b : ℕ) : EReal :=
  if h : a < 1024 ∧ b < 512 then v (ix2 ⟨a, h.1⟩ ⟨b, h.2⟩) else 0

theorem entryAt_of_lt (v : FVec Ideal S1024x512 .f32) (a b : ℕ) (ha : a < 1024) (hb : b < 512) :
    entryAt v a b = v (ix2 ⟨a, ha⟩ ⟨b, hb⟩) := dif_pos ⟨ha, hb⟩

/-- What the scratch holds where it was stored. -/
def kept (v : FVec Ideal S1024x512 .f32) (y : S4x1152x128.Idx) : EReal :=
  entryAt v (64 * ((y 1).val / 72) + (y 1).val % 72) (128 * (y 0).val + (y 2).val)

/-- Every store agrees with it. -/
theorem store_kept (v : FVec Ideal S1024x512 .f32) (n : Fin 64) (z : S1x64x128.Idx) :
    (store v n).2 z = kept v ((store v n).1.emb z) := by
  obtain ⟨r, hr⟩ : ∃ r : Fin 64, r = z 1 := ⟨_, rfl⟩
  obtain ⟨d, hd⟩ : ∃ d : Fin 128, d = z 2 := ⟨_, rfl⟩
  have hz : z = ix3 0 r d := by
    subst hr hd
    funext a
    match a with
    | ⟨0, _⟩ => exact Fin.ext (by have := (z 0).isLt; show (z 0).val = 0; change (z 0).val < 1 at this; omega)
    | ⟨1, _⟩ => rfl
    | ⟨2, _⟩ => rfl
  have e0 : ((store v n).1.emb (ix3 0 r d) 0).val = n.val / 16 :=
    (Rect.idx_unit_val (s := S4x1152x128) _ S1x64x128.size (chunk_inb n) (ix3 0 r d) 0).trans (Nat.add_zero _)
  have e1 : ((store v n).1.emb (ix3 0 r d) 1).val = 72 * (n.val % 16) + r.val :=
    Rect.idx_unit_val (s := S4x1152x128) _ S1x64x128.size (chunk_inb n) (ix3 0 r d) 1
  have e2 : ((store v n).1.emb (ix3 0 r d) 2).val = d.val :=
    (Rect.idx_unit_val (s := S4x1152x128) _ S1x64x128.size (chunk_inb n) (ix3 0 r d) 2).trans (Nat.zero_add _)
  rw [hz]
  unfold kept
  rw [e0, e1, e2, show 64 * ((72 * (n.val % 16) + r.val) / 72) + (72 * (n.val % 16) + r.val) % 72 = 64 * (n.val % 16) + r.val by omega,
    entryAt_of_lt v _ _ (by omega) (by omega)]
  exact tile_apply v _ _ (chunk_slices n) r d (by omega) (by omega)

/-- The stored scratch at position `l` of group `g`, in column chunk `j`. -/
theorem stores_apply (v : FVec Ideal S1024x512 .f32) (j : Fin 4) (g : Fin 16) (l : Fin 64) (d : Fin 128) (y : S4x1152x128.Idx)
    (y0 : (y 0).val = j.val) (y1 : (y 1).val = 72 * g.val + l.val) (y2 : (y 2).val = d.val) :
    View.canon (Val := Elt Ideal) (e := .f32) (stores v) y = entryAt v (64 * g.val + l.val) (128 * j.val + d.val) := by
  refine (View.canon_apply_of_pieces (Val := Elt Ideal) (e := .f32) (kept v) (stores v) (fun p hp z => ?_) y ?_).trans ?_
  · obtain ⟨n, rfl⟩ := (List.mem_ofFn' _ _).1 hp
    exact store_kept v _ z
  · refine ⟨store v ⟨16 * j.val + g.val, by omega⟩, (List.mem_ofFn' _ _).2 ⟨⟨63 - (16 * j.val + g.val), by omega⟩, ?_⟩, ?_⟩
    · exact congrArg (store v) (Fin.ext (by show 63 - (63 - (16 * j.val + g.val)) = 16 * j.val + g.val; omega))
    · show y ∈ (Rect.unit (s := S4x1152x128) ![(16 * j.val + g.val) / 16, 72 * ((16 * j.val + g.val) % 16), 0] S1x64x128.size
        (chunk_inb ⟨16 * j.val + g.val, by omega⟩)).set
      refine Rect.mem_set_unit.2 fun a => ?_
      match a with
      | ⟨0, _⟩ => show (16 * j.val + g.val) / 16 ≤ (y 0).val ∧ (y 0).val < (16 * j.val + g.val) / 16 + 1; omega
      | ⟨1, _⟩ => show 72 * ((16 * j.val + g.val) % 16) ≤ (y 1).val ∧ (y 1).val < 72 * ((16 * j.val + g.val) % 16) + 64; omega
      | ⟨2, _⟩ => show 0 ≤ (y 2).val ∧ (y 2).val < 0 + 128; omega
  · unfold kept
    rw [y0, y1, y2, show 64 * ((72 * g.val + l.val) / 72) + (72 * g.val + l.val) % 72 = 64 * g.val + l.val by omega]

theorem row_inb : ∀ n : Fin 256, ∀ a, S1x16x128.size a = 0
    ∨ ![n.val % 4, n.val / 4, 0] a + ![1, 72, 1] a * (S1x16x128.size a - 1) < S4x1152x128.size a := by decide +kernel

/-- Read `n` of the scratch: position `n / 4` of every group, in column chunk `n % 4`. -/
def rowBox (n : Fin 256) : LoadRect S4x1152x128 where
  off := ![n.val % 4, n.val / 4, 0]
  size := S1x16x128.size
  stride := ![1, 72, 1]
  inb := row_inb n

/-- What that read finds. -/
theorem read_apply {κ : Kind} {sp : Space} (w : View sig κ sp S4x1152x128 .f32) (v : FVec Ideal S1024x512 .f32) (n : Fin 256)
    (g : Fin 16) (d : Fin 128) :
    w.readCov (Val := Elt Ideal) (stores v) (rowBox n) (ix3 0 g d) = entryAt v (64 * g.val + n.val / 4) (128 * (n.val % 4) + d.val) := by
  rw [View.readCov_eq_canon']
  exact stores_apply v ⟨n.val % 4, by omega⟩ g ⟨n.val / 4, by omega⟩ d _
    (show n.val % 4 + 1 * 0 = n.val % 4 by omega) (show n.val / 4 + 72 * g.val = 72 * g.val + n.val / 4 by omega)
    (show 0 + 1 * d.val = d.val by omega)

end Cert.Proj1Value

end
-- ==== Proof.Proj1Pieces.lean ====
/-
  The pieces the first input projection writes at one grid point, gathered: the 64 stores into the scratch and the 256
  stores into the first output block.
-/
module

public import proofs.«01_k».proof.Proof.Proj1Scratch
public import Idealize.ShloMosaic.Lib.Pipeline.ValueKit

@[expose] public section

set_option maxRecDepth 16384

noncomputable section

namespace Cert.Proj1Value

open Cert.Proj1Ideal Cert.Proj1Ideal.Gen Idealize.ShloMosaic Idealize.ShloMosaic.Tactic Cert.Modulated

variable (c : Dev nD) (i : grid0.Coords)
  (arg2 : Memref sig .tc .vmem S1x1024x1024 .f32) (harg2 : arg2.IsWhole)
  (arg3 : Memref sig .tc .vmem S1x1x1024 .f32) (harg3 : arg3.IsWhole)
  (arg4 : Memref sig .tc .vmem S1x1x1024 .f32) (harg4 : arg4.IsWhole)
  (arg5 : Memref sig .tc .vmem S1x1024 .f32) (harg5 : arg5.IsWhole)
  (arg6 : Memref sig .tc .vmem S1024x512 .bf16) (harg6 : arg6.IsWhole)
  (arg7 : Memref sig .tc .vmem S1024x512 .bf16) (harg7 : arg7.IsWhole)
  (arg8 : Memref sig .tc .vmem S1024x1536 .bf16) (harg8 : arg8.IsWhole)
  (arg9 : Memref sig .tc .vmem S1024x512 .bf16) (harg9 : arg9.IsWhole)
  (arg10 : Memref sig .tc .vmem S1024x128 .bf16) (harg10 : arg10.IsWhole)
  (arg11 : Memref sig .tc .vmem S1x16x32768 .bf16) (harg11 : arg11.IsWhole)
  (arg12 : Memref sig .tc .vmem S1x1024x512 .bf16) (harg12 : arg12.IsWhole)
  (arg13 : Memref sig .tc .vmem S1x1024x1536 .bf16) (harg13 : arg13.IsWhole)
  (arg14 : Memref sig .tc .vmem S1x1024x512 .bf16) (harg14 : arg14.IsWhole)
  (arg15 : Memref sig .tc .vmem S1x1024x128 .f32) (harg15 : arg15.IsWhole)
  (arg16 : Memref sig .tc .vmem S4x1152x128 .f32) (harg16 : arg16.IsWhole)
variable (x : Vec Ideal S1x1024x1024 .f32) (sc sh : Vec Ideal S1x1x1024 .f32) (g : Vec Ideal S1x1024 .f32) (w0 : Vec Ideal S1024x512 .bf16)
  (w1 : Vec Ideal S1024x512 .bf16) (w2 : Vec Ideal S1024x1536 .bf16) (w3 : Vec Ideal S1024x512 .bf16) (w4 : Vec Ideal S1024x128 .bf16)

/-- The scratch's stores, in the order they were made, are those of the block times the input columns. -/
theorem scratch_stores : kernelRun0_A.sl.HS0_64 (F := Ideal) c arg2 harg2 arg3 harg3 arg4 harg4 arg5 harg5 arg6 harg6 x sc sh g w0
    = stores (kernelRun0_A.sl.r_1 c arg2 harg2 arg3 harg3 arg4 harg4 arg5 harg5 arg6 harg6 x sc sh g w0) := by
  sl_kernel_rfl

theorem fold_inb : ∀ n : Fin 256, ∀ a, ![0, 0, 128 * n.val] a + S1x16x128.size a ≤ S1x16x32768.size a := by decide +kernel

/-- Store `n` of the first output block: columns `128 * n` on, from read `n` of the scratch. -/
def fold {κ : Kind} {sp : Space} (w : View sig κ sp S4x1152x128 .f32) (L : List (View.Piece (Elt Ideal) S4x1152x128 .f32)) (n : Fin 256) :
    View.Piece (Elt Ideal) S1x16x32768 .bf16 :=
  ⟨Rect.unit (s := S1x16x32768) ![0, 0, 128 * n.val] S1x16x128.size (fold_inb n), k0_pay73 (F := Ideal) (w.readCov (Val := Elt Ideal) L (rowBox n))⟩

/-- All of them, the last first. -/
def folds {κ : Kind} {sp : Space} (w : View sig κ sp S4x1152x128 .f32) (L : List (View.Piece (Elt Ideal) S4x1152x128 .f32)) :
    List (View.Piece (Elt Ideal) S1x16x32768 .bf16) :=
  List.ofFn fun n : Fin 256 => fold w L ⟨255 - n.val, by omega⟩

/-- The pieces of the first output block. -/
theorem output_stores : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4).1
    = folds arg16.view (kernelRun0_A.sl.HS0_64 c arg2 harg2 arg3 harg3 arg4 harg4 arg5 harg5 arg6 harg6 x sc sh g w0) := by
  sl_kernel_rfl

/-- The normalised block, from the loaded windows. -/
def hid (x : Vec Ideal S1x1024x1024 .f32) (sc sh : Vec Ideal S1x1x1024 .f32) (g : Vec Ideal S1x1024 .f32) : FVec Ideal S1024x1024 .bf16 :=
  k0_pay2 (View.ld x (Rect.unit (s := S1x1024x1024) ![0, 0, 0] S1x1024x1024.size (by decide)))
    (View.ld g (Rect.unit (s := S1x1024) ![0, 0] S1x1024.size (by decide)))
    (View.ld sc (Rect.unit (s := S1x1x1024) ![0, 0, 0] S1x1x1024.size (by decide)))
    (View.ld sh (Rect.unit (s := S1x1x1024) ![0, 0, 0] S1x1x1024.size (by decide)))

/-- The normalised block times the input columns, from the loaded windows. -/
def inputs (x : Vec Ideal S1x1024x1024 .f32) (sc sh : Vec Ideal S1x1x1024 .f32) (g : Vec Ideal S1x1024 .f32) (w0 : Vec Ideal S1024x512 .bf16) :
    FVec Ideal S1024x512 .f32 :=
  k0_pay3 (View.ld x (Rect.unit (s := S1x1024x1024) ![0, 0, 0] S1x1024x1024.size (by decide)))
    (View.ld g (Rect.unit (s := S1x1024) ![0, 0] S1x1024.size (by decide)))
    (View.ld sc (Rect.unit (s := S1x1x1024) ![0, 0, 0] S1x1x1024.size (by decide)))
    (View.ld sh (Rect.unit (s := S1x1x1024) ![0, 0, 0] S1x1x1024.size (by decide)))
    (View.ld w0 (Rect.unit (s := S1024x512) ![0, 0] S1024x512.size (by decide)))

theorem hid_run : kernelRun0_A.sl.r c arg2 harg2 arg3 harg3 arg4 harg4 arg5 harg5 x sc sh g = hid x sc sh g := by
  unfold kernelRun0_A.sl.r
  simp only [View.readAt_eq_ld, Memref.IsWhole.read_unread]
  rfl

theorem inputs_run : kernelRun0_A.sl.r_1 c arg2 harg2 arg3 harg3 arg4 harg4 arg5 harg5 arg6 harg6 x sc sh g w0 = inputs x sc sh g w0 := by
  unfold kernelRun0_A.sl.r_1
  simp only [View.readAt_eq_ld, Memref.IsWhole.read_unread]
  rfl

/-- The first output block's stores, from the windows. -/
theorem pieces9 : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4).1
    = folds arg16.view (stores (inputs x sc sh g w0)) := by
  rw [output_stores, scratch_stores, inputs_run]

/-- The second output block's store, from the windows. -/
theorem pieces10 : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4).2.1
    = [⟨Rect.unit (s := S1x1024x512) ![0, 0, 0] S1x1024x512.size (by decide), k0_pay360 (F := Ideal) (hid x sc sh g) (View.ld w1 (Rect.unit (s := S1024x512) ![0, 0] S1024x512.size (by decide)))⟩] := by
  have h : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4).2.1
      = [⟨Rect.unit (s := S1x1024x512) ![0, 0, 0] S1x1024x512.size (by decide), k0_pay360 (F := Ideal) (kernelRun0_A.sl.r c arg2 harg2 arg3 harg3 arg4 harg4 arg5 harg5 x sc sh g) (View.readAt (Elt Ideal) arg7.view (Rect.unit (s := S1024x512) ![0, 0] S1024x512.size (by decide)).toLoadRect (harg7.unread w1))⟩] := by
    sl_kernel_rfl
  rw [h, hid_run, View.readAt_eq_ld, Memref.IsWhole.read_unread]

/-- The third output block's three stores, from the windows. -/
theorem pieces11 : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4).2.2.1
    = [⟨Rect.unit (s := S1x1024x1536) ![0, 0, 1024] S1x1024x512.size (by decide), k0_pay360 (F := Ideal) (hid x sc sh g) (View.ld w2 (Rect.unit (s := S1024x1536) ![0, 1024] S1024x512.size (by decide)))⟩,
      ⟨Rect.unit (s := S1x1024x1536) ![0, 0, 512] S1x1024x512.size (by decide), k0_pay360 (F := Ideal) (hid x sc sh g) (View.ld w2 (Rect.unit (s := S1024x1536) ![0, 512] S1024x512.size (by decide)))⟩,
      ⟨Rect.unit (s := S1x1024x1536) ![0, 0, 0] S1x1024x512.size (by decide), k0_pay360 (F := Ideal) (hid x sc sh g) (View.ld w2 (Rect.unit (s := S1024x1536) ![0, 0] S1024x512.size (by decide)))⟩] := by
  have h : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4).2.2.1
      = [⟨Rect.unit (s := S1x1024x1536) ![0, 0, 1024] S1x1024x512.size (by decide), k0_pay360 (F := Ideal) (kernelRun0_A.sl.r c arg2 harg2 arg3 harg3 arg4 harg4 arg5 harg5 x sc sh g) (View.readAt (Elt Ideal) arg8.view (Rect.unit (s := S1024x1536) ![0, 1024] S1024x512.size (by decide)).toLoadRect (harg8.unread w2))⟩,
      ⟨Rect.unit (s := S1x1024x1536) ![0, 0, 512] S1x1024x512.size (by decide), k0_pay360 (F := Ideal) (kernelRun0_A.sl.r c arg2 harg2 arg3 harg3 arg4 harg4 arg5 harg5 x sc sh g) (View.readAt (Elt Ideal) arg8.view (Rect.unit (s := S1024x1536) ![0, 512] S1024x512.size (by decide)).toLoadRect (harg8.unread w2))⟩,
      ⟨Rect.unit (s := S1x1024x1536) ![0, 0, 0] S1x1024x512.size (by decide), k0_pay360 (F := Ideal) (kernelRun0_A.sl.r c arg2 harg2 arg3 harg3 arg4 harg4 arg5 harg5 x sc sh g) (View.readAt (Elt Ideal) arg8.view (Rect.unit (s := S1024x1536) ![0, 0] S1024x512.size (by decide)).toLoadRect (harg8.unread w2))⟩] := by
    sl_kernel_rfl
  rw [h, hid_run, View.readAt_eq_ld, View.readAt_eq_ld, View.readAt_eq_ld, Memref.IsWhole.read_unread]

/-- The fourth output block's store, from the windows. -/
theorem pieces12 : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4).2.2.2.1
    = [⟨Rect.unit (s := S1x1024x512) ![0, 0, 0] S1x1024x512.size (by decide), k0_pay360 (F := Ideal) (hid x sc sh g) (View.ld w3 (Rect.unit (s := S1024x512) ![0, 0] S1024x512.size (by decide)))⟩] := by
  have h : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4).2.2.2.1
      = [⟨Rect.unit (s := S1x1024x512) ![0, 0, 0] S1x1024x512.size (by decide), k0_pay360 (F := Ideal) (kernelRun0_A.sl.r c arg2 harg2 arg3 harg3 arg4 harg4 arg5 harg5 x sc sh g) (View.readAt (Elt Ideal) arg9.view (Rect.unit (s := S1024x512) ![0, 0] S1024x512.size (by decide)).toLoadRect (harg9.unread w3))⟩] := by
    sl_kernel_rfl
  rw [h, hid_run, View.readAt_eq_ld, Memref.IsWhole.read_unread]

/-- The fifth output block's store, from the windows. -/
theorem pieces13 : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4).2.2.2.2.1
    = [⟨Rect.unit (s := S1x1024x128) ![0, 0, 0] S1x1024x128.size (by decide), k0_pay1 (F := Ideal) (k0_pay364 (hid x sc sh g) (View.ld w4 (Rect.unit (s := S1024x128) ![0, 0] S1024x128.size (by decide))))⟩] := by
  have h : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4).2.2.2.2.1
      = [⟨Rect.unit (s := S1x1024x128) ![0, 0, 0] S1x1024x128.size (by decide), k0_pay1 (F := Ideal) (k0_pay364 (kernelRun0_A.sl.r c arg2 harg2 arg3 harg3 arg4 harg4 arg5 harg5 x sc sh g) (View.readAt (Elt Ideal) arg10.view (Rect.unit (s := S1024x128) ![0, 0] S1024x128.size (by decide)).toLoadRect (harg10.unread w4)))⟩] := by
    sl_kernel_rfl
  rw [h, hid_run, View.readAt_eq_ld, Memref.IsWhole.read_unread]

end Cert.Proj1Value

end
-- ==== Proof.Proj1Block.lean ====
/-
  What one grid point of the first input projection leaves in its five output blocks, each as one function of the
  block's index.
-/
module

public import proofs.«01_k».proof.Proof.Proj1Pieces

@[expose] public section

set_option maxRecDepth 16384

noncomputable section

namespace Cert.Proj1Value

open Cert.Proj1Ideal Cert.Proj1Ideal.Gen Idealize.ShloMosaic Cert.Modulated

variable (x : Vec Ideal S1x1024x1024 .f32) (sc sh : Vec Ideal S1x1x1024 .f32) (g : Vec Ideal S1x1024 .f32)

/-- The column `w` of a matrix times the block's normalised token `r`. -/
def blockAt (w : Fin 1024 → EReal) (r : Fin 1024) : EReal :=
  project (fun k => x (ix3 0 r k)) (fun k => g (ix2 0 k)) (fun k => sc (ix3 0 0 k)) (fun k => sh (ix3 0 0 k)) w

theorem ld_x (r k : Fin 1024) (h) : View.ld x (Rect.unit (s := S1x1024x1024) ![0, 0, 0] S1x1024x1024.size h) (ix3 0 r k) = x (ix3 0 r k) := by
  refine View.ld_unit_apply_of _ _ _ _ _ _ fun b => ?_
  fin_cases b <;> first | rfl | simp
theorem ld_g (k : Fin 1024) (h) : View.ld g (Rect.unit (s := S1x1024) ![0, 0] S1x1024.size h) (ix2 0 k) = g (ix2 0 k) := by
  refine View.ld_unit_apply_of _ _ _ _ _ _ fun b => ?_
  fin_cases b <;> first | rfl | simp
theorem ld_s (k : Fin 1024) (h) : View.ld sc (Rect.unit (s := S1x1x1024) ![0, 0, 0] S1x1x1024.size h) (ix3 0 0 k) = sc (ix3 0 0 k) := by
  refine View.ld_unit_apply_of _ _ _ _ _ _ fun b => ?_
  fin_cases b <;> first | rfl | simp
theorem ld_w (w : Vec Ideal S1024x512 .bf16) (k : Fin 1024) (d : Fin 512) (h) :
    View.ld w (Rect.unit (s := S1024x512) ![0, 0] S1024x512.size h) (ix2 k d) = w (ix2 k d) := by
  refine View.ld_unit_apply_of _ _ _ _ _ _ fun b => ?_
  fin_cases b <;> first | rfl | simp

theorem hid_apply (r e : Fin 1024) : hid x sc sh g (ix2 r e)
    = normed (fun k => x (ix3 0 r k)) (fun k => g (ix2 0 k)) (fun k => sc (ix3 0 0 k)) (fun k => sh (ix3 0 0 k)) e := by
  unfold hid
  rw [normed_apply]
  have hx := funext fun k => ld_x x r k (by decide)
  have hg := funext fun k => ld_g g k (by decide)
  have hsc := funext fun k => ld_s sc k (by decide)
  have hsh := funext fun k => ld_s sh k (by decide)
  exact congrFun (congr (congr (congr (congrArg normed hx) hg) hsc) hsh) e

theorem inputs_apply (w : Vec Ideal S1024x512 .bf16) (r : Fin 1024) (d : Fin 512) :
    inputs x sc sh g w (ix2 r d) = blockAt x sc sh g (fun k => w (ix2 k d)) r := by
  unfold inputs
  rw [input_apply]
  unfold blockAt project
  exact Finset.sum_congr rfl fun k _ => congrArg₂ (· * ·) (hid_apply x sc sh g r k) (ld_w w k d (by decide))

/-- An index of a block of tokens is its token and its column. -/
theorem ix_block {n₁ n₂ : ℕ} (z : (⟨3, ![1, n₁, n₂]⟩ : Shape).Idx) : z = ix3 (n0 := 1) (n1 := n₁) (n2 := n₂) 0 (z 1) (z 2) := by
  funext a
  match a with
  | ⟨0, _⟩ => exact Fin.ext (by have := (z 0).isLt; show (z 0).val = 0; change (z 0).val < 1 at this; omega)
  | ⟨1, _⟩ => rfl
  | ⟨2, _⟩ => rfl

/-- A store of 512 columns, at columns `o` on of a block of `n`, is the block's function on its rectangle. -/
theorem wide_piece {n : ℕ} (w : Vec Ideal ⟨2, ![1024, n]⟩ .bf16) (o : ℕ)
    (hw : ∀ a, ![0, o] a + S1024x512.size a ≤ (⟨2, ![1024, n]⟩ : Shape).size a)
    (ho : ∀ a, ![0, 0, o] a + S1x1024x512.size a ≤ (⟨3, ![1, 1024, n]⟩ : Shape).size a) (z : S1x1024x512.Idx) :
    k0_pay360 (F := Ideal) (hid x sc sh g) (View.ld w (Rect.unit (s := ⟨2, ![1024, n]⟩) ![0, o] S1024x512.size hw)) z
      = (fun i : (⟨3, ![1, 1024, n]⟩ : Shape).Idx => blockAt x sc sh g (fun k => w (ix2 k (i 2))) (i 1))
          ((Rect.unit (s := ⟨3, ![1, 1024, n]⟩) ![0, 0, o] S1x1024x512.size ho).emb z) := by
  obtain ⟨r, hr⟩ : ∃ r : Fin 1024, r = z 1 := ⟨_, rfl⟩
  obtain ⟨d, hd⟩ : ∃ d : Fin 512, d = z 2 := ⟨_, rfl⟩
  have hz : z = ix3 0 r d := by subst hr hd; exact ix_block z
  have hb : o + 512 ≤ n := hw 1
  have e1 : ((Rect.unit (s := ⟨3, ![1, 1024, n]⟩) ![0, 0, o] S1x1024x512.size ho).emb (ix3 0 r d)) 1 = r :=
    Fin.ext ((Rect.idx_unit_val (s := ⟨3, ![1, 1024, n]⟩) ![0, 0, o] S1x1024x512.size ho (ix3 0 r d) 1).trans (Nat.zero_add _))
  have e2 : ((Rect.unit (s := ⟨3, ![1, 1024, n]⟩) ![0, 0, o] S1x1024x512.size ho).emb (ix3 0 r d)) 2 = (⟨o + d.val, by omega⟩ : Fin n) :=
    Fin.ext (Rect.idx_unit_val (s := ⟨3, ![1, 1024, n]⟩) ![0, 0, o] S1x1024x512.size ho (ix3 0 r d) 2)
  have lw : ∀ k : Fin 1024, View.ld w (Rect.unit (s := ⟨2, ![1024, n]⟩) ![0, o] S1024x512.size hw) (ix2 k d) = w (ix2 k ⟨o + d.val, by omega⟩) := by
    intro k
    refine View.ld_unit_apply_of _ _ _ _ _ _ fun b => ?_
    fin_cases b <;> first | rfl | simp
  rw [hz]
  show _ = blockAt x sc sh g (fun k => w (ix2 k _)) _
  rw [wide_apply, e1, e2]
  unfold blockAt project
  exact Finset.sum_congr rfl fun k _ => congrArg₂ (· * ·) (hid_apply x sc sh g r k) (lw k)

/-- The store of the narrow block is the block's function. -/
theorem slim_piece (w : Vec Ideal S1024x128 .bf16) (hw) (ho) (z : S1x1024x128.Idx) :
    k0_pay1 (F := Ideal) (k0_pay364 (hid x sc sh g) (View.ld w (Rect.unit (s := S1024x128) ![0, 0] S1024x128.size hw))) z
      = (fun i : S1x1024x128.Idx => blockAt x sc sh g (fun k => w (ix2 k (i 2))) (i 1))
          ((Rect.unit (s := S1x1024x128) ![0, 0, 0] S1x1024x128.size ho).emb z) := by
  obtain ⟨r, hr⟩ : ∃ r : Fin 1024, r = z 1 := ⟨_, rfl⟩
  obtain ⟨d, hd⟩ : ∃ d : Fin 128, d = z 2 := ⟨_, rfl⟩
  have hz : z = ix3 0 r d := by subst hr hd; exact ix_block z
  have e1 : ((Rect.unit (s := S1x1024x128) ![0, 0, 0] S1x1024x128.size ho).emb (ix3 0 r d)) 1 = r :=
    Fin.ext ((Rect.idx_unit_val (s := S1x1024x128) ![0, 0, 0] S1x1024x128.size ho (ix3 0 r d) 1).trans (Nat.zero_add _))
  have e2 : ((Rect.unit (s := S1x1024x128) ![0, 0, 0] S1x1024x128.size ho).emb (ix3 0 r d)) 2 = d :=
    Fin.ext ((Rect.idx_unit_val (s := S1x1024x128) ![0, 0, 0] S1x1024x128.size ho (ix3 0 r d) 2).trans (Nat.zero_add _))
  have lw : ∀ k : Fin 1024, View.ld w (Rect.unit (s := S1024x128) ![0, 0] S1024x128.size hw) (ix2 k d) = w (ix2 k d) := by
    intro k
    refine View.ld_unit_apply_of _ _ _ _ _ _ fun b => ?_
    fin_cases b <;> first | rfl | simp
  rw [hz]
  show _ = blockAt x sc sh g (fun k => w (ix2 k _)) _
  rw [slim_apply, e1, e2]
  unfold blockAt project
  exact Finset.sum_congr rfl fun k _ => congrArg₂ (· * ·) (hid_apply x sc sh g r k) (lw k)

/-- Entry of the first output block: group `i 1`'s tokens lie one after the other, 512 columns each. -/
def grouped (w : Vec Ideal S1024x512 .bf16) (i : S1x16x32768.Idx) : EReal :=
  entryAt (inputs x sc sh g w) (64 * (i 1).val + (i 2).val / 512) ((i 2).val % 512)

/-- Store `n` of the first output block is the block's function on its columns. -/
theorem fold_piece {κ : Kind} {sp : Space} (v : View sig κ sp S4x1152x128 .f32) (w : Vec Ideal S1024x512 .bf16) (n : Fin 256) (z : S1x16x128.Idx) :
    (fold v (stores (inputs x sc sh g w)) n).2 z = grouped x sc sh g w ((fold v (stores (inputs x sc sh g w)) n).1.emb z) := by
  obtain ⟨r, hr⟩ : ∃ r : Fin 16, r = z 1 := ⟨_, rfl⟩
  obtain ⟨d, hd⟩ : ∃ d : Fin 128, d = z 2 := ⟨_, rfl⟩
  have hz : z = ix3 0 r d := by subst hr hd; exact ix_block z
  have e1 : ((fold v (stores (inputs x sc sh g w)) n).1.emb (ix3 0 r d) 1).val = r.val :=
    (Rect.idx_unit_val (s := S1x16x32768) ![0, 0, 128 * n.val] S1x16x128.size (fold_inb n) (ix3 0 r d) 1).trans (Nat.zero_add _)
  have e2 : ((fold v (stores (inputs x sc sh g w)) n).1.emb (ix3 0 r d) 2).val = 128 * n.val + d.val :=
    Rect.idx_unit_val (s := S1x16x32768) ![0, 0, 128 * n.val] S1x16x128.size (fold_inb n) (ix3 0 r d) 2
  rw [hz]
  unfold grouped
  rw [e1, e2, show (128 * n.val + d.val) / 512 = n.val / 4 by omega, show (128 * n.val + d.val) % 512 = 128 * (n.val % 4) + d.val by omega]
  have h := read_apply v (inputs x sc sh g w) n r d
  rw [← fold_apply (v.readCov (Val := Elt Ideal) (stores (inputs x sc sh g w)) (rowBox n)) r d] at h
  exact h

/-- Together they are that function wherever they store. -/
theorem folds_apply {κ : Kind} {sp : Space} (v : View sig κ sp S4x1152x128 .f32) (w : Vec Ideal S1024x512 .bf16) (y : S1x16x32768.Idx)
    (h : ∃ p ∈ folds v (stores (inputs x sc sh g w)), y ∈ p.1.set) :
    View.canon (Val := Elt Ideal) (e := .bf16) (folds v (stores (inputs x sc sh g w))) y = grouped x sc sh g w y := by
  refine View.canon_apply_of_pieces (Val := Elt Ideal) (e := .bf16) (grouped x sc sh g w) _ (fun p hp z => ?_) y h
  obtain ⟨n, hn⟩ := (List.mem_ofFn' (fun n : Fin 256 => fold v (stores (inputs x sc sh g w)) ⟨255 - n.val, by omega⟩) p).1 hp
  subst hn
  exact fold_piece x sc sh g v w _ z

variable (c : Dev nD) (i : grid0.Coords)
  (arg2 : Memref sig .tc .vmem S1x1024x1024 .f32) (harg2 : arg2.IsWhole)
  (arg3 : Memref sig .tc .vmem S1x1x1024 .f32) (harg3 : arg3.IsWhole)
  (arg4 : Memref sig .tc .vmem S1x1x1024 .f32) (harg4 : arg4.IsWhole)
  (arg5 : Memref sig .tc .vmem S1x1024 .f32) (harg5 : arg5.IsWhole)
  (arg6 : Memref sig .tc .vmem S1024x512 .bf16) (harg6 : arg6.IsWhole)
  (arg7 : Memref sig .tc .vmem S1024x512 .bf16) (harg7 : arg7.IsWhole)
  (arg8 : Memref sig .tc .vmem S1024x1536 .bf16) (harg8 : arg8.IsWhole)
  (arg9 : Memref sig .tc .vmem S1024x512 .bf16) (harg9 : arg9.IsWhole)
  (arg10 : Memref sig .tc .vmem S1024x128 .bf16) (harg10 : arg10.IsWhole)
  (arg11 : Memref sig .tc .vmem S1x16x32768 .bf16) (harg11 : arg11.IsWhole)
  (arg12 : Memref sig .tc .vmem S1x1024x512 .bf16) (harg12 : arg12.IsWhole)
  (arg13 : Memref sig .tc .vmem S1x1024x1536 .bf16) (harg13 : arg13.IsWhole)
  (arg14 : Memref sig .tc .vmem S1x1024x512 .bf16) (harg14 : arg14.IsWhole)
  (arg15 : Memref sig .tc .vmem S1x1024x128 .f32) (harg15 : arg15.IsWhole)
  (arg16 : Memref sig .tc .vmem S4x1152x128 .f32) (harg16 : arg16.IsWhole)
variable (w0 : Vec Ideal S1024x512 .bf16) (w1 : Vec Ideal S1024x512 .bf16) (w2 : Vec Ideal S1024x1536 .bf16) (w3 : Vec Ideal S1024x512 .bf16)
  (w4 : Vec Ideal S1024x128 .bf16)

/-- The first output block: the Fourier mixer's input columns, group by group. -/
theorem out9_eq : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4
    = grouped x sc sh g w0 := by
  funext y
  have h := cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4 y
  rw [pieces9] at h
  unfold out0_A_9
  rw [View.read_writes_junk_eq_canon, pieces9]
  exact folds_apply x sc sh g _ w0 y h

/-- The second output block: the Fourier mixer's gate's columns. -/
theorem out10_eq : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4
    = fun i : S1x1024x512.Idx => blockAt x sc sh g (fun k => w1 (ix2 k (i 2))) (i 1) := by
  unfold out0_A_10
  rw [View.read_writes_junk_eq_canon]
  funext y
  refine View.canon_apply_of_pieces (Val := Elt Ideal) (e := .bf16) (fun i : S1x1024x512.Idx => blockAt x sc sh g (fun k => w1 (ix2 k (i 2))) (i 1)) _ ?_ y (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4 y)
  rw [pieces10]
  refine List.forall_mem_cons.2 ⟨fun z => wide_piece x sc sh g w1 0 (by decide) (by decide) z, ?_⟩
  exact fun p hp => absurd hp List.not_mem_nil

/-- The third output block: the delta rule's queries, keys and values. -/
theorem out11_eq : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4
    = fun i : S1x1024x1536.Idx => blockAt x sc sh g (fun k => w2 (ix2 k (i 2))) (i 1) := by
  unfold out0_A_11
  rw [View.read_writes_junk_eq_canon]
  funext y
  refine View.canon_apply_of_pieces (Val := Elt Ideal) (e := .bf16) (fun i : S1x1024x1536.Idx => blockAt x sc sh g (fun k => w2 (ix2 k (i 2))) (i 1)) _ ?_ y (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4 y)
  rw [pieces11]
  refine List.forall_mem_cons.2 ⟨fun z => wide_piece x sc sh g w2 1024 (by decide) (by decide) z, ?_⟩
  refine List.forall_mem_cons.2 ⟨fun z => wide_piece x sc sh g w2 512 (by decide) (by decide) z, ?_⟩
  refine List.forall_mem_cons.2 ⟨fun z => wide_piece x sc sh g w2 0 (by decide) (by decide) z, ?_⟩
  exact fun p hp => absurd hp List.not_mem_nil

/-- The fourth output block: the delta rule's gate's columns. -/
theorem out12_eq : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4
    = fun i : S1x1024x512.Idx => blockAt x sc sh g (fun k => w3 (ix2 k (i 2))) (i 1) := by
  unfold out0_A_12
  rw [View.read_writes_junk_eq_canon]
  funext y
  refine View.canon_apply_of_pieces (Val := Elt Ideal) (e := .bf16) (fun i : S1x1024x512.Idx => blockAt x sc sh g (fun k => w3 (ix2 k (i 2))) (i 1)) _ ?_ y (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4 y)
  rw [pieces12]
  refine List.forall_mem_cons.2 ⟨fun z => wide_piece x sc sh g w3 0 (by decide) (by decide) z, ?_⟩
  exact fun p hp => absurd hp List.not_mem_nil

/-- The fifth output block: the delta rule's two rates' columns. -/
theorem out13_eq : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4
    = fun i : S1x1024x128.Idx => blockAt x sc sh g (fun k => w4 (ix2 k (i 2))) (i 1) := by
  unfold out0_A_13
  rw [View.read_writes_junk_eq_canon]
  funext y
  refine View.canon_apply_of_pieces (Val := Elt Ideal) (e := .f32) (fun i : S1x1024x128.Idx => blockAt x sc sh g (fun k => w4 (ix2 k (i 2))) (i 1)) _ ?_ y (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 x sc sh g w0 w1 w2 w3 w4 y)
  rw [pieces13]
  refine List.forall_mem_cons.2 ⟨fun z => slim_piece x sc sh g w4 (by decide) (by decide) z, ?_⟩
  exact fun p hp => absurd hp List.not_mem_nil

end Cert.Proj1Value

end
-- ==== Proof.Proj1Array.lean ====
/-
  What the first input projection's five result arrays hold after the run: each one function of the argument arrays.
-/
module

public import proofs.«01_k».proof.Proof.Proj1Block
public import proofs.«01_k».proof.Proof.Gen.Proj1Ideal.Value
public import Idealize.ShloMosaic.Lib.Claim

@[expose] public section

set_option maxRecDepth 16384

noncomputable section

namespace Cert.Proj1Value

open Cert.Proj1Ideal Cert.Proj1Ideal.Gen Idealize.ShloMosaic Idealize.ShloMosaic.TcCoe Idealize.SL.Sem Cert.Modulated

/-- Token `r` of batch `b`, normalised, times the column `w` of a matrix. -/
def entry (x : Vec Ideal S8x4096x1024 .f32) (sc sh : Vec Ideal S8x1x1024 .f32) (g : Vec Ideal S1024 .f32) (w : Fin 1024 → EReal)
    (b : Fin 8) (r : Fin 4096) : EReal :=
  project (fun k => x (ix3 b r k)) (fun k => g (ix1 k)) (fun k => sc (ix3 b 0 k)) (fun k => sh (ix3 b 0 k)) w

variable (m : (ℓ : Loc nD τ sig) → Buf (Elt Ideal) ℓ) (ρ : Dev nD → PrngReg)

/-- `entry` of device `c`'s arguments. -/
def entryOf (c : Dev nD) (w : Fin 1024 → EReal) (b : Fin 8) (r : Fin 4096) : EReal :=
  entry (m ((c : Thread nD τ).loc main_arg0)) (m ((c : Thread nD τ).loc main_arg1)) (m ((c : Thread nD τ).loc main_arg2))
    (m ((c : Thread nD τ).loc main_arg3)) w b r

/-- Entry `e` of group `h` of batch `b` in the first result. -/
def groupOf (c : Dev nD) (b : Fin 8) (h : Fin 64) (e : Fin 32768) : EReal :=
  entryOf m c (fun k => m ((c : Thread nD τ).loc main_arg4) (ix2 k (⟨e.val % 512, by omega⟩ : Fin 512))) b ⟨64 * h.val + e.val / 512, by omega⟩

/-- The first result array: the Fourier mixer's input columns, 64 groups of a batch's tokens, a group's tokens one after the other. -/
def fftOf (c : Dev nD) : Buf (Elt Ideal) ((c : Thread nD τ).loc main_v1_0) := fun i => groupOf m c (i 0) (i 1) (i 2)
/-- The second result array: the Fourier mixer's gate's columns. -/
def fzOf (c : Dev nD) : Buf (Elt Ideal) ((c : Thread nD τ).loc main_v1_1) := fun i =>
  entryOf m c (fun k => m ((c : Thread nD τ).loc main_arg5) (ix2 k (i 2))) (i 0) (i 1)
/-- The third result array: the delta rule's queries, keys and values. -/
def qkvOf (c : Dev nD) : Buf (Elt Ideal) ((c : Thread nD τ).loc main_v1_2) := fun i =>
  entryOf m c (fun k => m ((c : Thread nD τ).loc main_arg6) (ix2 k (i 2))) (i 0) (i 1)
/-- The fourth result array: the delta rule's gate's columns. -/
def dzOf (c : Dev nD) : Buf (Elt Ideal) ((c : Thread nD τ).loc main_v1_3) := fun i =>
  entryOf m c (fun k => m ((c : Thread nD τ).loc main_arg7) (ix2 k (i 2))) (i 0) (i 1)
/-- The fifth result array: the delta rule's two rates' columns. -/
def abOf (c : Dev nD) : Buf (Elt Ideal) ((c : Thread nD τ).loc main_v1_4) := fun i =>
  entryOf m c (fun k => m ((c : Thread nD τ).loc main_arg8) (ix2 k (i 2))) (i 0) (i 1)

/-- Which blocks point `t` works on: batch `t / 4` and the tokens' tile `t % 4`. -/
theorem idx0 : ∀ t : Fin cfg0.N, win0_0.index t = ![t.val / 4, t.val % 4, 0] :=
  (by decide +kernel : ∀ t : Fin grid0.N, win0_0.index t = ![t.val / 4, t.val % 4, 0])
theorem idx1 : ∀ t : Fin cfg0.N, win0_1.index t = ![t.val / 4, 0, 0] :=
  (by decide +kernel : ∀ t : Fin grid0.N, win0_1.index t = ![t.val / 4, 0, 0])
theorem idx2 : ∀ t : Fin cfg0.N, win0_2.index t = ![t.val / 4, 0, 0] :=
  (by decide +kernel : ∀ t : Fin grid0.N, win0_2.index t = ![t.val / 4, 0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![t.val / 4, t.val % 4, 0] :=
  (by decide +kernel : ∀ t : Fin grid0.N, win0_9.index t = ![t.val / 4, t.val % 4, 0])
theorem idx10 : ∀ t : Fin cfg0.N, win0_10.index t = ![t.val / 4, t.val % 4, 0] :=
  (by decide +kernel : ∀ t : Fin grid0.N, win0_10.index t = ![t.val / 4, t.val % 4, 0])
theorem idx11 : ∀ t : Fin cfg0.N, win0_11.index t = ![t.val / 4, t.val % 4, 0] :=
  (by decide +kernel : ∀ t : Fin grid0.N, win0_11.index t = ![t.val / 4, t.val % 4, 0])
theorem idx12 : ∀ t : Fin cfg0.N, win0_12.index t = ![t.val / 4, t.val % 4, 0] :=
  (by decide +kernel : ∀ t : Fin grid0.N, win0_12.index t = ![t.val / 4, t.val % 4, 0])
theorem idx13 : ∀ t : Fin cfg0.N, win0_13.index t = ![t.val / 4, t.val % 4, 0] :=
  (by decide +kernel : ∀ t : Fin grid0.N, win0_13.index t = ![t.val / 4, t.val % 4, 0])

theorem lt_N (t : Fin cfg0.N) : t.val < 32 := by have h := t.isLt; have hN : cfg0.N = 32 := N_0; omega

/-- The weight the kernel reads is the argument read as one row. -/
theorem weight_row (c : Dev nD) (k : Fin 1024) : V m c main_v0 (ix2 0 k) = m ((c : Thread nD τ).loc main_arg3) (ix1 k) := by
  entry_read
  pointwise

/-- A normalised token of the block at point `t`, times `w`, is the array's. -/
theorem block_entry (c : Dev nD) (t : Fin cfg0.N) (w : Fin 1024 → EReal) (r : Fin 1024) :
    blockAt (iblk m c 0 t) (iblk m c 1 t) (iblk m c 2 t) (iblk m c 3 t) w r
      = entryOf m c w ⟨t.val / 4, by have := lt_N t; omega⟩ ⟨t.val % 4 * 1024 + r.val, by omega⟩ := by
  have hN := lt_N t
  have lx : ∀ k : Fin 1024, iblk m c 0 t (ix3 0 r k)
      = m ((c : Thread nD τ).loc main_arg0) (ix3 ⟨t.val / 4, by omega⟩ ⟨t.val % 4 * 1024 + r.val, by omega⟩ k) := by
    intro k; blk_ext [iblk, V_main_arg0, idx0 t]
  have lsc : ∀ k : Fin 1024, iblk m c 1 t (ix3 0 0 k) = m ((c : Thread nD τ).loc main_arg1) (ix3 ⟨t.val / 4, by omega⟩ 0 k) := by
    intro k; blk_ext [iblk, V_main_arg1, idx1 t]
  have lsh : ∀ k : Fin 1024, iblk m c 2 t (ix3 0 0 k) = m ((c : Thread nD τ).loc main_arg2) (ix3 ⟨t.val / 4, by omega⟩ 0 k) := by
    intro k; blk_ext [iblk, V_main_arg2, idx2 t]
  have lg : ∀ k : Fin 1024, iblk m c 3 t (ix2 0 k) = m ((c : Thread nD τ).loc main_arg3) (ix1 k) := by
    intro k
    rw [← weight_row m c k]
    blk_ext [iblk, idx3 t]
  unfold blockAt entryOf entry
  simp only [lx, lsc, lsh, lg]

/-- What point `t` leaves in the first output block. -/
theorem after9 (c : Dev nD) (t : Fin cfg0.N) : (dats m 0 c).after 9 t
    = grouped (iblk m c 0 t) (iblk m c 1 t) (iblk m c 2 t) (iblk m c 3 t) (iblk m c 4 t) := by
  rw [after0_9]
  unfold outsAt0
  dsimp only
  rw [out9_eq]

theorem after10 (c : Dev nD) (t : Fin cfg0.N) : (dats m 0 c).after 10 t
    = fun i : S1x1024x512.Idx => blockAt (iblk m c 0 t) (iblk m c 1 t) (iblk m c 2 t) (iblk m c 3 t) (fun k => iblk m c 5 t (ix2 k (i 2))) (i 1) := by
  rw [after0_10]
  unfold outsAt0
  dsimp only
  rw [out10_eq]

theorem after11 (c : Dev nD) (t : Fin cfg0.N) : (dats m 0 c).after 11 t
    = fun i : S1x1024x1536.Idx => blockAt (iblk m c 0 t) (iblk m c 1 t) (iblk m c 2 t) (iblk m c 3 t) (fun k => iblk m c 6 t (ix2 k (i 2))) (i 1) := by
  rw [after0_11]
  unfold outsAt0
  dsimp only
  rw [out11_eq]

theorem after12 (c : Dev nD) (t : Fin cfg0.N) : (dats m 0 c).after 12 t
    = fun i : S1x1024x512.Idx => blockAt (iblk m c 0 t) (iblk m c 1 t) (iblk m c 2 t) (iblk m c 3 t) (fun k => iblk m c 7 t (ix2 k (i 2))) (i 1) := by
  rw [after0_12]
  unfold outsAt0
  dsimp only
  rw [out12_eq]

theorem after13 (c : Dev nD) (t : Fin cfg0.N) : (dats m 0 c).after 13 t
    = fun i : S1x1024x128.Idx => blockAt (iblk m c 0 t) (iblk m c 1 t) (iblk m c 2 t) (iblk m c 3 t) (fun k => iblk m c 8 t (ix2 k (i 2))) (i 1) := by
  rw [after0_13]
  unfold outsAt0
  dsimp only
  rw [out13_eq]

/-- What the first result array holds after the run. -/
theorem final9 (c : Dev nD) : (dats m 0 c).arrAt 9 cfg0.N = fftOf m c := by
  refine (dats m 0 c).arrAt_eq_of_covers 9 _ (by decide +kernel) fun t hf y => ?_
  blk_simp
  rw [after9]
  obtain ⟨h, hh⟩ : ∃ h : Fin 16, h = y 1 := ⟨_, rfl⟩
  obtain ⟨e, he⟩ : ∃ e : Fin 32768, e = y 2 := ⟨_, rfl⟩
  have hN := lt_N t
  have h0 : (y 0).val = 0 := by have := (y 0).isLt; change (y 0).val < 1 at this; omega
  have e0 : ((win0_9.blk t).view.emb y) 0 = (⟨t.val / 4, by omega⟩ : Fin 8) := Fin.ext (by blk_simp [idx9 t]; first | done | simp [h0])
  have e1 : ((win0_9.blk t).view.emb y) 1 = (⟨t.val % 4 * 16 + h.val, by omega⟩ : Fin 64) := Fin.ext (by blk_simp [idx9 t]; first | done | simp [hh])
  have e2 : ((win0_9.blk t).view.emb y) 2 = e := Fin.ext (by blk_simp [idx9 t]; first | done | simp [he])
  have lw : ∀ k : Fin 1024, ∀ d : Fin 512, iblk m c 4 t (ix2 k d) = m ((c : Thread nD τ).loc main_arg4) (ix2 k d) := by
    intro k d; blk_ext [iblk, V_main_arg4, idx4 t]
  show grouped _ _ _ _ _ y = fftOf m c ((win0_9.blk t).view.emb y)
  unfold fftOf groupOf grouped
  rw [e0, e1, e2, ← hh, ← he, entryAt_of_lt _ _ _ (by omega) (by omega), inputs_apply, block_entry]
  simp only [lw]
  refine congrArg (entryOf m c _ _) (Fin.ext ?_)
  show t.val % 4 * 1024 + (64 * h.val + e.val / 512) = 64 * (t.val % 4 * 16 + h.val) + e.val / 512
  omega

/-- What the second result array holds after the run. -/
theorem final10 (c : Dev nD) : (dats m 0 c).arrAt 10 cfg0.N = fzOf m c := by
  refine (dats m 0 c).arrAt_eq_of_covers 10 _ (by decide +kernel) fun t hf y => ?_
  blk_simp
  rw [after10]
  obtain ⟨r, hr⟩ : ∃ r : Fin 1024, r = y 1 := ⟨_, rfl⟩
  obtain ⟨d, hd⟩ : ∃ d : Fin 512, d = y 2 := ⟨_, rfl⟩
  have hN := lt_N t
  have h0 : (y 0).val = 0 := by have := (y 0).isLt; change (y 0).val < 1 at this; omega
  have e0 : ((win0_10.blk t).view.emb y) 0 = (⟨t.val / 4, by omega⟩ : Fin 8) := Fin.ext (by blk_simp [idx10 t]; first | done | simp [h0])
  have e1 : ((win0_10.blk t).view.emb y) 1 = (⟨t.val % 4 * 1024 + r.val, by omega⟩ : Fin 4096) := Fin.ext (by blk_simp [idx10 t]; first | done | simp [hr])
  have e2 : ((win0_10.blk t).view.emb y) 2 = d := Fin.ext (by blk_simp [idx10 t]; first | done | simp [hd])
  have lw : ∀ k : Fin 1024, iblk m c 5 t (ix2 k d) = m ((c : Thread nD τ).loc main_arg5) (ix2 k d) := by
    intro k; blk_ext [iblk, V_main_arg5, idx5 t]
  show blockAt _ _ _ _ (fun k => iblk m c 5 t (ix2 k (y 2))) (y 1) = fzOf m c ((win0_10.blk t).view.emb y)
  unfold fzOf
  rw [e0, e1, e2, ← hr, ← hd, block_entry]
  simp only [lw]

/-- What the third result array holds after the run. -/
theorem final11 (c : Dev nD) : (dats m 0 c).arrAt 11 cfg0.N = qkvOf m c := by
  refine (dats m 0 c).arrAt_eq_of_covers 11 _ (by decide +kernel) fun t hf y => ?_
  blk_simp
  rw [after11]
  obtain ⟨r, hr⟩ : ∃ r : Fin 1024, r = y 1 := ⟨_, rfl⟩
  obtain ⟨d, hd⟩ : ∃ d : Fin 1536, d = y 2 := ⟨_, rfl⟩
  have hN := lt_N t
  have h0 : (y 0).val = 0 := by have := (y 0).isLt; change (y 0).val < 1 at this; omega
  have e0 : ((win0_11.blk t).view.emb y) 0 = (⟨t.val / 4, by omega⟩ : Fin 8) := Fin.ext (by blk_simp [idx11 t]; first | done | simp [h0])
  have e1 : ((win0_11.blk t).view.emb y) 1 = (⟨t.val % 4 * 1024 + r.val, by omega⟩ : Fin 4096) := Fin.ext (by blk_simp [idx11 t]; first | done | simp [hr])
  have e2 : ((win0_11.blk t).view.emb y) 2 = d := Fin.ext (by blk_simp [idx11 t]; first | done | simp [hd])
  have lw : ∀ k : Fin 1024, iblk m c 6 t (ix2 k d) = m ((c : Thread nD τ).loc main_arg6) (ix2 k d) := by
    intro k; blk_ext [iblk, V_main_arg6, idx6 t]
  show blockAt _ _ _ _ (fun k => iblk m c 6 t (ix2 k (y 2))) (y 1) = qkvOf m c ((win0_11.blk t).view.emb y)
  unfold qkvOf
  rw [e0, e1, e2, ← hr, ← hd, block_entry]
  simp only [lw]

/-- What the fourth result array holds after the run. -/
theorem final12 (c : Dev nD) : (dats m 0 c).arrAt 12 cfg0.N = dzOf m c := by
  refine (dats m 0 c).arrAt_eq_of_covers 12 _ (by decide +kernel) fun t hf y => ?_
  blk_simp
  rw [after12]
  obtain ⟨r, hr⟩ : ∃ r : Fin 1024, r = y 1 := ⟨_, rfl⟩
  obtain ⟨d, hd⟩ : ∃ d : Fin 512, d = y 2 := ⟨_, rfl⟩
  have hN := lt_N t
  have h0 : (y 0).val = 0 := by have := (y 0).isLt; change (y 0).val < 1 at this; omega
  have e0 : ((win0_12.blk t).view.emb y) 0 = (⟨t.val / 4, by omega⟩ : Fin 8) := Fin.ext (by blk_simp [idx12 t]; first | done | simp [h0])
  have e1 : ((win0_12.blk t).view.emb y) 1 = (⟨t.val % 4 * 1024 + r.val, by omega⟩ : Fin 4096) := Fin.ext (by blk_simp [idx12 t]; first | done | simp [hr])
  have e2 : ((win0_12.blk t).view.emb y) 2 = d := Fin.ext (by blk_simp [idx12 t]; first | done | simp [hd])
  have lw : ∀ k : Fin 1024, iblk m c 7 t (ix2 k d) = m ((c : Thread nD τ).loc main_arg7) (ix2 k d) := by
    intro k; blk_ext [iblk, V_main_arg7, idx7 t]
  show blockAt _ _ _ _ (fun k => iblk m c 7 t (ix2 k (y 2))) (y 1) = dzOf m c ((win0_12.blk t).view.emb y)
  unfold dzOf
  rw [e0, e1, e2, ← hr, ← hd, block_entry]
  simp only [lw]

/-- What the fifth result array holds after the run. -/
theorem final13 (c : Dev nD) : (dats m 0 c).arrAt 13 cfg0.N = abOf m c := by
  refine (dats m 0 c).arrAt_eq_of_covers 13 _ (by decide +kernel) fun t hf y => ?_
  blk_simp
  rw [after13]
  obtain ⟨r, hr⟩ : ∃ r : Fin 1024, r = y 1 := ⟨_, rfl⟩
  obtain ⟨d, hd⟩ : ∃ d : Fin 128, d = y 2 := ⟨_, rfl⟩
  have hN := lt_N t
  have h0 : (y 0).val = 0 := by have := (y 0).isLt; change (y 0).val < 1 at this; omega
  have e0 : ((win0_13.blk t).view.emb y) 0 = (⟨t.val / 4, by omega⟩ : Fin 8) := Fin.ext (by blk_simp [idx13 t]; first | done | simp [h0])
  have e1 : ((win0_13.blk t).view.emb y) 1 = (⟨t.val % 4 * 1024 + r.val, by omega⟩ : Fin 4096) := Fin.ext (by blk_simp [idx13 t]; first | done | simp [hr])
  have e2 : ((win0_13.blk t).view.emb y) 2 = d := Fin.ext (by blk_simp [idx13 t]; first | done | simp [hd])
  have lw : ∀ k : Fin 1024, iblk m c 8 t (ix2 k d) = m ((c : Thread nD τ).loc main_arg8) (ix2 k d) := by
    intro k; blk_ext [iblk, V_main_arg8, idx8 t]
  show blockAt _ _ _ _ (fun k => iblk m c 8 t (ix2 k (y 2))) (y 1) = abOf m c ((win0_13.blk t).view.emb y)
  unfold abOf
  rw [e0, e1, e2, ← hr, ← hd, block_entry]
  simp only [lw]

end Cert.Proj1Value

end
-- ==== Proof.Proj1Ref.lean ====
/-
  What the reference of the first input projection computes, read at an index over the extended reals.
-/
module

public import proofs.«01_k».proof.Proof.Modulated
public import proofs.«01_k».proof.Proof.Gen.Proj1RefIdeal.Read

@[expose] public section

set_option maxRecDepth 16384

noncomputable section

namespace Cert.Proj1Ref

open Cert.Proj1RefIdeal Cert.Proj1RefIdeal.Gen Cert.Proj1RefIdeal.Read Idealize.ShloMosaic Cert.Modulated

variable (x : (⟨S8x4096x1024, .f32⟩ : BufTy).Contents (Elt Ideal)) (sc sh : (⟨S8x1x1024, .f32⟩ : BufTy).Contents (Elt Ideal))
  (g : (⟨S1024, .f32⟩ : BufTy).Contents (Elt Ideal))

/-- The sum of a token's squares. -/
theorem squares_apply (b : Fin 8) (r : Fin 4096) :
    val_main_v1 (F := Ideal) x (ix2 b r) = ∑ k : Fin 1024, x (ix3 b r k) * x (ix3 b r k) := by
  rw [val_main_v1_apply, val_main_cst_apply]
  have z : (FloatOps.ofBits .f32 0x00000000#32 : Ideal .f32) = (0 : EReal) := by
    show Ideal.ofBits .f32 0x00000000#32 = 0
    simp [Ideal.ofBits, Ideal.ieee]
  rw [z]
  refine (zero_add _).trans (Finset.sum_congr rfl fun k _ => ?_)
  rw [val_main_v0_apply]
  have e : idx_main_v1 (ix2 b r) k = ix3 b r k := by
    funext a
    match a with
    | ⟨0, _⟩ | ⟨1, _⟩ | ⟨2, _⟩ => rfl
  rw [e]
  rfl

/-- The reference's normalised token. -/
theorem hidden_apply (b : Fin 8) (r : Fin 4096) (e : Fin 1024) :
    val_main_v18 (F := Ideal) x sc sh g (ix3 b r e)
      = normed (fun k => x (ix3 b r k)) (fun k => g (ix1 k)) (fun k => sc (ix3 b 0 k)) (fun k => sh (ix3 b 0 k)) e := by
  rw [val_main_v18_apply, val_main_v16_apply, val_main_v12_apply, val_main_v9_apply, val_main_v8_apply, val_main_v7_apply,
    val_main_v6_apply, val_main_v4_apply, val_main_v2_apply, val_main_v3_apply, val_main_v5_apply, val_main_cst_0_apply,
    val_main_cst_1_apply, val_main_v11_apply, val_main_v10_apply, val_main_v15_apply, val_main_v14_apply, val_main_v13_apply,
    val_main_cst_2_apply, val_main_v17_apply]
  have e1 : idx_main_v2 (idx_main_v8 (ix3 b r e)) = ix2 b r := by
    funext a
    match a with
    | ⟨0, _⟩ | ⟨1, _⟩ => rfl
  have e2 : idx_main_v10 (idx_main_v11 (ix3 b r e)) = ix1 e := by
    funext a
    match a with
    | ⟨0, _⟩ => rfl
  have e3 : idx_main_v15 (ix3 b r e) = ix3 b 0 e := by
    funext a
    match a with
    | ⟨0, _⟩ | ⟨1, _⟩ | ⟨2, _⟩ => rfl
  have e4 : idx_main_v17 (ix3 b r e) = ix3 b 0 e := by
    funext a
    match a with
    | ⟨0, _⟩ | ⟨1, _⟩ | ⟨2, _⟩ => rfl
  rw [e1, e2, e3, e4, squares_apply]
  rfl

/-- The Fourier mixer's input columns, token by token. -/
theorem input_apply (w : (⟨S1024x512, .bf16⟩ : BufTy).Contents (Elt Ideal)) (b : Fin 8) (r : Fin 4096) (d : Fin 512) :
    val_main_v20 (F := Ideal) x sc sh g w (ix3 b r d)
      = project (fun k => x (ix3 b r k)) (fun k => g (ix1 k)) (fun k => sc (ix3 b 0 k)) (fun k => sh (ix3 b 0 k)) (fun k => w (ix2 k d)) := by
  refine (val_main_v20_apply x sc sh g w (ix3 b r d)).trans (Finset.sum_congr rfl fun k _ => ?_)
  rw [← hidden_apply]
  refine congrArg₂ (· * ·) (congrArg (val_main_v18 (F := Ideal) x sc sh g) ?_) (congrArg w ?_)
  · funext a
    match a with
    | ⟨0, _⟩ | ⟨1, _⟩ | ⟨2, _⟩ => rfl
  · funext a
    match a with
    | ⟨0, _⟩ | ⟨1, _⟩ => rfl

/-- The reference's first result: those columns, a group's tokens one after the other. -/
theorem fft_apply (w : (⟨S1024x512, .bf16⟩ : BufTy).Contents (Elt Ideal)) (b : Fin 8) (h : Fin 64) (e : Fin 32768) :
    val_main_v30 (F := Ideal) x sc sh g w (ix3 b h e)
      = project (fun k => x (ix3 b (⟨64 * h.val + e.val / 512, by omega⟩ : Fin 4096) k)) (fun k => g (ix1 k)) (fun k => sc (ix3 b 0 k))
          (fun k => sh (ix3 b 0 k)) (fun k => w (ix2 k (⟨e.val % 512, by omega⟩ : Fin 512))) := by
  rw [val_main_v30_apply, val_main_v29_apply]
  refine Eq.trans ?_ (input_apply x sc sh g w b ⟨64 * h.val + e.val / 512, by omega⟩ ⟨e.val % 512, by omega⟩)
  refine congrArg (val_main_v20 (F := Ideal) x sc sh g w) ?_
  funext a
  have hb := b.isLt
  have hh := h.isLt
  have he := e.isLt
  match a with
  | ⟨0, _⟩ => exact Fin.ext (by show ((b.val * 64 + h.val) * 32768 + e.val) / 2097152 = b.val; omega)
  | ⟨1, _⟩ => exact Fin.ext (by show ((b.val * 64 + h.val) * 32768 + e.val) / 512 % 4096 = 64 * h.val + e.val / 512; omega)
  | ⟨2, _⟩ => exact Fin.ext (by show ((b.val * 64 + h.val) * 32768 + e.val) % 512 = e.val % 512; omega)

/-- The reference's second result: the Fourier mixer's gate's columns. -/
theorem fz_apply (w : (⟨S1024x512, .bf16⟩ : BufTy).Contents (Elt Ideal)) (b : Fin 8) (r : Fin 4096) (d : Fin 512) :
    val_main_v31 (F := Ideal) x sc sh g w (ix3 b r d)
      = project (fun k => x (ix3 b r k)) (fun k => g (ix1 k)) (fun k => sc (ix3 b 0 k)) (fun k => sh (ix3 b 0 k)) (fun k => w (ix2 k d)) := by
  rw [val_main_v31_apply]
  refine (val_main_v22_apply x sc sh g w (ix3 b r d)).trans (Finset.sum_congr rfl fun k _ => ?_)
  rw [← hidden_apply]
  refine congrArg₂ (· * ·) (congrArg (val_main_v18 (F := Ideal) x sc sh g) ?_) (congrArg w ?_)
  · funext a
    match a with
    | ⟨0, _⟩ | ⟨1, _⟩ | ⟨2, _⟩ => rfl
  · funext a
    match a with
    | ⟨0, _⟩ | ⟨1, _⟩ => rfl

/-- The reference's third result: the delta rule's queries, keys and values. -/
theorem qkv_apply (w : (⟨S1024x1536, .bf16⟩ : BufTy).Contents (Elt Ideal)) (b : Fin 8) (r : Fin 4096) (d : Fin 1536) :
    val_main_v32 (F := Ideal) x sc sh g w (ix3 b r d)
      = project (fun k => x (ix3 b r k)) (fun k => g (ix1 k)) (fun k => sc (ix3 b 0 k)) (fun k => sh (ix3 b 0 k)) (fun k => w (ix2 k d)) := by
  rw [val_main_v32_apply]
  refine (val_main_v24_apply x sc sh g w (ix3 b r d)).trans (Finset.sum_congr rfl fun k _ => ?_)
  rw [← hidden_apply]
  refine congrArg₂ (· * ·) (congrArg (val_main_v18 (F := Ideal) x sc sh g) ?_) (congrArg w ?_)
  · funext a
    match a with
    | ⟨0, _⟩ | ⟨1, _⟩ | ⟨2, _⟩ => rfl
  · funext a
    match a with
    | ⟨0, _⟩ | ⟨1, _⟩ => rfl

/-- The reference's fourth result: the delta rule's gate's columns. -/
theorem dz_apply (w : (⟨S1024x512, .bf16⟩ : BufTy).Contents (Elt Ideal)) (b : Fin 8) (r : Fin 4096) (d : Fin 512) :
    val_main_v33 (F := Ideal) x sc sh g w (ix3 b r d)
      = project (fun k => x (ix3 b r k)) (fun k => g (ix1 k)) (fun k => sc (ix3 b 0 k)) (fun k => sh (ix3 b 0 k)) (fun k => w (ix2 k d)) := by
  rw [val_main_v33_apply]
  refine (val_main_v26_apply x sc sh g w (ix3 b r d)).trans (Finset.sum_congr rfl fun k _ => ?_)
  rw [← hidden_apply]
  refine congrArg₂ (· * ·) (congrArg (val_main_v18 (F := Ideal) x sc sh g) ?_) (congrArg w ?_)
  · funext a
    match a with
    | ⟨0, _⟩ | ⟨1, _⟩ | ⟨2, _⟩ => rfl
  · funext a
    match a with
    | ⟨0, _⟩ | ⟨1, _⟩ => rfl

/-- The reference's fifth result: the delta rule's two rates' columns. -/
theorem ab_apply (w : (⟨S1024x128, .bf16⟩ : BufTy).Contents (Elt Ideal)) (b : Fin 8) (r : Fin 4096) (d : Fin 128) :
    val_main_v28 (F := Ideal) x sc sh g w (ix3 b r d)
      = project (fun k => x (ix3 b r k)) (fun k => g (ix1 k)) (fun k => sc (ix3 b 0 k)) (fun k => sh (ix3 b 0 k)) (fun k => w (ix2 k d)) := by
  refine (val_main_v28_apply x sc sh g w (ix3 b r d)).trans (Finset.sum_congr rfl fun k _ => ?_)
  rw [← hidden_apply]
  refine congrArg₂ (· * ·) (congrArg (val_main_v18 (F := Ideal) x sc sh g) ?_) (congrArg w ?_)
  · funext a
    match a with
    | ⟨0, _⟩ | ⟨1, _⟩ | ⟨2, _⟩ => rfl
  · funext a
    match a with
    | ⟨0, _⟩ | ⟨1, _⟩ => rfl

end Cert.Proj1Ref

end
-- ==== Proof.Proj1Eq.lean ====
/-
  The claims about the first input projection: its reference's frame, and the equality of the kernel's five result
  arrays with the reference's.
-/
module

public import proofs.«01_k».proof.Defs
public import proofs.«01_k».proof.Proof.Proj1Array
public import proofs.«01_k».proof.Proof.Proj1Ref
public import proofs.«01_k».proof.Proof.Proj2Eq
public import Idealize.ShloMosaic.Lib.Quiescent

@[expose] public section

noncomputable section

namespace Cert.Proof

open Idealize.ShloMosaic Idealize.ShloMosaic.TcCoe Idealize.SL.Sem

/-- The projection's reference runs to the end, its arguments unchanged and every counter at zero. -/
theorem proj1_reference_frame : Cert.quiescent_Proj1RefIdeal := by
  intro m ρ _
  exact (θ_run _ _ _).mono (fun r h => ⟨fun c => (h c).2.2.2.2.2, sem_eq_zero_of_no_sems (by decide) r.2⟩) (Cert.Proj1RefIdeal.Value.run (F := Ideal) m ρ)

/-- The ideal projection and its reference end with the same five result arrays, from the same arguments. -/
theorem proj1_algebraic : Cert.algebraic_Proj1Ideal_Proj1RefIdeal := by
  intro m ρ m' ρ' _ hag
  refine ⟨fun c => Cert.Proj1Value.fftOf m c, fun c => Cert.Proj1Value.fzOf m c, fun c => Cert.Proj1Value.qkvOf m c, fun c => Cert.Proj1Value.dzOf m c, fun c => Cert.Proj1Value.abOf m c, ?_, ?_⟩
  · exact (θ_run _ _ _).mono (fun _ h c => ⟨((h c).1).trans (Cert.Proj1Value.final9 m c),
      ((h c).2.1).trans (Cert.Proj1Value.final10 m c),
      ((h c).2.2.1).trans (Cert.Proj1Value.final11 m c),
      ((h c).2.2.2.1).trans (Cert.Proj1Value.final12 m c),
      ((h c).2.2.2.2.1).trans (Cert.Proj1Value.final13 m c), (h c).2.2.2.2.2⟩) (Cert.Proj1Ideal.Value.run_blocks m ρ)
  · refine (θ_run _ _ _).mono (fun _ h c => ⟨((h c).1).trans ?_, ((h c).2.1).trans ?_, ((h c).2.2.1).trans ?_, ((h c).2.2.2.1).trans ?_, ((h c).2.2.2.2.1).trans ?_,
      (h c).2.2.2.2.2⟩) (Cert.Proj1RefIdeal.Value.run (F := Ideal) m' ρ')
    · obtain ⟨h0, h1, h2, h3, h4, h5, h6, h7, h8⟩ := hag c
      rw [h0, h1, h2, h3, h4]
      refine (Cert.Proj1RefIdeal.Read.val_main_v30_eq _ _ _ _ _).trans ?_
      funext i
      rw [ix3_self (n₀ := 8) (n₁ := 64) (n₂ := 32768) i]
      exact Cert.Proj1Ref.fft_apply _ _ _ _ _ (i 0) (i 1) (i 2)
    · obtain ⟨h0, h1, h2, h3, h4, h5, h6, h7, h8⟩ := hag c
      rw [h0, h1, h2, h3, h5]
      refine (Cert.Proj1RefIdeal.Read.val_main_v31_eq _ _ _ _ _).trans ?_
      funext i
      rw [ix3_self (n₀ := 8) (n₁ := 4096) (n₂ := 512) i]
      exact Cert.Proj1Ref.fz_apply _ _ _ _ _ (i 0) (i 1) (i 2)
    · obtain ⟨h0, h1, h2, h3, h4, h5, h6, h7, h8⟩ := hag c
      rw [h0, h1, h2, h3, h6]
      refine (Cert.Proj1RefIdeal.Read.val_main_v32_eq _ _ _ _ _).trans ?_
      funext i
      rw [ix3_self (n₀ := 8) (n₁ := 4096) (n₂ := 1536) i]
      exact Cert.Proj1Ref.qkv_apply _ _ _ _ _ (i 0) (i 1) (i 2)
    · obtain ⟨h0, h1, h2, h3, h4, h5, h6, h7, h8⟩ := hag c
      rw [h0, h1, h2, h3, h7]
      refine (Cert.Proj1RefIdeal.Read.val_main_v33_eq _ _ _ _ _).trans ?_
      funext i
      rw [ix3_self (n₀ := 8) (n₁ := 4096) (n₂ := 512) i]
      exact Cert.Proj1Ref.dz_apply _ _ _ _ _ (i 0) (i 1) (i 2)
    · obtain ⟨h0, h1, h2, h3, h4, h5, h6, h7, h8⟩ := hag c
      rw [h0, h1, h2, h3, h8]
      refine (Cert.Proj1RefIdeal.Read.val_main_v28_eq _ _ _ _ _).trans ?_
      funext i
      rw [ix3_self (n₀ := 8) (n₁ := 4096) (n₂ := 128) i]
      exact Cert.Proj1Ref.ab_apply _ _ _ _ _ (i 0) (i 1) (i 2)

end Cert.Proof

end
-- ==== Proof.AttnPre.lean ====
/-
  What the attention's precondition says: every query and every key is a real number, and value row 64, which carries the
  denominator, is one throughout.
-/
module

public import proofs.«01_k».proof.Pre_attention_pre
public import Idealize.ShloMosaic.Lib.Pointwise
public import Idealize.ShloMosaic.Lib.ReduceAll
public import Idealize.ShloMosaic.PureOps.Ideal.Laws

@[expose] public section

set_option maxRecDepth 16384

noncomputable section

namespace Cert.AttnPre

open Cert.Pre_attention_pre Idealize.ShloMosaic

/-- The shape relations the precondition's operations take. -/
instance facts : Cert.Pre_attention_pre.Facts := by constructor <;> decide

/-- A conjunction of two bits is one when both are. -/
theorem bits_and (x y : BitVec 1) (h : IntOp.andi x y = 1#1) : x = 1#1 ∧ y = 1#1 := by
  revert x y
  decide

theorem ofBool_one (p : Bool) (h : BitVec.ofBool p = 1#1) : p = true := by
  revert p
  decide

/-- Plus infinity, as the comparison's word spells it. -/
theorem ofBits_inf : Ideal.ofBits .f32 0x7F800000#32 = (⊤ : EReal) := by
  simp [Ideal.ofBits, Ideal.ieee]

/-- One, as the comparison's word spells it. -/
theorem ofBits_one : Ideal.ofBits .f32 0x3F800000#32 = (1 : EReal) := by
  simp [Ideal.ofBits, Ideal.ieee]
  rw [← EReal.coe_mul]
  norm_num

/-- A number whose absolute value is below infinity is real. -/
theorem real_of_abs_lt (x : EReal) (h : max x (-x) < ⊤) : ∃ r : ℝ, x = (r : EReal) := by
  induction x using EReal.rec with
  | bot => simp at h
  | top => simp at h
  | coe r => exact ⟨r, rfl⟩

instance : Subsingleton S_.Idx := ⟨fun _ _ => funext fun a => a.elim0⟩

/-- `jnp.all (jnp.isfinite-like comparison)`: every element is real. -/
theorem all_real {s : Shape} {axes : List (Fin s.rank)} (x : FVec Ideal s .bf16) (hb : FTy.bits .bf16 < FTy.bits .f32)
    (hc : S_.BroadcastsInDim s (![] : Fin 0 → Fin s.rank)) (h : s.ReducesTo axes S_) (hu : 0 < S_.numel) (j : S_.Idx)
    (e : Host.reduce IntOp.andi (cmpf .olt (Host.absf (extf .f32 x hb)) (broadcastInDim s ![] hc (constant S_ .f32 0x7F800000#32)))
      (constantI S_ 1 1#1) h hu j = 1#1) (i : s.Idx) : ∃ r : ℝ, x i = (r : EReal) := by
  have e' : BitVec.ofBool (decide (max (x i : EReal) (-(x i : EReal)) < Ideal.ofBits .f32 0x7F800000#32)) = 1#1 :=
    Host.reduce_andi_all _ _ h hu j e i
  have l := of_decide_eq_true (ofBool_one _ e')
  rw [ofBits_inf] at l
  exact real_of_abs_lt _ l

/-- Every element equals one. -/
theorem all_one {s : Shape} {axes : List (Fin s.rank)} (x : FVec Ideal s .bf16) (hb : FTy.bits .bf16 < FTy.bits .f32)
    (hc : S_.BroadcastsInDim s (![] : Fin 0 → Fin s.rank)) (h : s.ReducesTo axes S_) (hu : 0 < S_.numel) (j : S_.Idx)
    (e : Host.reduce IntOp.andi (cmpf .oeq (extf .f32 x hb) (broadcastInDim s ![] hc (constant S_ .f32 0x3F800000#32)))
      (constantI S_ 1 1#1) h hu j = 1#1) (i : s.Idx) : x i = (1 : EReal) := by
  have e' : BitVec.ofBool (decide ((x i : EReal) = Ideal.ofBits .f32 0x3F800000#32)) = 1#1 :=
    Host.reduce_andi_all _ _ h hu j e i
  exact (of_decide_eq_true (ofBool_one _ e')).trans ofBits_one

/-- Row 64 of the values, as the precondition cuts it out. -/
theorem row_apply (v : FVec Ideal S8x8x128x4096 .bf16) (b h : Fin 8) (j : Fin 4096) :
    shapeCast S8x8x4096 (extractStridedSlice S8x8x1x4096 ![0, 0, 64, 0] v Facts.slices_S8x8x128x4096_S8x8x1x4096_0_0_64_0)
      Facts.shapeCasts_S8x8x1x4096_S8x8x4096 (ix3 b h j) = v (ix4 b h 64 j) := by
  pointwise

/-- Row 64 of the context values. -/
theorem ctxRow_apply (v : FVec Ideal S8x8x128x256 .bf16) (b h : Fin 8) (j : Fin 256) :
    shapeCast S8x8x256 (extractStridedSlice S8x8x1x256 ![0, 0, 64, 0] v Facts.slices_S8x8x128x256_S8x8x1x256_0_0_64_0)
      Facts.shapeCasts_S8x8x1x256_S8x8x256 (ix3 b h j) = v (ix4 b h 64 j) := by
  pointwise

variable (q k : FVec Ideal S8x8x4096x128 .bf16) (kc : FVec Ideal S8x8x256x128 .bf16) (v : FVec Ideal S8x8x128x4096 .bf16)
  (vc : FVec Ideal S8x8x128x256 .bf16)

/-- The precondition, read: real queries, real keys, real context keys, and row 64 of both value arrays is one. -/
theorem read (h : fn (F := Ideal) q k kc v vc = fun _ => 1#1) :
    (∀ i, ∃ r : ℝ, q i = (r : EReal)) ∧ (∀ i, ∃ r : ℝ, k i = (r : EReal)) ∧ (∀ i, ∃ r : ℝ, kc i = (r : EReal))
      ∧ (∀ b h j, v (ix4 b h 64 j) = (1 : EReal)) ∧ (∀ b h j, vc (ix4 b h 64 j) = (1 : EReal)) := by
  obtain ⟨e, e4⟩ := bits_and _ _ (show IntOp.andi _ _ = 1#1 from congrFun h fun a => a.elim0)
  obtain ⟨e, e3⟩ := bits_and _ _ e
  obtain ⟨e, e2⟩ := bits_and _ _ e
  obtain ⟨e0, e1⟩ := bits_and _ _ e
  exact ⟨all_real q _ _ _ _ _ e0, all_real k _ _ _ _ _ e1, all_real kc _ _ _ _ _ e2,
    fun b h j => (row_apply v b h j).symm.trans (all_one _ _ _ _ _ _ e3 (ix3 b h j)),
    fun b h j => (ctxRow_apply vc b h j).symm.trans (all_one _ _ _ _ _ _ e4 (ix3 b h j))⟩

end Cert.AttnPre
-- ==== Proof.Softmax.lean ====
/-
  The softmax of real scores, over the extended reals: the two forms the attention proof meets. Both are the average of
  the values with weights `2 ^ score / Σ 2 ^ score`. Nothing here is about any program.
-/
module

public import Idealize.ShloMosaic.PureOps.Ideal.Laws
public import Mathlib.Analysis.SpecialFunctions.Pow.Real

@[expose] public section

noncomputable section

namespace Cert.Softmax

open Idealize.ShloMosaic

variable {ι κ : Type} [Fintype ι] [Fintype κ]

/-- A finite sum of reals, read as extended reals, is the sum of the extended reals. -/
theorem coe_sum (f : ι → ℝ) : ((∑ i, f i : ℝ) : EReal) = ∑ i, (f i : EReal) := by
  classical
  refine Finset.induction_on (motive := fun s => ((∑ i ∈ s, f i : ℝ) : EReal) = ∑ i ∈ s, (f i : EReal)) Finset.univ (by simp) ?_
  intro a s ha ih
  rw [Finset.sum_insert ha, Finset.sum_insert ha, EReal.coe_add, ih]

/-- A nonnegative real factor goes into a finite sum of extended reals. -/
theorem sum_mul_coe (c : ℝ) (hc : 0 ≤ c) (f : ι → EReal) : (∑ i, f i) * (c : EReal) = ∑ i, f i * (c : EReal) := by
  classical
  refine Finset.induction_on (motive := fun s => (∑ i ∈ s, f i) * (c : EReal) = ∑ i ∈ s, f i * (c : EReal)) Finset.univ (by simp) ?_
  intro a s ha ih
  rw [Finset.sum_insert ha, Finset.sum_insert ha, ← ih]
  exact EReal.right_distrib_of_nonneg_of_ne_top (by exact_mod_cast hc) (EReal.coe_ne_top c) _ _

/-- The maximum of finitely many reals, at least one, started from minus infinity, is a real. -/
theorem fold_max_real [Nonempty ι] (s : ι → ℝ) :
    ∃ m : ℝ, Finset.univ.fold max (⊥ : EReal) (fun i => (s i : EReal)) = (m : EReal) := by
  classical
  have h : ∀ S : Finset ι, (S.fold max (⊥ : EReal) (fun i => (s i : EReal)) = ⊥ ∧ S = ∅)
      ∨ ∃ m : ℝ, S.fold max (⊥ : EReal) (fun i => (s i : EReal)) = (m : EReal) := by
    intro S
    refine Finset.induction_on S (Or.inl ⟨by simp, rfl⟩) ?_
    intro a S ha ih
    right
    rw [Finset.fold_insert ha]
    rcases ih with ⟨h, -⟩ | ⟨m, h⟩
    · exact ⟨s a, by rw [h]; simp⟩
    · exact ⟨max (s a) m, by rw [h]; exact (EReal.coe_strictMono.monotone.map_max).symm⟩
  rcases h Finset.univ with ⟨-, h⟩ | h
  · exact absurd h Finset.univ_nonempty.ne_empty
  · exact h

/-- The weight of key `i` among all: two to its score, over the sum. -/
def weight (s : ι → ℝ) (i : ι) : ℝ := (2 : ℝ) ^ s i / ∑ j, (2 : ℝ) ^ s j

/-- The average of `v` with the softmax weights of the scores `s` (to the base two). -/
def average (s : ι → ℝ) (v : ι → EReal) : EReal := ∑ i, v i * (weight s i : EReal)

theorem two_pow_sum_pos [Nonempty ι] (s : ι → ℝ) : 0 < ∑ j, (2 : ℝ) ^ s j :=
  Finset.sum_pos (fun _ _ => Real.rpow_pos_of_pos (by norm_num) _) Finset.univ_nonempty

theorem weight_nonneg (s : ι → ℝ) (i : ι) : 0 ≤ weight s i :=
  div_nonneg (Real.rpow_nonneg (by norm_num) _) (Finset.sum_nonneg fun _ _ => Real.rpow_nonneg (by norm_num) _)

/-- Shifting every score by the same number leaves the weights as they are. -/
theorem weight_shift (s : ι → ℝ) (m : ℝ) (i : ι) :
    (2 : ℝ) ^ (s i - m) / ∑ j, (2 : ℝ) ^ (s j - m) = weight s i := by
  have hm : (0 : ℝ) < 2 ^ m := Real.rpow_pos_of_pos (by norm_num) _
  have h : ∀ j, (2 : ℝ) ^ (s j - m) = (2 : ℝ) ^ s j / 2 ^ m := fun j => Real.rpow_sub (by norm_num) _ _
  simp only [h, ← Finset.sum_div, weight]
  field_simp

/-- THE DEFERRED FORM: the values summed with the unnormalized weights of the shifted scores, then divided by the sum of
    those weights, is the softmax average. -/
theorem deferred_eq_average [Nonempty ι] (s : ι → ℝ) (m : ℝ) (v : ι → EReal) :
    Ideal.div (∑ i, v i * Ideal.exp2 ((s i : EReal) - (m : EReal))) (∑ i, (1 : EReal) * Ideal.exp2 ((s i : EReal) - (m : EReal)))
      = average s v := by
  have he : ∀ i, Ideal.exp2 ((s i : EReal) - (m : EReal)) = (((2 : ℝ) ^ (s i - m) : ℝ) : EReal) := by
    intro i
    rw [← EReal.coe_sub]
    rfl
  have hp := two_pow_sum_pos fun i => s i - m
  simp only [he, one_mul]
  rw [← coe_sum, Ideal.div_coe hp.ne', sum_mul_coe _ (by positivity)]
  refine Finset.sum_congr rfl fun i _ => ?_
  rw [mul_assoc, ← EReal.coe_mul, mul_one_div, weight_shift]

/-- THE PLAIN FORM: each value times its own softmax weight, the weights those of the exponentials of the scores times
    the logarithm of two, shifted, is the softmax average. -/
theorem plain_eq_average [Nonempty ι] (s : ι → ℝ) (m : ℝ) (v : ι → EReal) :
    (∑ i, v i * Ideal.div (Ideal.exp ((s i : EReal) * (Real.log 2 : EReal) - (m : EReal)))
        (∑ j, Ideal.exp ((s j : EReal) * (Real.log 2 : EReal) - (m : EReal))))
      = average s v := by
  have hl : (Real.log 2 : ℝ) ≠ 0 := (Real.log_pos (by norm_num)).ne'
  have he : ∀ i, Ideal.exp ((s i : EReal) * (Real.log 2 : EReal) - (m : EReal)) = (((2 : ℝ) ^ (s i - m / Real.log 2) : ℝ) : EReal) := by
    intro i
    rw [← EReal.coe_mul, ← EReal.coe_sub]
    show ((Real.exp (s i * Real.log 2 - m) : ℝ) : EReal) = _
    congr 1
    rw [Real.rpow_def_of_pos (by norm_num)]
    congr 1
    field_simp
  have hp := two_pow_sum_pos fun i => s i - m / Real.log 2
  simp only [he]
  rw [← coe_sum]
  refine Finset.sum_congr rfl fun i _ => ?_
  rw [Ideal.div_coe hp.ne', ← EReal.coe_mul, mul_one_div, weight_shift]

/-- Naming the keys differently leaves the average as it is. -/
theorem average_equiv (e : ι ≃ κ) (s : κ → ℝ) (v : κ → EReal) : average (fun i => s (e i)) (fun i => v (e i)) = average s v := by
  have h : ∀ i, weight (fun i => s (e i)) i = weight s (e i) := by
    intro i
    unfold weight
    rw [Equiv.sum_comp e fun j => (2 : ℝ) ^ s j]
  unfold average
  simp only [h]
  exact Equiv.sum_comp e fun j => v j * (weight s j : EReal)

end Cert.Softmax

end
-- ==== Proof.PrepMath.lean ====
/-
  The query and key preparation of one token, over the extended reals: a latent over its root mean square, and the
  columns its projections and rotations give.
-/
module

public import proofs.«01_k».proof.Proof.Softmax

@[expose] public section

noncomputable section

namespace Cert.PrepMath

open Idealize.ShloMosaic

/-- Column `e` of a row over its root mean square, scaled by the weight `g`; `c` is the row's length. -/
def rowNorm {n : ℕ} (x g : Fin n → EReal) (c : EReal) (e : Fin n) : EReal :=
  x e * Ideal.rsqrt (Ideal.div (∑ k, x k * x k) c + Ideal.ofBits .f32 0x358637BD#32) * g e

/-- The column of head `h`, of eight heads of 128 columns beside each other. -/
def col (h : Fin 8) (d : Fin 128) : Fin 1024 := ⟨h.val * 128 + d.val, by omega⟩

/-- The small constant the root mean square adds is a positive real. -/
theorem eps_pos : ∃ e : ℝ, 0 < e ∧ Ideal.ofBits .f32 0x358637BD#32 = (e : EReal) := by
  refine ⟨8796093 * 2 ^ (-43 : ℤ), by positivity, ?_⟩
  simp [Ideal.ofBits, Ideal.ieee]

/-- 384, as its word spells it. -/
theorem len_word : Ideal.ofBits .f32 0x43C00000#32 = ((384 : ℝ) : EReal) := by
  simp [Ideal.ofBits, Ideal.ieee]
  rw [← EReal.coe_mul]
  norm_num

/-- A square is not negative. -/
theorem square_nonneg (a : EReal) : 0 ≤ a * a := by
  rcases le_total 0 a with h | h
  · exact mul_nonneg h h
  · have := mul_nonneg (EReal.neg_nonneg.2 h) (EReal.neg_nonneg.2 h)
    rwa [neg_mul_neg] at this

/-- An unbounded number's square is plus infinity. -/
theorem square_top (a : EReal) (h : ¬∃ r : ℝ, a = (r : EReal)) : a * a = ⊤ := by
  induction a using EReal.rec with
  | bot => rfl
  | top => rfl
  | coe r => exact absurd ⟨r, rfl⟩ h

/-- A row over its root mean square is real wherever its weight is: an unbounded row gives zero. -/
theorem rowNorm_real {n : ℕ} (x g : Fin n → EReal) (c : EReal) (l : ℝ) (hl : 0 < l) (hc : c = (l : EReal))
    (hg : ∀ k, ∃ r : ℝ, g k = (r : EReal)) (e : Fin n) : ∃ r : ℝ, rowNorm x g c e = (r : EReal) := by
  obtain ⟨ep, hep, hw⟩ := eps_pos
  obtain ⟨w, hgw⟩ := hg e
  have hl0 : ((l : ℝ) : EReal) ≠ 0 := by exact_mod_cast hl.ne'
  unfold rowNorm
  rw [hw, hgw, hc]
  have hd : Ideal.div (∑ k, x k * x k) (l : EReal) = (∑ k, x k * x k) * ((l⁻¹ : ℝ) : EReal) := by
    unfold Ideal.div
    rw [if_neg hl0, ← EReal.coe_inv]
  rw [hd]
  by_cases h : ∀ k, ∃ r : ℝ, x k = (r : EReal)
  · choose y hy using h
    have hs : ∑ k, x k * x k = ((∑ k, y k * y k : ℝ) : EReal) := by
      rw [Softmax.coe_sum]
      exact Finset.sum_congr rfl fun k _ => by rw [hy k, EReal.coe_mul]
    have hp : 0 ≤ ∑ k, y k * y k := Finset.sum_nonneg fun k _ => mul_self_nonneg (y k)
    have ht : 0 < (∑ k, y k * y k) * l⁻¹ + ep := by positivity
    have hr : Ideal.rsqrt (((∑ k, y k * y k) * l⁻¹ + ep : ℝ) : EReal)
        = (((Real.sqrt ((∑ k, y k * y k) * l⁻¹ + ep))⁻¹ : ℝ) : EReal) := by
      show (if _ < 0 then ⊥ else if _ = 0 then ⊤ else _) = _
      rw [if_neg (not_lt.2 ht.le), if_neg ht.ne']
    rw [hs, ← EReal.coe_mul, ← EReal.coe_add, hr, hy e, ← EReal.coe_mul, ← EReal.coe_mul]
    exact ⟨_, rfl⟩
  · obtain ⟨k, hk⟩ := not_forall.1 h
    have ht : x k * x k = ⊤ := square_top _ hk
    have hs : ∑ k, x k * x k = ⊤ :=
      top_le_iff.1 (ht ▸ Finset.single_le_sum (f := fun k => x k * x k) (fun k _ => square_nonneg (x k)) (Finset.mem_univ k))
    have hz : Ideal.rsqrt ⊤ = 0 := rfl
    rw [hs, EReal.top_mul_coe_of_pos (inv_pos.2 hl), EReal.top_add_coe, hz, mul_zero, zero_mul]
    exact ⟨0, rfl⟩

/-- A sum of reals times negated reals is the negated sum. -/
theorem sum_neg {n : ℕ} (a b : Fin n → EReal) (ha : ∀ k, ∃ r : ℝ, a k = (r : EReal)) (hb : ∀ k, ∃ r : ℝ, b k = (r : EReal)) :
    ∑ k, a k * -b k = -∑ k, a k * b k := by
  choose u hu using ha
  choose v hv using hb
  have h1 : ∑ k, a k * -b k = ((∑ k, u k * -v k : ℝ) : EReal) := by
    rw [Softmax.coe_sum]
    exact Finset.sum_congr rfl fun k _ => by rw [hu k, hv k, EReal.coe_mul, EReal.coe_neg]
  have h2 : ∑ k, a k * b k = ((∑ k, u k * v k : ℝ) : EReal) := by
    rw [Softmax.coe_sum]
    exact Finset.sum_congr rfl fun k _ => by rw [hu k, hv k, EReal.coe_mul]
  rw [h1, h2, ← EReal.coe_neg]
  exact congrArg _ (by simp)

/-- 128 columns: 64 without position, 32 with position, and 32 of padding. -/
def tri (a : Fin 64 → EReal) (b : Fin 32 → EReal) (z : EReal) (d : Fin 128) : EReal :=
  if h : d.val < 64 then a ⟨d.val, h⟩ else if h : d.val - 64 < 32 then b ⟨d.val - 64, h⟩ else z

/-- The quarter turn of 32 rotary columns: each half of 16 is a pair of eights, turned to the negated second and the first. -/
def turn (f : Fin 32 → EReal) (j : Fin 32) : EReal :=
  if h : j.val % 16 < 8 then -f ⟨j.val + 8, by omega⟩ else f ⟨j.val - 8, by omega⟩

theorem tri_lo (a : Fin 64 → EReal) (b : Fin 32 → EReal) (z : EReal) (d : Fin 128) (h : d.val < 64) : tri a b z d = a ⟨d.val, h⟩ :=
  dif_pos h
theorem tri_mid (a : Fin 64 → EReal) (b : Fin 32 → EReal) (z : EReal) (d : Fin 128) (h : ¬d.val < 64) (h' : d.val - 64 < 32) :
    tri a b z d = b ⟨d.val - 64, h'⟩ := (dif_neg h).trans (dif_pos h')
theorem tri_hi (a : Fin 64 → EReal) (b : Fin 32 → EReal) (z : EReal) (d : Fin 128) (h : ¬d.val < 64) (h' : ¬d.val - 64 < 32) :
    tri a b z d = z := (dif_neg h).trans (dif_neg h')
theorem turn_lo (f : Fin 32 → EReal) (j : Fin 32) (h : j.val % 16 < 8) : turn f j = -f ⟨j.val + 8, by omega⟩ := dif_pos h
theorem turn_hi (f : Fin 32 → EReal) (j : Fin 32) (h : ¬j.val % 16 < 8) : turn f j = f ⟨j.val - 8, by omega⟩ := dif_neg h

/-- A row of reals times turned real weights is the turned row of products. -/
theorem sum_turn {n : ℕ} (h : Fin n → EReal) (w : Fin n → Fin 32 → EReal) (hh : ∀ k, ∃ r : ℝ, h k = (r : EReal))
    (hw : ∀ k j, ∃ r : ℝ, w k j = (r : EReal)) (j : Fin 32) :
    ∑ k, h k * turn (w k) j = turn (fun i => ∑ k, h k * w k i) j := by
  unfold turn
  split_ifs with c
  · exact sum_neg _ _ hh fun k => hw k _
  · rfl

/-- The query's 128 columns: the plain projection on the padded cosine table plus the turned projection on the padded
    sine table is the columns without position, then the rotated ones, then zero. -/
theorem query_eq {n : ℕ} (h : Fin n → EReal) (w : Fin n → Fin 64 → EReal) (u : Fin n → Fin 32 → EReal) (c s : Fin 32 → EReal)
    (hh : ∀ k, ∃ r : ℝ, h k = (r : EReal)) (hu : ∀ k j, ∃ r : ℝ, u k j = (r : EReal)) (d : Fin 128) :
    (∑ k, h k * tri (w k) (u k) 0 d) * tri (fun _ => 1) c 0 d + (∑ k, h k * tri (fun _ => 0) (turn (u k)) 0 d) * tri (fun _ => 0) s 0 d
      = tri (fun j => ∑ k, h k * w k j) (fun j => (∑ k, h k * u k j) * c j + turn (fun i => ∑ k, h k * u k i) j * s j) 0 d := by
  unfold tri
  split_ifs with h1 h2
  · simp
  · rw [sum_turn h u hh hu]
  · simp

/-- The key's 128 columns: its own columns, padded, plus the padded rotary key. -/
theorem key_eq {n : ℕ} (h : Fin n → EReal) (w : Fin n → Fin 64 → EReal) (p c s : Fin 32 → EReal) (d : Fin 128) :
    (∑ k, h k * tri (w k) (fun _ => 0) 0 d)
        + (tri (fun _ => 0) p 0 d * tri (fun _ => 1) c 0 d + tri (fun _ => 0) (turn p) 0 d * tri (fun _ => 0) s 0 d)
      = tri (fun j => ∑ k, h k * w k j) (fun j => p j * c j + turn p j * s j) 0 d := by
  unfold tri
  split_ifs with h1 h2
  · simp
  · simp
  · simp

/-- The value's 128 rows: its own 64 and a row of ones, then zeros. -/
theorem value_eq {n : ℕ} (h : Fin n → EReal) (w : Fin n → Fin 64 → EReal) (d : Fin 128) :
    (∑ k, tri (w k) (fun _ => 0) 0 d * h k) + (if d.val = 64 then (1 : EReal) else 0)
      = tri (fun j => ∑ k, h k * w k j) (fun j => if j.val = 0 then 1 else 0) 0 d := by
  unfold tri
  split_ifs <;> first | omega | simp_all [mul_comm] <;> omega

end Cert.PrepMath

end
-- ==== Proof.PrepUnit.lean ====
/-
  What the query and key preparation computes on one block of 512 tokens: its payloads read at an index.
-/
module

public import proofs.«01_k».proof.Proof.PrepMath
public import proofs.«01_k».proof.Proof.Gen.PrepIdeal.Frame
public import Idealize.ShloMosaic.Lib.Pointwise

@[expose] public section

set_option maxRecDepth 16384

noncomputable section

namespace Cert.PrepValue

open Cert.PrepIdeal Cert.PrepIdeal.Gen Idealize.ShloMosaic Cert.PrepMath

/-- The query latent's normalised row: columns 0 to 383 of the block. -/
theorem hq_apply (x : Vec Ideal S1x512x896 .bf16) (g : Vec Ideal S1x384 .f32) (r : Fin 512) (e : Fin 384) :
    k0_pay8 x g (ix2 r e)
      = rowNorm (fun k => x (ix3 0 r ⟨k.val, by omega⟩)) (fun k => g (ix2 0 k)) (Ideal.ofBits .f32 0x43C00000#32) e := by
  unfold rowNorm
  pointwise [k0_pay8, k0_pay5]

/-- The key latent's normalised row: columns 384 to 639 of the block. -/
theorem hkv_apply (x : Vec Ideal S1x512x896 .bf16) (g : Vec Ideal S1x256 .f32) (r : Fin 512) (e : Fin 256) :
    k0_pay9 x g (ix2 r e)
      = rowNorm (fun k => x (ix3 0 r ⟨384 + k.val, by omega⟩)) (fun k => g (ix2 0 k)) (Ideal.ofBits .f32 0x43800000#32) e := by
  unfold rowNorm
  pointwise [k0_pay9, k0_pay5]

/-- The query rows times the query weights, all heads beside each other. -/
theorem qa_apply (h : FVec Ideal S512x384 .bf16) (w : Vec Ideal S384x1024 .bf16) (r : Fin 512) (n : Fin 1024) :
    k0_pay12 h w (ix2 r n) = ∑ k : Fin 384, h (ix2 r k) * w (ix2 k n) := by
  pointwise [k0_pay12, dot_S512x384_S384x1024_S512x1024_1_0_0_1_n_n]
/-- The query rows times the rotated query weights. -/
theorem qb_apply (h : FVec Ideal S512x384 .bf16) (w : Vec Ideal S384x1024 .bf16) (r : Fin 512) (n : Fin 1024) :
    k0_pay13 h w (ix2 r n) = ∑ k : Fin 384, h (ix2 r k) * w (ix2 k n) := by
  pointwise [k0_pay13, dot_S512x384_S384x1024_S512x1024_1_0_0_1_n_n]
/-- The key rows times the key weights. -/
theorem kn_apply (h : FVec Ideal S512x256 .bf16) (w : Vec Ideal S256x1024 .bf16) (r : Fin 512) (n : Fin 1024) :
    k0_pay14 h w (ix2 r n) = ∑ k : Fin 256, h (ix2 r k) * w (ix2 k n) := by
  pointwise [k0_pay14, dot_S512x256_S256x1024_S512x1024_1_0_0_1_n_n]
/-- The value weights times the key rows, tokens along the columns. -/
theorem vt_apply (h : FVec Ideal S512x256 .bf16) (w : Vec Ideal S1024x256 .bf16) (n : Fin 1024) (r : Fin 512) :
    k0_pay15 h w (ix2 n r) = ∑ k : Fin 256, w (ix2 n k) * h (ix2 r k) := by
  pointwise [k0_pay15, dot_S1024x256_S512x256_S1024x512_1_1_0_0_n_n]

/-- The shared rotary key of a token. -/
theorem kr_apply (x : Vec Ideal S1x512x896 .bf16) (c s : FVec Ideal S512x128 .f32) (r : Fin 512) (d : Fin 128) :
    k0_pay16 (k0_pay6 x) (k0_pay7 x) c s (ix2 r d)
      = x (ix3 0 r ⟨640 + d.val, by omega⟩) * c (ix2 r d) + x (ix3 0 r ⟨768 + d.val, by omega⟩) * s (ix2 r d) := by
  pointwise [k0_pay16, k0_pay6, k0_pay7, k0_pay5]

/-- Row 64 of the values counts the keys: one there and nothing elsewhere. -/
theorem ones_apply (d : Fin 128) (r : Fin 512) :
    k0_pay17 (F := Ideal) (ix2 d r) = if d.val = 64 then (1 : EReal) else 0 := by
  have h : ∀ d : Fin 128, (BitVec.ofNat 32 d.val == 64#32) = decide (d.val = 64) := by decide
  pointwise [k0_pay17]
  simp only [Scalar.select, IntOp.cmpi, h]
  by_cases e : d.val = 64 <;> simp [e]

/-- A head's query: the projection on the cosine table plus the rotated projection on the sine table, scaled. -/
def qOf (A B : FVec Ideal S512x1024 .f32) (c s : FVec Ideal S512x128 .f32) (r : Fin 512) (n : Fin 1024) (d : Fin 128) : EReal :=
  (A (ix2 r n) * c (ix2 r d) + B (ix2 r n) * s (ix2 r d)) * Ideal.ofBits .f32 0x3E16C740#32

variable (A B : FVec Ideal S512x1024 .f32) (c s : FVec Ideal S512x128 .f32) (r : Fin 512) (d : Fin 128)

theorem q0 (h : FVec Ideal S512x384 .bf16) (w w' : Vec Ideal S384x1024 .bf16) :
    k0_pay18 h c s w w' (ix4 0 0 r d) = qOf (k0_pay12 h w) (k0_pay13 h w') c s r ⟨d.val, by omega⟩ d := by
  unfold qOf
  pointwise [k0_pay18]
theorem q1 : k0_pay22 c s A B (ix4 0 0 r d) = qOf A B c s r ⟨128 + d.val, by omega⟩ d := by
  unfold qOf
  pointwise [k0_pay22]
theorem q2 : k0_pay26 (k0_pay25 c s A B) (Scalar.ofBits .f32 0x3E16C740#32) (ix4 0 0 r d) = qOf A B c s r ⟨256 + d.val, by omega⟩ d := by
  unfold qOf
  pointwise [k0_pay26, k0_pay25]
theorem q3 : k0_pay29 c s A B (ix4 0 0 r d) = qOf A B c s r ⟨384 + d.val, by omega⟩ d := by
  unfold qOf
  pointwise [k0_pay29]
theorem q4 : k0_pay32 c s A B (ix4 0 0 r d) = qOf A B c s r ⟨512 + d.val, by omega⟩ d := by
  unfold qOf
  pointwise [k0_pay32]
theorem q5 : k0_pay36 (k0_pay35 c s A B) (ix4 0 0 r d) = qOf A B c s r ⟨640 + d.val, by omega⟩ d := by
  unfold qOf
  pointwise [k0_pay36, k0_pay35]
theorem q6 : k0_pay39 c s A B (ix4 0 0 r d) = qOf A B c s r ⟨768 + d.val, by omega⟩ d := by
  unfold qOf
  pointwise [k0_pay39]
theorem q7 : k0_pay2 c s A B (ix4 0 0 r d) = qOf A B c s r ⟨896 + d.val, by omega⟩ d := by
  unfold qOf
  pointwise [k0_pay2]

/-- A head's key: its own columns plus the shared rotary key. -/
def kOf (N : FVec Ideal S512x1024 .f32) (R : FVec Ideal S512x128 .f32) (r : Fin 512) (n : Fin 1024) (d : Fin 128) : EReal :=
  N (ix2 r n) + R (ix2 r d)

variable (N : FVec Ideal S512x1024 .f32) (R : FVec Ideal S512x128 .f32)

theorem k0 (a b : FVec Ideal S512x128 .f32) (h : FVec Ideal S512x256 .bf16) (w : Vec Ideal S256x1024 .bf16) :
    k0_pay20 (k0_pay19 a b h c s w) (ix4 0 0 r d) = kOf (k0_pay14 h w) (k0_pay16 a b c s) r ⟨d.val, by omega⟩ d := by
  unfold kOf
  pointwise [k0_pay20, k0_pay19]
theorem k1 : k0_pay23 N R (ix4 0 0 r d) = kOf N R r ⟨128 + d.val, by omega⟩ d := by
  unfold kOf
  pointwise [k0_pay23]
theorem k2 : k0_pay27 N R (ix4 0 0 r d) = kOf N R r ⟨256 + d.val, by omega⟩ d := by
  unfold kOf
  pointwise [k0_pay27]
theorem k3 : k0_pay30 N R (ix4 0 0 r d) = kOf N R r ⟨384 + d.val, by omega⟩ d := by
  unfold kOf
  pointwise [k0_pay30]
theorem k4 : k0_pay33 N R (ix4 0 0 r d) = kOf N R r ⟨512 + d.val, by omega⟩ d := by
  unfold kOf
  pointwise [k0_pay33]
theorem k5 : k0_pay37 N R (ix4 0 0 r d) = kOf N R r ⟨640 + d.val, by omega⟩ d := by
  unfold kOf
  pointwise [k0_pay37]
theorem k6 : k0_pay40 N R (ix4 0 0 r d) = kOf N R r ⟨768 + d.val, by omega⟩ d := by
  unfold kOf
  pointwise [k0_pay40]
theorem k7 : k0_pay3 N R (ix4 0 0 r d) = kOf N R r ⟨896 + d.val, by omega⟩ d := by
  unfold kOf
  pointwise [k0_pay3]

/-- A head's value, tokens along the columns: its own rows plus the row that counts. -/
def vOf (T : FVec Ideal S1024x512 .f32) (O : FVec Ideal S128x512 .f32) (n : Fin 1024) (d : Fin 128) (r : Fin 512) : EReal :=
  T (ix2 n r) + O (ix2 d r)

variable (T : FVec Ideal S1024x512 .f32) (O : FVec Ideal S128x512 .f32)

theorem v0 : k0_pay21 T O (ix4 0 0 d r) = vOf T O ⟨d.val, by omega⟩ d r := by
  unfold vOf
  pointwise [k0_pay21]
theorem v1 : k0_pay24 T O (ix4 0 0 d r) = vOf T O ⟨128 + d.val, by omega⟩ d r := by
  unfold vOf
  pointwise [k0_pay24]
theorem v2 : k0_pay28 T O (ix4 0 0 d r) = vOf T O ⟨256 + d.val, by omega⟩ d r := by
  unfold vOf
  pointwise [k0_pay28]
theorem v3 : k0_pay31 T O (ix4 0 0 d r) = vOf T O ⟨384 + d.val, by omega⟩ d r := by
  unfold vOf
  pointwise [k0_pay31]
theorem v4 : k0_pay34 T O (ix4 0 0 d r) = vOf T O ⟨512 + d.val, by omega⟩ d r := by
  unfold vOf
  pointwise [k0_pay34]
theorem v5 : k0_pay38 T O (ix4 0 0 d r) = vOf T O ⟨640 + d.val, by omega⟩ d r := by
  unfold vOf
  pointwise [k0_pay38]
theorem v6 : k0_pay1 (k0_pay41 T O) (ix4 0 0 d r) = vOf T O ⟨768 + d.val, by omega⟩ d r := by
  unfold vOf
  pointwise [k0_pay1, k0_pay41]
theorem v7 : k0_pay4 T O (ix4 0 0 d r) = vOf T O ⟨896 + d.val, by omega⟩ d r := by
  unfold vOf
  pointwise [k0_pay4]

end Cert.PrepValue

end
-- ==== Proof.PrepBlock.lean ====
/-
  What one grid point of the query and key preparation leaves in its three output blocks, each as one function of the
  block's index.
-/
module

public import proofs.«01_k».proof.Proof.PrepUnit
public import Idealize.ShloMosaic.Lib.Pipeline.ValueKit

@[expose] public section

set_option maxRecDepth 16384

noncomputable section

namespace Cert.PrepValue

open Cert.PrepIdeal Cert.PrepIdeal.Gen Idealize.ShloMosaic Cert.PrepMath

variable (x : Vec Ideal S1x512x896 .bf16) (gq : Vec Ideal S1x384 .f32) (gk : Vec Ideal S1x256 .f32)
  (wq wr : Vec Ideal S384x1024 .bf16) (wk : Vec Ideal S256x1024 .bf16) (wv : Vec Ideal S1024x256 .bf16)
  (cs sn : Vec Ideal S512x128 .f32)

theorem ld_x (r : Fin 512) (k : Fin 896) : View.ld x r0_0 (ix3 0 r k) = x (ix3 0 r k) := by
  refine View.ld_unit_apply_of _ _ _ _ _ _ fun b => ?_
  fin_cases b <;> first | rfl | simp
theorem ld_gq (k : Fin 384) : View.ld gq r0_1 (ix2 0 k) = gq (ix2 0 k) := by
  refine View.ld_unit_apply_of _ _ _ _ _ _ fun b => ?_
  fin_cases b <;> first | rfl | simp
theorem ld_gk (k : Fin 256) : View.ld gk r0_2 (ix2 0 k) = gk (ix2 0 k) := by
  refine View.ld_unit_apply_of _ _ _ _ _ _ fun b => ?_
  fin_cases b <;> first | rfl | simp
theorem ld_t (r : Fin 512) (d : Fin 128) : View.ld cs r0_3 (ix2 r d) = cs (ix2 r d) := by
  refine View.ld_unit_apply_of _ _ _ _ _ _ fun b => ?_
  fin_cases b <;> first | rfl | simp
theorem ld_wq (k : Fin 384) (n : Fin 1024) : View.ld wq r0_4 (ix2 k n) = wq (ix2 k n) := by
  refine View.ld_unit_apply_of _ _ _ _ _ _ fun b => ?_
  fin_cases b <;> first | rfl | simp
theorem ld_wk (k : Fin 256) (n : Fin 1024) : View.ld wk r0_5 (ix2 k n) = wk (ix2 k n) := by
  refine View.ld_unit_apply_of _ _ _ _ _ _ fun b => ?_
  fin_cases b <;> first | rfl | simp
theorem ld_wv (n : Fin 1024) (k : Fin 256) : View.ld wv r0_6 (ix2 n k) = wv (ix2 n k) := by
  refine View.ld_unit_apply_of _ _ _ _ _ _ fun b => ?_
  fin_cases b <;> first | rfl | simp

/-- The normalised query latent of the block's token `r`. -/
def hqAt (r : Fin 512) (k : Fin 384) : EReal :=
  rowNorm (fun k => x (ix3 0 r ⟨k.val, by omega⟩)) (fun k => gq (ix2 0 k)) (Ideal.ofBits .f32 0x43C00000#32) k
/-- The normalised key latent of the block's token `r`. -/
def hkvAt (r : Fin 512) (k : Fin 256) : EReal :=
  rowNorm (fun k => x (ix3 0 r ⟨384 + k.val, by omega⟩)) (fun k => gk (ix2 0 k)) (Ideal.ofBits .f32 0x43800000#32) k

/-- The query block's entry: head `h`, token `r`, column `d`. -/
def qBlk (h : Fin 8) (r : Fin 512) (d : Fin 128) : EReal :=
  ((∑ k, hqAt x gq r k * wq (ix2 k (col h d))) * cs (ix2 r d) + (∑ k, hqAt x gq r k * wr (ix2 k (col h d))) * sn (ix2 r d))
    * Ideal.ofBits .f32 0x3E16C740#32
/-- The key block's entry. -/
def kBlk (h : Fin 8) (r : Fin 512) (d : Fin 128) : EReal :=
  (∑ k, hkvAt x gk r k * wk (ix2 k (col h d)))
    + (x (ix3 0 r ⟨640 + d.val, by omega⟩) * cs (ix2 r d) + x (ix3 0 r ⟨768 + d.val, by omega⟩) * sn (ix2 r d))
/-- The value block's entry: head `h`, column `d`, token `r`. -/
def vBlk (h : Fin 8) (d : Fin 128) (r : Fin 512) : EReal :=
  (∑ k, wv (ix2 (col h d) k) * hkvAt x gk r k) + if d.val = 64 then (1 : EReal) else 0

theorem hq_ld (r : Fin 512) (k : Fin 384) : k0_pay8 (View.ld x r0_0) (View.ld gq r0_1) (ix2 r k) = hqAt x gq r k := by
  rw [hq_apply]
  have hx : (fun k : Fin 384 => View.ld x r0_0 (ix3 0 r ⟨k.val, by omega⟩)) = fun k : Fin 384 => x (ix3 0 r ⟨k.val, by omega⟩) :=
    funext fun k => ld_x x r _
  have hg : (fun k => View.ld gq r0_1 (ix2 0 k)) = fun k => gq (ix2 0 k) := funext (ld_gq gq)
  exact congrArg₂ (fun a b => rowNorm a b (Ideal.ofBits .f32 0x43C00000#32) k) hx hg
theorem hkv_ld (r : Fin 512) (k : Fin 256) : k0_pay9 (View.ld x r0_0) (View.ld gk r0_2) (ix2 r k) = hkvAt x gk r k := by
  rw [hkv_apply]
  have hx : (fun k : Fin 256 => View.ld x r0_0 (ix3 0 r ⟨384 + k.val, by omega⟩)) = fun k : Fin 256 => x (ix3 0 r ⟨384 + k.val, by omega⟩) :=
    funext fun k => ld_x x r _
  have hg : (fun k => View.ld gk r0_2 (ix2 0 k)) = fun k => gk (ix2 0 k) := funext (ld_gk gk)
  exact congrArg₂ (fun a b => rowNorm a b (Ideal.ofBits .f32 0x43800000#32) k) hx hg
theorem pay10_ld (r : Fin 512) (d : Fin 128) : k0_pay10 (View.ld cs r0_3) (ix2 r d) = cs (ix2 r d) := by
  rw [← ld_t cs r d]
  pointwise [k0_pay10]
theorem pay11_ld (r : Fin 512) (d : Fin 128) : k0_pay11 (View.ld sn r0_3) (ix2 r d) = sn (ix2 r d) := by
  rw [← ld_t sn r d]
  pointwise [k0_pay11]

/-- The query's entry from the loaded windows. -/
theorem q_eq (h : Fin 8) (r : Fin 512) (d : Fin 128) (n : Fin 1024) (hn : n.val = h.val * 128 + d.val) :
    qOf (k0_pay12 (k0_pay8 (View.ld x r0_0) (View.ld gq r0_1)) (View.ld wq r0_4))
        (k0_pay13 (k0_pay8 (View.ld x r0_0) (View.ld gq r0_1)) (View.ld wr r0_4))
        (k0_pay10 (View.ld cs r0_3)) (k0_pay11 (View.ld sn r0_3)) r n d = qBlk x gq wq wr cs sn h r d := by
  have e : n = col h d := Fin.ext hn
  unfold qOf qBlk
  rw [qa_apply, qb_apply, pay10_ld, pay11_ld, e]
  simp only [hq_ld]
  have l1 : ∀ k, View.ld wq r0_4 (ix2 k (col h d)) = wq (ix2 k (col h d)) := fun k => ld_wq wq k _
  have l2 : ∀ k, View.ld wr r0_4 (ix2 k (col h d)) = wr (ix2 k (col h d)) := fun k => ld_wq wr k _
  exact congrArg₂ (fun a b => (a * cs (ix2 r d) + b * sn (ix2 r d)) * Ideal.ofBits .f32 0x3E16C740#32)
    (Finset.sum_congr rfl fun k _ => congrArg (hqAt x gq r k * ·) (l1 k))
    (Finset.sum_congr rfl fun k _ => congrArg (hqAt x gq r k * ·) (l2 k))
/-- The key's entry from the loaded windows. -/
theorem k_eq (h : Fin 8) (r : Fin 512) (d : Fin 128) (n : Fin 1024) (hn : n.val = h.val * 128 + d.val) :
    kOf (k0_pay14 (k0_pay9 (View.ld x r0_0) (View.ld gk r0_2)) (View.ld wk r0_5))
        (k0_pay16 (k0_pay6 (View.ld x r0_0)) (k0_pay7 (View.ld x r0_0)) (k0_pay10 (View.ld cs r0_3)) (k0_pay11 (View.ld sn r0_3))) r n d
      = kBlk x gk wk cs sn h r d := by
  have e : n = col h d := Fin.ext hn
  unfold kOf kBlk
  rw [kn_apply, kr_apply, pay10_ld, pay11_ld, e]
  simp only [hkv_ld]
  have l1 : ∀ k, View.ld wk r0_5 (ix2 k (col h d)) = wk (ix2 k (col h d)) := fun k => ld_wk wk k _
  exact congrArg₂ (· + ·) (Finset.sum_congr rfl fun k _ => congrArg (hkvAt x gk r k * ·) (l1 k))
    (congrArg₂ (fun a b => a * cs (ix2 r d) + b * sn (ix2 r d)) (ld_x x r _) (ld_x x r _))
/-- The value's entry from the loaded windows. -/
theorem v_eq (h : Fin 8) (d : Fin 128) (r : Fin 512) (n : Fin 1024) (hn : n.val = h.val * 128 + d.val) :
    vOf (k0_pay15 (k0_pay9 (View.ld x r0_0) (View.ld gk r0_2)) (View.ld wv r0_6)) (k0_pay17 (F := Ideal)) n d r
      = vBlk x gk wv h d r := by
  have e : n = col h d := Fin.ext hn
  unfold vOf vBlk
  rw [vt_apply, ones_apply, e]
  simp only [hkv_ld]
  have l1 : ∀ k, View.ld wv r0_6 (ix2 (col h d) k) = wv (ix2 (col h d) k) := fun k => ld_wv wv _ k
  exact congrArg (· + _) (Finset.sum_congr rfl fun k _ => congrArg (· * hkvAt x gk r k) (l1 k))

/-- A store of one head's 512 tokens is the block's function on its rectangle. -/
theorem head_piece (f : Fin 8 → Fin 512 → Fin 128 → EReal) (P : FVec Ideal S1x1x512x128 .bf16) (o : ℕ) (h : Fin 8) (hh : o = h.val)
    (ho : ∀ a, ![0, o, 0, 0] a + S1x1x512x128.size a ≤ S1x8x512x128.size a)
    (hP : ∀ r d, P (ix4 0 0 r d) = f h r d) (z : S1x1x512x128.Idx) :
    P z = (fun i : S1x8x512x128.Idx => f (i 1) (i 2) (i 3))
          ((Rect.unit (s := S1x8x512x128) ![0, o, 0, 0] S1x1x512x128.size ho).emb z) := by
  obtain ⟨r, hr⟩ : ∃ r : Fin 512, r = z 2 := ⟨_, rfl⟩
  obtain ⟨d, hd⟩ : ∃ d : Fin 128, d = z 3 := ⟨_, rfl⟩
  have hz : z = ix4 0 0 r d := by
    subst hr hd
    funext a
    match a with
    | ⟨0, _⟩ => exact Fin.ext (by have := (z 0).isLt; show (z 0).val = 0; change (z 0).val < 1 at this; omega)
    | ⟨1, _⟩ => exact Fin.ext (by have := (z 1).isLt; show (z 1).val = 0; change (z 1).val < 1 at this; omega)
    | ⟨2, _⟩ => rfl
    | ⟨3, _⟩ => rfl
  have e1 : ((Rect.unit (s := S1x8x512x128) ![0, o, 0, 0] S1x1x512x128.size ho).emb (ix4 0 0 r d)) 1 = h :=
    Fin.ext ((Rect.idx_unit_val (s := S1x8x512x128) ![0, o, 0, 0] S1x1x512x128.size ho (ix4 0 0 r d) 1).trans hh)
  have e2 : ((Rect.unit (s := S1x8x512x128) ![0, o, 0, 0] S1x1x512x128.size ho).emb (ix4 0 0 r d)) 2 = r :=
    Fin.ext ((Rect.idx_unit_val (s := S1x8x512x128) ![0, o, 0, 0] S1x1x512x128.size ho (ix4 0 0 r d) 2).trans (Nat.zero_add _))
  have e3 : ((Rect.unit (s := S1x8x512x128) ![0, o, 0, 0] S1x1x512x128.size ho).emb (ix4 0 0 r d)) 3 = d :=
    Fin.ext ((Rect.idx_unit_val (s := S1x8x512x128) ![0, o, 0, 0] S1x1x512x128.size ho (ix4 0 0 r d) 3).trans (Nat.zero_add _))
  rw [hz, hP]
  show _ = f _ _ _
  rw [e1, e2, e3]

/-- A store of one head's 128 value rows is the block's function on its rectangle. -/
theorem rows_piece (f : Fin 8 → Fin 128 → Fin 512 → EReal) (P : FVec Ideal S1x1x128x512 .bf16) (o : ℕ) (h : Fin 8) (hh : o = h.val)
    (ho : ∀ a, ![0, o, 0, 0] a + S1x1x128x512.size a ≤ S1x8x128x512.size a)
    (hP : ∀ d r, P (ix4 0 0 d r) = f h d r) (z : S1x1x128x512.Idx) :
    P z = (fun i : S1x8x128x512.Idx => f (i 1) (i 2) (i 3))
          ((Rect.unit (s := S1x8x128x512) ![0, o, 0, 0] S1x1x128x512.size ho).emb z) := by
  obtain ⟨d, hd⟩ : ∃ d : Fin 128, d = z 2 := ⟨_, rfl⟩
  obtain ⟨r, hr⟩ : ∃ r : Fin 512, r = z 3 := ⟨_, rfl⟩
  have hz : z = ix4 0 0 d r := by
    subst hr hd
    funext a
    match a with
    | ⟨0, _⟩ => exact Fin.ext (by have := (z 0).isLt; show (z 0).val = 0; change (z 0).val < 1 at this; omega)
    | ⟨1, _⟩ => exact Fin.ext (by have := (z 1).isLt; show (z 1).val = 0; change (z 1).val < 1 at this; omega)
    | ⟨2, _⟩ => rfl
    | ⟨3, _⟩ => rfl
  have e1 : ((Rect.unit (s := S1x8x128x512) ![0, o, 0, 0] S1x1x128x512.size ho).emb (ix4 0 0 d r)) 1 = h :=
    Fin.ext ((Rect.idx_unit_val (s := S1x8x128x512) ![0, o, 0, 0] S1x1x128x512.size ho (ix4 0 0 d r) 1).trans hh)
  have e2 : ((Rect.unit (s := S1x8x128x512) ![0, o, 0, 0] S1x1x128x512.size ho).emb (ix4 0 0 d r)) 2 = d :=
    Fin.ext ((Rect.idx_unit_val (s := S1x8x128x512) ![0, o, 0, 0] S1x1x128x512.size ho (ix4 0 0 d r) 2).trans (Nat.zero_add _))
  have e3 : ((Rect.unit (s := S1x8x128x512) ![0, o, 0, 0] S1x1x128x512.size ho).emb (ix4 0 0 d r)) 3 = r :=
    Fin.ext ((Rect.idx_unit_val (s := S1x8x128x512) ![0, o, 0, 0] S1x1x128x512.size ho (ix4 0 0 d r) 3).trans (Nat.zero_add _))
  rw [hz, hP]
  show _ = f _ _ _
  rw [e1, e2, e3]

/-- The query block. -/
theorem out9_eq : out0_9 x gq gk wq wr wk wv cs sn = fun i : S1x8x512x128.Idx => qBlk x gq wq wr cs sn (i 1) (i 2) (i 3) := by
  funext y
  unfold_out out0_9
  refine View.canon_apply_of_pieces (Val := Elt Ideal) (e := .bf16) (fun i : S1x8x512x128.Idx => qBlk x gq wq wr cs sn (i 1) (i 2) (i 3)) _ ?_ y (cover0_9 _ _ _ _ _ _ _ _ y)
  refine List.forall_mem_cons.2 ⟨fun z => head_piece (qBlk x gq wq wr cs sn) _ 7 7 rfl (by decide) (fun a b => (q7 _ _ _ _ _ _ ).trans (q_eq x gq wq wr cs sn 7 a b _ (by rfl))) z, ?_⟩
  refine List.forall_mem_cons.2 ⟨fun z => head_piece (qBlk x gq wq wr cs sn) _ 6 6 rfl (by decide) (fun a b => (q6 _ _ _ _ _ _ ).trans (q_eq x gq wq wr cs sn 6 a b _ (by rfl))) z, ?_⟩
  refine List.forall_mem_cons.2 ⟨fun z => head_piece (qBlk x gq wq wr cs sn) _ 5 5 rfl (by decide) (fun a b => (q5 _ _ _ _ _ _ ).trans (q_eq x gq wq wr cs sn 5 a b _ (by rfl))) z, ?_⟩
  refine List.forall_mem_cons.2 ⟨fun z => head_piece (qBlk x gq wq wr cs sn) _ 4 4 rfl (by decide) (fun a b => (q4 _ _ _ _ _ _ ).trans (q_eq x gq wq wr cs sn 4 a b _ (by rfl))) z, ?_⟩
  refine List.forall_mem_cons.2 ⟨fun z => head_piece (qBlk x gq wq wr cs sn) _ 3 3 rfl (by decide) (fun a b => (q3 _ _ _ _ _ _ ).trans (q_eq x gq wq wr cs sn 3 a b _ (by rfl))) z, ?_⟩
  refine List.forall_mem_cons.2 ⟨fun z => head_piece (qBlk x gq wq wr cs sn) _ 2 2 rfl (by decide) (fun a b => (q2 _ _ _ _ _ _ ).trans (q_eq x gq wq wr cs sn 2 a b _ (by rfl))) z, ?_⟩
  refine List.forall_mem_cons.2 ⟨fun z => head_piece (qBlk x gq wq wr cs sn) _ 1 1 rfl (by decide) (fun a b => (q1 _ _ _ _ _ _ ).trans (q_eq x gq wq wr cs sn 1 a b _ (by rfl))) z, ?_⟩
  refine List.forall_mem_cons.2 ⟨fun z => head_piece (qBlk x gq wq wr cs sn) _ 0 0 rfl (by decide) (fun a b => (q0 _ _ _ _ _ _ _ ).trans (q_eq x gq wq wr cs sn 0 a b _ (by show b.val = 0 * 128 + b.val; omega))) z, ?_⟩
  exact fun p hp => absurd hp (List.not_mem_nil)

/-- The key block. -/
theorem out10_eq : out0_10 x gq gk wq wr wk wv cs sn = fun i : S1x8x512x128.Idx => kBlk x gk wk cs sn (i 1) (i 2) (i 3) := by
  funext y
  unfold_out out0_10
  refine View.canon_apply_of_pieces (Val := Elt Ideal) (e := .bf16) (fun i : S1x8x512x128.Idx => kBlk x gk wk cs sn (i 1) (i 2) (i 3)) _ ?_ y (cover0_10 _ _ _ _ _ _ _ _ y)
  refine List.forall_mem_cons.2 ⟨fun z => head_piece (kBlk x gk wk cs sn) _ 7 7 rfl (by decide) (fun a b => (k7 _ _ _ _ ).trans (k_eq x gk wk cs sn 7 a b _ (by rfl))) z, ?_⟩
  refine List.forall_mem_cons.2 ⟨fun z => head_piece (kBlk x gk wk cs sn) _ 6 6 rfl (by decide) (fun a b => (k6 _ _ _ _ ).trans (k_eq x gk wk cs sn 6 a b _ (by rfl))) z, ?_⟩
  refine List.forall_mem_cons.2 ⟨fun z => head_piece (kBlk x gk wk cs sn) _ 5 5 rfl (by decide) (fun a b => (k5 _ _ _ _ ).trans (k_eq x gk wk cs sn 5 a b _ (by rfl))) z, ?_⟩
  refine List.forall_mem_cons.2 ⟨fun z => head_piece (kBlk x gk wk cs sn) _ 4 4 rfl (by decide) (fun a b => (k4 _ _ _ _ ).trans (k_eq x gk wk cs sn 4 a b _ (by rfl))) z, ?_⟩
  refine List.forall_mem_cons.2 ⟨fun z => head_piece (kBlk x gk wk cs sn) _ 3 3 rfl (by decide) (fun a b => (k3 _ _ _ _ ).trans (k_eq x gk wk cs sn 3 a b _ (by rfl))) z, ?_⟩
  refine List.forall_mem_cons.2 ⟨fun z => head_piece (kBlk x gk wk cs sn) _ 2 2 rfl (by decide) (fun a b => (k2 _ _ _ _ ).trans (k_eq x gk wk cs sn 2 a b _ (by rfl))) z, ?_⟩
  refine List.forall_mem_cons.2 ⟨fun z => head_piece (kBlk x gk wk cs sn) _ 1 1 rfl (by decide) (fun a b => (k1 _ _ _ _ ).trans (k_eq x gk wk cs sn 1 a b _ (by rfl))) z, ?_⟩
  refine List.forall_mem_cons.2 ⟨fun z => head_piece (kBlk x gk wk cs sn) _ 0 0 rfl (by decide) (fun a b => (k0 _ _ _ _ _ _ _ _ ).trans (k_eq x gk wk cs sn 0 a b _ (by show b.val = 0 * 128 + b.val; omega))) z, ?_⟩
  exact fun p hp => absurd hp (List.not_mem_nil)

/-- The value block. -/
theorem out11_eq : out0_11 x gq gk wq wr wk wv cs sn = fun i : S1x8x128x512.Idx => vBlk x gk wv (i 1) (i 2) (i 3) := by
  funext y
  unfold_out out0_11
  refine View.canon_apply_of_pieces (Val := Elt Ideal) (e := .bf16) (fun i : S1x8x128x512.Idx => vBlk x gk wv (i 1) (i 2) (i 3)) _ ?_ y (cover0_11 _ _ _ _ _ _ _ _ y)
  refine List.forall_mem_cons.2 ⟨fun z => rows_piece (vBlk x gk wv) _ 7 7 rfl (by decide) (fun a b => (v7 _ _ _ _ ).trans (v_eq x gk wv 7 a b _ (by rfl))) z, ?_⟩
  refine List.forall_mem_cons.2 ⟨fun z => rows_piece (vBlk x gk wv) _ 6 6 rfl (by decide) (fun a b => (v6 _ _ _ _ ).trans (v_eq x gk wv 6 a b _ (by rfl))) z, ?_⟩
  refine List.forall_mem_cons.2 ⟨fun z => rows_piece (vBlk x gk wv) _ 5 5 rfl (by decide) (fun a b => (v5 _ _ _ _ ).trans (v_eq x gk wv 5 a b _ (by rfl))) z, ?_⟩
  refine List.forall_mem_cons.2 ⟨fun z => rows_piece (vBlk x gk wv) _ 4 4 rfl (by decide) (fun a b => (v4 _ _ _ _ ).trans (v_eq x gk wv 4 a b _ (by rfl))) z, ?_⟩
  refine List.forall_mem_cons.2 ⟨fun z => rows_piece (vBlk x gk wv) _ 3 3 rfl (by decide) (fun a b => (v3 _ _ _ _ ).trans (v_eq x gk wv 3 a b _ (by rfl))) z, ?_⟩
  refine List.forall_mem_cons.2 ⟨fun z => rows_piece (vBlk x gk wv) _ 2 2 rfl (by decide) (fun a b => (v2 _ _ _ _ ).trans (v_eq x gk wv 2 a b _ (by rfl))) z, ?_⟩
  refine List.forall_mem_cons.2 ⟨fun z => rows_piece (vBlk x gk wv) _ 1 1 rfl (by decide) (fun a b => (v1 _ _ _ _ ).trans (v_eq x gk wv 1 a b _ (by rfl))) z, ?_⟩
  refine List.forall_mem_cons.2 ⟨fun z => rows_piece (vBlk x gk wv) _ 0 0 rfl (by decide) (fun a b => (v0 _ _ _ _ ).trans (v_eq x gk wv 0 a b _ (by show a.val = 0 * 128 + a.val; omega))) z, ?_⟩
  exact fun p hp => absurd hp (List.not_mem_nil)

end Cert.PrepValue

end
-- ==== Proof.PrepHost.lean ====
/-
  The arrays that the query and key preparation's kernel reads, as functions of the arguments: the weights laid out by head
  and padded, the padded tables, and the latents beside each other.
-/
module

public import proofs.«01_k».proof.Proof.PrepBlock
public import Idealize.ShloMosaic.Lib.Claim
public import Idealize.ShloMosaic.Lib.StableHlo.ReadAt

@[expose] public section

set_option maxRecDepth 16384

noncomputable section

namespace Cert.PrepValue

open Cert.PrepIdeal Cert.PrepIdeal.Gen Idealize.ShloMosaic Idealize.ShloMosaic.TcCoe Idealize.SL.Sem Cert.PrepMath

variable (m : (ℓ : Loc nD τ sig) → Buf (Elt Ideal) ℓ) (c : Dev nD)

/-- The weight of the query latent, read as one row. -/
theorem gq_row (k : Fin 384) : V m c main_v45 (ix2 0 k) = m ((c : Thread nD τ).loc main_arg3) (ix1 k) := by
  unfold V
  repeat after_reads_at
/-- The weight of the key latent, read as one row. -/
theorem gk_row (k : Fin 256) : V m c main_v46 (ix2 0 k) = m ((c : Thread nD τ).loc main_arg4) (ix1 k) := by
  unfold V
  repeat after_reads_at

/-- The padded cosine table. -/
theorem cs_apply (r : Fin 4096) (d : Fin 128) : V m c main_v40 (ix2 r d)
    = tri (fun _ => 1) (fun j => m ((c : Thread nD τ).loc main_arg7) (ix2 r j)) 0 d := by
  unfold V tri
  repeat after_reads_at
/-- The padded sine table. -/
theorem sn_apply (r : Fin 4096) (d : Fin 128) : V m c main_v43 (ix2 r d)
    = tri (fun _ => 0) (fun j => m ((c : Thread nD τ).loc main_arg8) (ix2 r j)) 0 d := by
  unfold V tri
  repeat after_reads_at

theorem col_mod (h : Fin 8) (d : Fin 128) : (col h d).val % 128 = d.val := by unfold col; simp only []; omega
theorem col_div (h : Fin 8) (d : Fin 128) : (col h d).val / 128 = h.val := by unfold col; simp only []; omega

/-- The query weights, head by head: 96 columns and 32 of zeros. -/
theorem wq_apply (k : Fin 384) (h : Fin 8) (d : Fin 128) : V m c main_v17 (ix2 k (col h d))
    = tri (fun j => m ((c : Thread nD τ).loc main_arg5) (ix2 k ⟨h.val * 96 + j.val, by omega⟩))
        (fun j => m ((c : Thread nD τ).loc main_arg5) (ix2 k ⟨h.val * 96 + 64 + j.val, by omega⟩)) 0 d := by
  unfold V
  repeat after_reads_at
  simp only [col_mod, col_div]
  unfold tri
  split_ifs with h1 h2 h3 <;> first | omega | rfl | exact congrArg (fun n => m ((c : Thread nD τ).loc main_arg5) (ix2 k n)) (Fin.ext (by simp only []; omega))
/-- The key weights, head by head: the first 64 of a head's 128 columns and 64 of zeros. -/
theorem wk_apply (k : Fin 256) (h : Fin 8) (d : Fin 128) : V m c main_v33 (ix2 k (col h d))
    = tri (fun j => m ((c : Thread nD τ).loc main_arg6) (ix2 k ⟨h.val * 128 + j.val, by omega⟩)) (fun _ => 0) 0 d := by
  unfold V
  repeat after_reads_at
  simp only [col_mod, col_div]
  unfold tri
  split_ifs <;> first | omega | rfl | exact congrArg (fun n => m ((c : Thread nD τ).loc main_arg6) (ix2 k n)) (Fin.ext (by simp only []; omega))
/-- The value weights, transposed, head by head: the last 64 of a head's 128 columns and 64 of zeros. -/
theorem wv_apply (k : Fin 256) (h : Fin 8) (d : Fin 128) : V m c main_v44 (ix2 (col h d) k)
    = tri (fun j => m ((c : Thread nD τ).loc main_arg6) (ix2 k ⟨h.val * 128 + 64 + j.val, by omega⟩)) (fun _ => 0) 0 d := by
  unfold V
  repeat after_reads_at
  simp only [col_mod, col_div]
  unfold tri
  split_ifs <;> first | omega | rfl | exact congrArg (fun n => m ((c : Thread nD τ).loc main_arg6) (ix2 k n)) (Fin.ext (by simp only []; omega))

/-- The latents beside each other: the query latent, -/
theorem in_q (b : Fin 8) (r : Fin 4096) (k : Fin 384) : V m c main_v13 (ix3 b r ⟨k.val, by omega⟩)
    = m ((c : Thread nD τ).loc main_arg0) (ix3 b r k) := by
  unfold V
  repeat after_reads_at
/-- the key latent, -/
theorem in_kv (b : Fin 8) (r : Fin 4096) (k : Fin 256) : V m c main_v13 (ix3 b r ⟨384 + k.val, by omega⟩)
    = m ((c : Thread nD τ).loc main_arg1) (ix3 b r k) := by
  unfold V
  repeat after_reads_at

end Cert.PrepValue

end
-- ==== Proof.PrepPad.lean ====
/-
  The padded, turned columns as a layout's choices spell them out: 64 zeros, four eights in turned order, and 32 zeros.
-/
module

public import proofs.«01_k».proof.Proof.PrepMath

@[expose] public section

noncomputable section

namespace Cert.PrepMath

/-- Head `h`'s turned query weights, from the row of all heads' weights. -/
theorem turned_weights (f : Fin 768 → EReal) (h : Fin 8) (d : Fin 128) :
    (if h1 : d.val < 64 then (0 : EReal) else if h2 : d.val - 64 < 32 then
        (if h3 : d.val - 64 < 8 then -f ⟨h.val * 96 + (64 + (8 + (d.val - 64))), by omega⟩
          else if h4 : d.val - 64 - 8 < 8 then f ⟨h.val * 96 + (64 + (d.val - 64 - 8)), by omega⟩
          else if h5 : d.val - 64 - 8 - 8 < 8 then -f ⟨h.val * 96 + (64 + (24 + (d.val - 64 - 8 - 8))), by omega⟩
          else f ⟨h.val * 96 + (64 + (16 + (d.val - 64 - 8 - 8 - 8))), by omega⟩) else 0)
      = tri (fun _ => 0) (turn fun j => f ⟨h.val * 96 + 64 + j.val, by omega⟩) 0 d := by
  have e : ∀ {a b : ℕ} (ha : a < 768) (hb : b < 768), a = b → f ⟨a, ha⟩ = f ⟨b, hb⟩ := by intro a b ha hb h; subst h; rfl
  unfold tri turn
  dsimp only
  by_cases h1 : d.val < 64
  · simp only [h1, dite_true]
  by_cases h2 : d.val - 64 < 32
  swap
  · simp only [h1, h2, dite_false]
  rw [dif_neg h1, dif_pos h2, dif_neg h1, dif_pos h2]
  split_ifs <;> first | (exfalso; omega) | exact e _ _ (by omega) | exact congrArg Neg.neg (e _ _ (by omega))

/-- The turned rotary key, from column `n` of its piece of the row. -/
theorem turned_key (f : Fin 32 → EReal) (n : ℕ) (d : Fin 128) (hn : n = d.val) :
    (if h1 : n < 64 then (0 : EReal) else if h2 : n - 64 < 32 then
        (if h3 : n - 64 < 8 then -f ⟨8 + (n - 64), by omega⟩
          else if h4 : n - 64 - 8 < 8 then f ⟨n - 64 - 8, by omega⟩
          else if h5 : n - 64 - 8 - 8 < 8 then -f ⟨24 + (n - 64 - 8 - 8), by omega⟩
          else f ⟨16 + (n - 64 - 8 - 8 - 8), by omega⟩) else 0)
      = tri (fun _ => 0) (turn f) 0 d := by
  subst hn
  have e : ∀ {a b : ℕ} (ha : a < 32) (hb : b < 32), a = b → f ⟨a, ha⟩ = f ⟨b, hb⟩ := by intro a b ha hb h; subst h; rfl
  unfold tri turn
  dsimp only
  by_cases h1 : d.val < 64
  · simp only [h1, dite_true]
  by_cases h2 : d.val - 64 < 32
  swap
  · simp only [h1, h2, dite_false]
  rw [dif_neg h1, dif_pos h2, dif_neg h1, dif_pos h2]
  split_ifs <;> first | (exfalso; omega) | exact e _ _ (by omega) | exact congrArg Neg.neg (e _ _ (by omega))

end Cert.PrepMath

end
-- ==== Proof.PrepTurn.lean ====
/-
  The arrays that the query and key preparation's kernel reads, as functions of the arguments: the turned weights and the
  rotary key, plain and turned.
-/
module

public import proofs.«01_k».proof.Proof.PrepHost
public import proofs.«01_k».proof.Proof.PrepPad
public import Idealize.ShloMosaic.Lib.Claim
public import Idealize.ShloMosaic.Lib.StableHlo.ReadAt

@[expose] public section

set_option maxRecDepth 16384

noncomputable section

namespace Cert.PrepValue

open Cert.PrepIdeal Cert.PrepIdeal.Gen Idealize.ShloMosaic Idealize.ShloMosaic.TcCoe Idealize.SL.Sem Cert.PrepMath

variable (m : (ℓ : Loc nD τ sig) → Buf (Elt Ideal) ℓ) (c : Dev nD)

/-- The turned query weights, head by head. -/
theorem wr_apply (k : Fin 384) (h : Fin 8) (d : Fin 128) : V m c main_v28 (ix2 k (col h d))
    = tri (fun _ => 0) (turn fun j => m ((c : Thread nD τ).loc main_arg5) (ix2 k ⟨h.val * 96 + 64 + j.val, by omega⟩)) 0 d := by
  unfold V
  repeat after_reads_at
  simp only [col_mod, col_div]
  exact turned_weights (fun n => m ((c : Thread nD τ).loc main_arg5) (ix2 k n)) h d
set_option maxHeartbeats 2000000 in
/-- The latents beside each other: the padded rotary key, -/
theorem in_a (b : Fin 8) (r : Fin 4096) (d : Fin 128) : V m c main_v13 (ix3 b r ⟨640 + d.val, by omega⟩)
    = tri (fun _ => 0) (fun j => m ((c : Thread nD τ).loc main_arg2) (ix3 b r j)) 0 d := by
  have e : ∀ {x y : ℕ} (hx : x < 32) (hy : y < 32), x = y → (m (c, Proc.tc.devRef main_arg2) (ix3 b r ⟨x, hx⟩) : EReal)
      = (m (c, Proc.tc.devRef main_arg2) (ix3 b r ⟨y, hy⟩) : EReal) := by intro x y hx hy h; subst h; rfl
  unfold V
  repeat after_reads_at
  rw [dif_neg (by omega), dif_neg (by omega), dif_pos (by omega)]
  by_cases h1 : d.val < 64
  · rw [tri_lo _ _ _ _ h1, dif_pos (by omega)]
  by_cases h2 : d.val - 64 < 32
  · rw [tri_mid _ _ _ _ h1 h2, dif_neg (by omega), dif_pos (by omega)]
    exact e _ _ (by omega)
  · rw [tri_hi _ _ _ _ h1 h2, dif_neg (by omega), dif_neg (by omega)]
set_option maxHeartbeats 2000000 in
/-- and the padded turned rotary key. -/
theorem in_b (b : Fin 8) (r : Fin 4096) (d : Fin 128) : V m c main_v13 (ix3 b r ⟨768 + d.val, by omega⟩)
    = tri (fun _ => 0) (turn fun j => m ((c : Thread nD τ).loc main_arg2) (ix3 b r j)) 0 d := by
  unfold V
  repeat after_reads_at
  rw [dif_neg (by omega), dif_neg (by omega), dif_neg (by omega)]
  exact turned_key (fun j => m ((c : Thread nD τ).loc main_arg2) (ix3 b r j)) (768 + d.val - 384 - 256 - 128) d (by omega)

end Cert.PrepValue

end
-- ==== Proof.PrepSpec.lean ====
/-
  What the query and key preparation computes, entry by entry, as functions of its argument arrays: the normalised latents
  projected head by head, the last 32 columns of a query and of a key turned by the position's angle.
-/
module

public import proofs.«01_k».proof.Proof.PrepMath
public import Idealize.ShloMosaic.Lib.Pointwise

@[expose] public section

noncomputable section

namespace Cert.PrepSpec

open Idealize.ShloMosaic Cert.PrepMath

variable (cq : Vec Ideal ⟨3, ![8, 4096, 384]⟩ .bf16) (ckv : Vec Ideal ⟨3, ![8, 4096, 256]⟩ .bf16) (kpe : Vec Ideal ⟨3, ![8, 4096, 32]⟩ .bf16)
  (gq : Vec Ideal ⟨1, ![384]⟩ .f32) (gk : Vec Ideal ⟨1, ![256]⟩ .f32) (wq : Vec Ideal ⟨2, ![384, 768]⟩ .bf16)
  (wkv : Vec Ideal ⟨2, ![256, 1024]⟩ .bf16) (cs sn : Vec Ideal ⟨2, ![4096, 32]⟩ .f32)

/-- The normalised query latent of token `r` of batch `b`. -/
def hq (b : Fin 8) (r : Fin 4096) (k : Fin 384) : EReal :=
  rowNorm (fun k => cq (ix3 b r k)) (fun k => gq (ix1 k)) (Ideal.ofBits .f32 0x43C00000#32) k
/-- The normalised key latent of token `r` of batch `b`. -/
def hkv (b : Fin 8) (r : Fin 4096) (k : Fin 256) : EReal :=
  rowNorm (fun k => ckv (ix3 b r k)) (fun k => gk (ix1 k)) (Ideal.ofBits .f32 0x43800000#32) k

/-- The query's rotary columns before the turn. -/
def qRot (b h : Fin 8) (r : Fin 4096) (j : Fin 32) : EReal :=
  ∑ k, hq cq gq b r k * wq (ix2 k ⟨h.val * 96 + 64 + j.val, by omega⟩)

/-- The query's entry: batch `b`, head `h`, token `r`, column `d`. -/
def qEntry (b h : Fin 8) (r : Fin 4096) (d : Fin 128) : EReal :=
  tri (fun j => ∑ k, hq cq gq b r k * wq (ix2 k ⟨h.val * 96 + j.val, by omega⟩))
      (fun j => qRot cq gq wq b h r j * cs (ix2 r j) + turn (qRot cq gq wq b h r) j * sn (ix2 r j)) 0 d
    * Ideal.ofBits .f32 0x3E16C740#32
/-- The key's entry. -/
def kEntry (b h : Fin 8) (r : Fin 4096) (d : Fin 128) : EReal :=
  tri (fun j => ∑ k, hkv ckv gk b r k * wkv (ix2 k ⟨h.val * 128 + j.val, by omega⟩))
    (fun j => kpe (ix3 b r j) * cs (ix2 r j) + turn (fun i => kpe (ix3 b r i)) j * sn (ix2 r j)) 0 d
/-- The value's entry, a row of ones under the head's 64 rows. -/
def vEntry (b h : Fin 8) (d : Fin 128) (r : Fin 4096) : EReal :=
  tri (fun j => ∑ k, hkv ckv gk b r k * wkv (ix2 k ⟨h.val * 128 + 64 + j.val, by omega⟩))
    (fun j => if j.val = 0 then 1 else 0) 0 d

end Cert.PrepSpec

end
-- ==== Proof.PrepArray.lean ====
/-
  What the query and key preparation's three result arrays hold after the run: each one function of the argument arrays.
-/
module

public import proofs.«01_k».proof.Proof.PrepTurn
public import proofs.«01_k».proof.Proof.PrepSpec
public import Idealize.ShloMosaic.Lib.Pipeline.Value

@[expose] public section

set_option maxRecDepth 16384

noncomputable section

namespace Cert.PrepValue

open Cert.PrepIdeal Cert.PrepIdeal.Gen Idealize.ShloMosaic Idealize.ShloMosaic.TcCoe Idealize.SL.Sem Cert.PrepMath Cert.PrepSpec

variable (m : (ℓ : Loc nD τ sig) → Buf (Elt Ideal) ℓ) (ρ : Dev nD → PrngReg)

/-- The queries of device `c`'s arguments. -/
def qArr (c : Dev nD) : Buf (Elt Ideal) ((c : Thread nD τ).loc main_v47_0) := fun i =>
  qEntry (m ((c : Thread nD τ).loc main_arg0)) (m ((c : Thread nD τ).loc main_arg3)) (m ((c : Thread nD τ).loc main_arg5))
    (m ((c : Thread nD τ).loc main_arg7)) (m ((c : Thread nD τ).loc main_arg8)) (i 0) (i 1) (i 2) (i 3)
/-- The keys of device `c`'s arguments. -/
def kArr (c : Dev nD) : Buf (Elt Ideal) ((c : Thread nD τ).loc main_v47_1) := fun i =>
  kEntry (m ((c : Thread nD τ).loc main_arg1)) (m ((c : Thread nD τ).loc main_arg2)) (m ((c : Thread nD τ).loc main_arg4))
    (m ((c : Thread nD τ).loc main_arg6)) (m ((c : Thread nD τ).loc main_arg7)) (m ((c : Thread nD τ).loc main_arg8)) (i 0) (i 1) (i 2) (i 3)
/-- The values of device `c`'s arguments. -/
def vArr (c : Dev nD) : Buf (Elt Ideal) ((c : Thread nD τ).loc main_v47_2) := fun i =>
  vEntry (m ((c : Thread nD τ).loc main_arg1)) (m ((c : Thread nD τ).loc main_arg4)) (m ((c : Thread nD τ).loc main_arg6))
    (i 0) (i 1) (i 2) (i 3)

/-- Which blocks point `t` works on: batch `t / 8` and the tokens' tile `t % 8`. -/
theorem idx0 : ∀ t : Fin cfg0.N, win0_0.index t = ![t.val / 8, t.val % 8, 0] :=
  (by decide +kernel : ∀ t : Fin grid0.N, win0_0.index t = ![t.val / 8, t.val % 8, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![t.val % 8, 0] :=
  (by decide +kernel : ∀ t : Fin grid0.N, win0_7.index t = ![t.val % 8, 0])
theorem idx8 : ∀ t : Fin cfg0.N, win0_8.index t = ![t.val % 8, 0] :=
  (by decide +kernel : ∀ t : Fin grid0.N, win0_8.index t = ![t.val % 8, 0])
theorem idx9 : ∀ t : Fin cfg0.N, win0_9.index t = ![t.val / 8, 0, t.val % 8, 0] :=
  (by decide +kernel : ∀ t : Fin grid0.N, win0_9.index t = ![t.val / 8, 0, t.val % 8, 0])
theorem idx10 : ∀ t : Fin cfg0.N, win0_10.index t = ![t.val / 8, 0, t.val % 8, 0] :=
  (by decide +kernel : ∀ t : Fin grid0.N, win0_10.index t = ![t.val / 8, 0, t.val % 8, 0])
theorem idx11 : ∀ t : Fin cfg0.N, win0_11.index t = ![t.val / 8, 0, 0, t.val % 8] :=
  (by decide +kernel : ∀ t : Fin grid0.N, win0_11.index t = ![t.val / 8, 0, 0, t.val % 8])

theorem lt_N (t : Fin cfg0.N) : t.val < 64 := by have h := t.isLt; have hN : cfg0.N = 64 := N_0; omega

/-- Point `t`'s batch. -/
def batch (t : Fin cfg0.N) : Fin 8 := ⟨t.val / 8, by have := lt_N t; omega⟩
/-- The token at row `r` of point `t`'s tile. -/
def token (t : Fin cfg0.N) (r : Fin 512) : Fin 4096 := ⟨t.val % 8 * 512 + r.val, by omega⟩

/-- The input block's entry at point `t`. -/
theorem blk_in (c : Dev nD) (t : Fin cfg0.N) (r : Fin 512) (k : Fin 896) :
    iblk m c 0 t (ix3 0 r k) = V m c main_v13 (ix3 (batch t) (token t r) k) := by
  have hN := lt_N t
  unfold batch token
  blk_ext [iblk, idx0 t]
theorem blk_gq (c : Dev nD) (t : Fin cfg0.N) (k : Fin 384) : iblk m c 1 t (ix2 0 k) = V m c main_v45 (ix2 0 k) := by
  blk_ext [iblk, idx1 t]
theorem blk_gk (c : Dev nD) (t : Fin cfg0.N) (k : Fin 256) : iblk m c 2 t (ix2 0 k) = V m c main_v46 (ix2 0 k) := by
  blk_ext [iblk, idx2 t]
theorem blk_wq (c : Dev nD) (t : Fin cfg0.N) (k : Fin 384) (n : Fin 1024) : iblk m c 3 t (ix2 k n) = V m c main_v17 (ix2 k n) := by
  blk_ext [iblk, idx3 t]
theorem blk_wr (c : Dev nD) (t : Fin cfg0.N) (k : Fin 384) (n : Fin 1024) : iblk m c 4 t (ix2 k n) = V m c main_v28 (ix2 k n) := by
  blk_ext [iblk, idx4 t]
theorem blk_wk (c : Dev nD) (t : Fin cfg0.N) (k : Fin 256) (n : Fin 1024) : iblk m c 5 t (ix2 k n) = V m c main_v33 (ix2 k n) := by
  blk_ext [iblk, idx5 t]
theorem blk_wv (c : Dev nD) (t : Fin cfg0.N) (n : Fin 1024) (k : Fin 256) : iblk m c 6 t (ix2 n k) = V m c main_v44 (ix2 n k) := by
  blk_ext [iblk, idx6 t]
theorem blk_cs (c : Dev nD) (t : Fin cfg0.N) (r : Fin 512) (d : Fin 128) : iblk m c 7 t (ix2 r d) = V m c main_v40 (ix2 (token t r) d) := by
  unfold token
  blk_ext [iblk, idx7 t]
theorem blk_sn (c : Dev nD) (t : Fin cfg0.N) (r : Fin 512) (d : Fin 128) : iblk m c 8 t (ix2 r d) = V m c main_v43 (ix2 (token t r) d) := by
  unfold token
  blk_ext [iblk, idx8 t]

/-- The block's normalised query latent is the array's. -/
theorem hq_blk (c : Dev nD) (t : Fin cfg0.N) (r : Fin 512) (k : Fin 384) : hqAt (iblk m c 0 t) (iblk m c 1 t) r k
    = hq (m ((c : Thread nD τ).loc main_arg0)) (m ((c : Thread nD τ).loc main_arg3)) (batch t) (token t r) k := by
  unfold hqAt hq
  exact congrArg₂ (fun x g => rowNorm x g (Ideal.ofBits .f32 0x43C00000#32) k)
    (funext fun k => (blk_in m c t r _).trans (in_q m c _ _ k)) (funext fun k => (blk_gq m c t k).trans (gq_row m c k))
/-- The block's normalised key latent is the array's. -/
theorem hkv_blk (c : Dev nD) (t : Fin cfg0.N) (r : Fin 512) (k : Fin 256) : hkvAt (iblk m c 0 t) (iblk m c 2 t) r k
    = hkv (m ((c : Thread nD τ).loc main_arg1)) (m ((c : Thread nD τ).loc main_arg4)) (batch t) (token t r) k := by
  unfold hkvAt hkv
  exact congrArg₂ (fun x g => rowNorm x g (Ideal.ofBits .f32 0x43800000#32) k)
    (funext fun k => (blk_in m c t r _).trans (in_kv m c _ _ k)) (funext fun k => (blk_gk m c t k).trans (gk_row m c k))

/-- The query block's entry at point `t` is the array's, the norm weight and the query weights being real. -/
theorem q_blk (c : Dev nD) (hg : ∀ i, ∃ r : ℝ, m ((c : Thread nD τ).loc main_arg3) i = (r : EReal))
    (hw : ∀ i, ∃ r : ℝ, m ((c : Thread nD τ).loc main_arg5) i = (r : EReal)) (t : Fin cfg0.N) (h : Fin 8) (r : Fin 512) (d : Fin 128) :
    qBlk (iblk m c 0 t) (iblk m c 1 t) (iblk m c 3 t) (iblk m c 4 t) (iblk m c 7 t) (iblk m c 8 t) h r d
      = qEntry (m ((c : Thread nD τ).loc main_arg0)) (m ((c : Thread nD τ).loc main_arg3)) (m ((c : Thread nD τ).loc main_arg5))
          (m ((c : Thread nD τ).loc main_arg7)) (m ((c : Thread nD τ).loc main_arg8)) (batch t) h (token t r) d := by
  unfold qBlk qEntry
  have h1 : ∀ k, iblk m c 3 t (ix2 k (col h d)) = _ := fun k => (blk_wq m c t k (col h d)).trans (wq_apply m c k h d)
  have h2 : ∀ k, iblk m c 4 t (ix2 k (col h d)) = _ := fun k => (blk_wr m c t k (col h d)).trans (wr_apply m c k h d)
  have h3 : iblk m c 7 t (ix2 r d) = _ := (blk_cs m c t r d).trans (cs_apply m c (token t r) d)
  have h4 : iblk m c 8 t (ix2 r d) = _ := (blk_sn m c t r d).trans (sn_apply m c (token t r) d)
  rw [h3, h4]
  simp only [hq_blk, h1, h2]
  refine congrArg (fun x : EReal => x * Ideal.ofBits .f32 0x3E16C740#32) ?_
  exact query_eq _ (fun k j => m ((c : Thread nD τ).loc main_arg5) (ix2 k ⟨h.val * 96 + j.val, by omega⟩))
    (fun k j => m ((c : Thread nD τ).loc main_arg5) (ix2 k ⟨h.val * 96 + 64 + j.val, by omega⟩)) _ _
    (fun k => rowNorm_real _ _ _ 384 (by norm_num) len_word (fun k => hg _) k) (fun k j => hw _) d
/-- The key block's entry at point `t` is the array's. -/
theorem k_blk (c : Dev nD) (t : Fin cfg0.N) (h : Fin 8) (r : Fin 512) (d : Fin 128) :
    kBlk (iblk m c 0 t) (iblk m c 2 t) (iblk m c 5 t) (iblk m c 7 t) (iblk m c 8 t) h r d
      = kEntry (m ((c : Thread nD τ).loc main_arg1)) (m ((c : Thread nD τ).loc main_arg2)) (m ((c : Thread nD τ).loc main_arg4))
          (m ((c : Thread nD τ).loc main_arg6)) (m ((c : Thread nD τ).loc main_arg7)) (m ((c : Thread nD τ).loc main_arg8)) (batch t) h (token t r) d := by
  unfold kBlk kEntry
  have h1 : ∀ k, iblk m c 5 t (ix2 k (col h d)) = _ := fun k => (blk_wk m c t k (col h d)).trans (wk_apply m c k h d)
  have h2 : iblk m c 0 t (ix3 0 r ⟨640 + d.val, by omega⟩) = _ := (blk_in m c t r _).trans (in_a m c (batch t) (token t r) d)
  have h3 : iblk m c 7 t (ix2 r d) = _ := (blk_cs m c t r d).trans (cs_apply m c (token t r) d)
  have h4 : iblk m c 8 t (ix2 r d) = _ := (blk_sn m c t r d).trans (sn_apply m c (token t r) d)
  have h5 : iblk m c 0 t (ix3 0 r ⟨768 + d.val, by omega⟩) = _ := (blk_in m c t r _).trans (in_b m c (batch t) (token t r) d)
  rw [h2, h3, h4, h5]
  simp only [hkv_blk, h1]
  exact key_eq _ (fun k j => m ((c : Thread nD τ).loc main_arg6) (ix2 k ⟨h.val * 128 + j.val, by omega⟩)) _ _ _ d
/-- The value block's entry at point `t` is the array's. -/
theorem v_blk (c : Dev nD) (t : Fin cfg0.N) (h : Fin 8) (d : Fin 128) (r : Fin 512) :
    vBlk (iblk m c 0 t) (iblk m c 2 t) (iblk m c 6 t) h d r
      = vEntry (m ((c : Thread nD τ).loc main_arg1)) (m ((c : Thread nD τ).loc main_arg4)) (m ((c : Thread nD τ).loc main_arg6))
          (batch t) h d (token t r) := by
  unfold vBlk vEntry
  have h1 : ∀ k, iblk m c 6 t (ix2 (col h d) k) = _ := fun k => (blk_wv m c t (col h d) k).trans (wv_apply m c k h d)
  simp only [hkv_blk, h1]
  exact value_eq _ (fun k j => m ((c : Thread nD τ).loc main_arg6) (ix2 k ⟨h.val * 128 + 64 + j.val, by omega⟩)) d

/-- What the first result array holds after the run. -/
theorem final9 (c : Dev nD) (hg : ∀ i, ∃ r : ℝ, m ((c : Thread nD τ).loc main_arg3) i = (r : EReal))
    (hw : ∀ i, ∃ r : ℝ, m ((c : Thread nD τ).loc main_arg5) i = (r : EReal)) : (dats m 0 c).arrAt 9 cfg0.N = qArr m c := by
  refine (dats m 0 c).arrAt_eq_of_covers 9 _ (by decide +kernel) fun t hf y => ?_
  blk_simp
  rw [after0_9, out9_eq]
  obtain ⟨h, hh⟩ : ∃ h : Fin 8, h = y 1 := ⟨_, rfl⟩
  obtain ⟨r, hr⟩ : ∃ r : Fin 512, r = y 2 := ⟨_, rfl⟩
  obtain ⟨d, hd⟩ : ∃ d : Fin 128, d = y 3 := ⟨_, rfl⟩
  have hN := lt_N t
  have h0 : (y 0).val = 0 := by have := (y 0).isLt; change (y 0).val < 1 at this; omega
  have e0 : ((win0_9.blk t).view.emb y) 0 = batch t := Fin.ext (by unfold batch; blk_simp [idx9 t]; first | done | simp [h0])
  have e1 : ((win0_9.blk t).view.emb y) 1 = h := Fin.ext (by blk_simp [idx9 t]; first | done | simp [hh])
  have e2 : ((win0_9.blk t).view.emb y) 2 = token t r := Fin.ext (by unfold token; blk_simp [idx9 t]; first | done | simp [hr])
  have e3 : ((win0_9.blk t).view.emb y) 3 = d := Fin.ext (by blk_simp [idx9 t]; first | done | simp [hd])
  show qBlk _ _ _ _ _ _ (y 1) (y 2) (y 3) = qArr m c ((win0_9.blk t).view.emb y)
  unfold qArr
  rw [e0, e1, e2, e3, ← hh, ← hr, ← hd]
  exact q_blk m c hg hw t h r d
/-- What the second result array holds after the run. -/
theorem final10 (c : Dev nD) : (dats m 0 c).arrAt 10 cfg0.N = kArr m c := by
  refine (dats m 0 c).arrAt_eq_of_covers 10 _ (by decide +kernel) fun t hf y => ?_
  blk_simp
  rw [after0_10, out10_eq]
  obtain ⟨h, hh⟩ : ∃ h : Fin 8, h = y 1 := ⟨_, rfl⟩
  obtain ⟨r, hr⟩ : ∃ r : Fin 512, r = y 2 := ⟨_, rfl⟩
  obtain ⟨d, hd⟩ : ∃ d : Fin 128, d = y 3 := ⟨_, rfl⟩
  have hN := lt_N t
  have h0 : (y 0).val = 0 := by have := (y 0).isLt; change (y 0).val < 1 at this; omega
  have e0 : ((win0_10.blk t).view.emb y) 0 = batch t := Fin.ext (by unfold batch; blk_simp [idx10 t]; first | done | simp [h0])
  have e1 : ((win0_10.blk t).view.emb y) 1 = h := Fin.ext (by blk_simp [idx10 t]; first | done | simp [hh])
  have e2 : ((win0_10.blk t).view.emb y) 2 = token t r := Fin.ext (by unfold token; blk_simp [idx10 t]; first | done | simp [hr])
  have e3 : ((win0_10.blk t).view.emb y) 3 = d := Fin.ext (by blk_simp [idx10 t]; first | done | simp [hd])
  show kBlk _ _ _ _ _ (y 1) (y 2) (y 3) = kArr m c ((win0_10.blk t).view.emb y)
  unfold kArr
  rw [e0, e1, e2, e3, ← hh, ← hr, ← hd]
  exact k_blk m c t h r d
/-- What the third result array holds after the run. -/
theorem final11 (c : Dev nD) : (dats m 0 c).arrAt 11 cfg0.N = vArr m c := by
  refine (dats m 0 c).arrAt_eq_of_covers 11 _ (by decide +kernel) fun t hf y => ?_
  blk_simp
  rw [after0_11, out11_eq]
  obtain ⟨h, hh⟩ : ∃ h : Fin 8, h = y 1 := ⟨_, rfl⟩
  obtain ⟨d, hd⟩ : ∃ d : Fin 128, d = y 2 := ⟨_, rfl⟩
  obtain ⟨r, hr⟩ : ∃ r : Fin 512, r = y 3 := ⟨_, rfl⟩
  have hN := lt_N t
  have h0 : (y 0).val = 0 := by have := (y 0).isLt; change (y 0).val < 1 at this; omega
  have e0 : ((win0_11.blk t).view.emb y) 0 = batch t := Fin.ext (by unfold batch; blk_simp [idx11 t]; first | done | simp [h0])
  have e1 : ((win0_11.blk t).view.emb y) 1 = h := Fin.ext (by blk_simp [idx11 t]; first | done | simp [hh])
  have e2 : ((win0_11.blk t).view.emb y) 2 = d := Fin.ext (by blk_simp [idx11 t]; first | done | simp [hd])
  have e3 : ((win0_11.blk t).view.emb y) 3 = token t r := Fin.ext (by unfold token; blk_simp [idx11 t]; first | done | simp [hr])
  show vBlk _ _ _ (y 1) (y 2) (y 3) = vArr m c ((win0_11.blk t).view.emb y)
  unfold vArr
  rw [e0, e1, e2, e3, ← hh, ← hr, ← hd]
  exact v_blk m c t h d r

/-- The run, its three result arrays named and its arguments as launched. -/
theorem run_blocks : θ_run defs (onTc (τ := τ) (main (F := Ideal))) ⟨m, fun _ => 0, ρ⟩ fun r => ∀ c : Dev nD,
      r.2.mem ((c : Thread nD τ).loc main_v47_0) = (dats m 0 c).arrAt 9 cfg0.N
      ∧ r.2.mem ((c : Thread nD τ).loc main_v47_1) = (dats m 0 c).arrAt 10 cfg0.N
      ∧ r.2.mem ((c : Thread nD τ).loc main_v47_2) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ⟨(h c).1 9, (h c).1 10, (h c).1 11, ?_, ?_, ?_, ?_, ?_, ?_, ?_, ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)
  · exact ((h c).2 main_arg5 (Pipeline.mem_restRefs_of main_arg5 (by decide) (by decide))).trans (V_main_arg5 m c)
  · exact ((h c).2 main_arg6 (Pipeline.mem_restRefs_of main_arg6 (by decide) (by decide))).trans (V_main_arg6 m c)
  · exact ((h c).2 main_arg7 (Pipeline.mem_restRefs_of main_arg7 (by decide) (by decide))).trans (V_main_arg7 m c)
  · exact ((h c).2 main_arg8 (Pipeline.mem_restRefs_of main_arg8 (by decide) (by decide))).trans (V_main_arg8 m c)

end Cert.PrepValue

end
-- ==== Proof.PrepRef.lean ====
/-
  What the query and key preparation's reference computes, entry by entry.
-/
module

public import proofs.«01_k».proof.Proof.PrepSpec
public import proofs.«01_k».proof.Proof.Gen.PrepRefIdeal.Read

@[expose] public section

set_option maxRecDepth 16384

noncomputable section

namespace Cert.PrepRef

open Cert.PrepRefIdeal Cert.PrepRefIdeal.Read Idealize.ShloMosaic Cert.PrepMath Cert.PrepSpec

variable (x0 : (⟨S8x4096x384, .bf16⟩ : BufTy).Contents (Elt Ideal)) (x1 : (⟨S8x4096x256, .bf16⟩ : BufTy).Contents (Elt Ideal))
  (x2 : (⟨S8x4096x32, .bf16⟩ : BufTy).Contents (Elt Ideal)) (x3 : (⟨S384, .f32⟩ : BufTy).Contents (Elt Ideal))
  (x4 : (⟨S256, .f32⟩ : BufTy).Contents (Elt Ideal)) (x5 : (⟨S384x768, .bf16⟩ : BufTy).Contents (Elt Ideal))
  (x6 : (⟨S256x1024, .bf16⟩ : BufTy).Contents (Elt Ideal)) (x7 x8 : (⟨S4096x32, .f32⟩ : BufTy).Contents (Elt Ideal))

theorem word_zero : (FloatOps.ofBits .f32 0x00000000#32 : Ideal .f32) = (0 : EReal) := by
  show Ideal.ofBits .f32 0x00000000#32 = 0
  simp [Ideal.ofBits, Ideal.ieee]
theorem word_one : (FloatOps.ofBits .f32 0x3F800000#32 : Ideal .f32) = (1 : EReal) := by
  show Ideal.ofBits .f32 0x3F800000#32 = 1
  simp [Ideal.ofBits, Ideal.ieee]
  rw [← EReal.coe_mul]
  norm_num

/-- The sum of a query latent's squares. -/
theorem qSquares (b : Fin 8) (r : Fin 4096) :
    val_main_v6 (F := Ideal) x0 (ix2 b r) = ∑ k : Fin 384, x0 (ix3 b r k) * x0 (ix3 b r k) := by
  rw [val_main_v6_apply, val_main_cst_apply, word_zero]
  refine (zero_add _).trans (Finset.sum_congr rfl fun k _ => ?_)
  rw [val_main_v5_apply]
  have e : idx_main_v6 (ix2 b r) k = ix3 b r k := by
    funext a
    match a with
    | ⟨0, _⟩ | ⟨1, _⟩ | ⟨2, _⟩ => rfl
  rw [e]
  rfl
/-- The sum of a key latent's squares. -/
theorem kSquares (b : Fin 8) (r : Fin 4096) :
    val_main_v21 (F := Ideal) x1 (ix2 b r) = ∑ k : Fin 256, x1 (ix3 b r k) * x1 (ix3 b r k) := by
  rw [val_main_v21_apply, val_main_cst_2_apply, word_zero]
  refine (zero_add _).trans (Finset.sum_congr rfl fun k _ => ?_)
  rw [val_main_v20_apply]
  have e : idx_main_v21 (ix2 b r) k = ix3 b r k := by
    funext a
    match a with
    | ⟨0, _⟩ | ⟨1, _⟩ | ⟨2, _⟩ => rfl
  rw [e]
  rfl

/-- The normalised query latent. -/
theorem hq_eq (b : Fin 8) (r : Fin 4096) (k : Fin 384) : val_main_v17 (F := Ideal) x0 x3 (ix3 b r k) = hq x0 x3 b r k := by
  rw [val_main_v17_apply, val_main_v16_apply, val_main_v15_apply, val_main_v14_apply, val_main_v13_apply, val_main_v12_apply,
    val_main_v11_apply, val_main_v10_apply, val_main_v9_apply, val_main_v8_apply, val_main_v7_apply, val_main_cst_0_apply,
    val_main_cst_1_apply]
  have e1 : idx_main_v7 (idx_main_v13 (ix3 b r k)) = ix2 b r := by
    funext a
    match a with
    | ⟨0, _⟩ | ⟨1, _⟩ => rfl
  have e2 : idx_main_v15 (idx_main_v16 (ix3 b r k)) = ix1 k := by
    funext a
    match a with
    | ⟨0, _⟩ => rfl
  rw [e1, e2, qSquares]
  rfl
/-- The normalised key latent. -/
theorem hkv_eq (b : Fin 8) (r : Fin 4096) (k : Fin 256) : val_main_v32 (F := Ideal) x1 x4 (ix3 b r k) = hkv x1 x4 b r k := by
  rw [val_main_v32_apply, val_main_v31_apply, val_main_v30_apply, val_main_v29_apply, val_main_v28_apply, val_main_v27_apply,
    val_main_v26_apply, val_main_v25_apply, val_main_v24_apply, val_main_v23_apply, val_main_v22_apply, val_main_cst_3_apply,
    val_main_cst_4_apply]
  have e1 : idx_main_v22 (idx_main_v28 (ix3 b r k)) = ix2 b r := by
    funext a
    match a with
    | ⟨0, _⟩ | ⟨1, _⟩ => rfl
  have e2 : idx_main_v30 (idx_main_v31 (ix3 b r k)) = ix1 k := by
    funext a
    match a with
    | ⟨0, _⟩ => rfl
  rw [e1, e2, kSquares]
  rfl

/-- The query projection, column `n`. -/
theorem up_q (b : Fin 8) (r : Fin 4096) (n : Fin 768) :
    val_main_v18 (F := Ideal) x0 x3 x5 (ix3 b r n) = ∑ k, hq x0 x3 b r k * x5 (ix2 k n) := by
  refine (val_main_v18_apply x0 x3 x5 (ix3 b r n)).trans (Finset.sum_congr rfl fun k _ => ?_)
  rw [← hq_eq]
  refine congrArg₂ (· * ·) (congrArg (val_main_v17 (F := Ideal) x0 x3) ?_) (congrArg x5 ?_)
  · funext a
    match a with
    | ⟨0, _⟩ | ⟨1, _⟩ | ⟨2, _⟩ => rfl
  · funext a
    match a with
    | ⟨0, _⟩ | ⟨1, _⟩ => rfl
/-- The key and value projection, column `n`. -/
theorem up_kv (b : Fin 8) (r : Fin 4096) (n : Fin 1024) :
    val_main_v33 (F := Ideal) x1 x4 x6 (ix3 b r n) = ∑ k, hkv x1 x4 b r k * x6 (ix2 k n) := by
  refine (val_main_v33_apply x1 x4 x6 (ix3 b r n)).trans (Finset.sum_congr rfl fun k _ => ?_)
  rw [← hkv_eq]
  refine congrArg₂ (· * ·) (congrArg (val_main_v32 (F := Ideal) x1 x4) ?_) (congrArg x6 ?_)
  · funext a
    match a with
    | ⟨0, _⟩ | ⟨1, _⟩ | ⟨2, _⟩ => rfl
  · funext a
    match a with
    | ⟨0, _⟩ | ⟨1, _⟩ => rfl

/-- Head `h`'s query column `j` of 96 lies at column `96 h + j`. -/
theorem split_q (b : Fin 8) (r : Fin 4096) (h : Fin 8) (j : Fin 96) :
    idx_main_v19 (ix4 b r h j) = ix3 b r ⟨h.val * 96 + j.val, by omega⟩ := by
  funext a
  match a with
  | ⟨0, _⟩ => exact Fin.ext (by show (((b.val * 4096 + r.val) * 8 + h.val) * 96 + j.val) / 3145728 = b.val; omega)
  | ⟨1, _⟩ => exact Fin.ext (by show (((b.val * 4096 + r.val) * 8 + h.val) * 96 + j.val) / 768 % 4096 = r.val; omega)
  | ⟨2, _⟩ => exact Fin.ext (by show (((b.val * 4096 + r.val) * 8 + h.val) * 96 + j.val) % 768 = h.val * 96 + j.val; omega)
/-- Head `h`'s key and value column `j` of 128 lies at column `128 h + j`. -/
theorem split_kv (b : Fin 8) (r : Fin 4096) (h : Fin 8) (j : Fin 128) :
    idx_main_v34 (ix4 b r h j) = ix3 b r ⟨h.val * 128 + j.val, by omega⟩ := by
  funext a
  match a with
  | ⟨0, _⟩ => exact Fin.ext (by show (((b.val * 4096 + r.val) * 8 + h.val) * 128 + j.val) / 4194304 = b.val; omega)
  | ⟨1, _⟩ => exact Fin.ext (by show (((b.val * 4096 + r.val) * 8 + h.val) * 128 + j.val) / 1024 % 4096 = r.val; omega)
  | ⟨2, _⟩ => exact Fin.ext (by show (((b.val * 4096 + r.val) * 8 + h.val) * 128 + j.val) % 1024 = h.val * 128 + j.val; omega)

/-- The query's columns without position. -/
theorem nope_q (b : Fin 8) (r : Fin 4096) (h : Fin 8) (j : Fin 64) :
    val_main_v35 (F := Ideal) x0 x3 x5 (ix4 b r h j) = ∑ k, hq x0 x3 b r k * x5 (ix2 k ⟨h.val * 96 + j.val, by omega⟩) := by
  rw [val_main_v35_apply, val_main_v19_apply]
  have e : idx_main_v35 (ix4 b r h j) = ix4 b r h ⟨j.val, by omega⟩ := by
    funext a
    match a with
    | ⟨0, _⟩ | ⟨1, _⟩ | ⟨2, _⟩ | ⟨3, _⟩ => rfl
  rw [e, split_q, up_q]
/-- The query's rotary columns before the turn. -/
theorem rot_q (b : Fin 8) (r : Fin 4096) (h : Fin 8) (j : Fin 32) :
    val_main_v36 (F := Ideal) x0 x3 x5 (ix4 b r h j) = qRot x0 x3 x5 b h r j := by
  rw [val_main_v36_apply, val_main_v19_apply]
  have e : idx_main_v36 (ix4 b r h j) = ix4 b r h ⟨64 + j.val, by omega⟩ := by
    funext a
    match a with
    | ⟨0, _⟩ | ⟨1, _⟩ | ⟨2, _⟩ | ⟨3, _⟩ => rfl
  rw [e, split_q, up_q]
  unfold qRot
  have e' : (⟨h.val * 96 + (64 + j.val), by omega⟩ : Fin 768) = ⟨h.val * 96 + 64 + j.val, by omega⟩ := Fin.ext (by simp only []; omega)
  exact congrArg (fun n => ∑ k, hq x0 x3 b r k * x5 (ix2 k n)) e'
/-- The key's own columns. -/
theorem nope_k (b : Fin 8) (r : Fin 4096) (h : Fin 8) (j : Fin 64) :
    val_main_v37 (F := Ideal) x1 x4 x6 (ix4 b r h j) = ∑ k, hkv x1 x4 b r k * x6 (ix2 k ⟨h.val * 128 + j.val, by omega⟩) := by
  rw [val_main_v37_apply, val_main_v34_apply]
  have e : idx_main_v37 (ix4 b r h j) = ix4 b r h ⟨j.val, by omega⟩ := by
    funext a
    match a with
    | ⟨0, _⟩ | ⟨1, _⟩ | ⟨2, _⟩ | ⟨3, _⟩ => rfl
  rw [e, split_kv, up_kv]
/-- The value's columns. -/
theorem nope_v (b : Fin 8) (r : Fin 4096) (h : Fin 8) (j : Fin 64) :
    val_main_v38 (F := Ideal) x1 x4 x6 (ix4 b r h j) = ∑ k, hkv x1 x4 b r k * x6 (ix2 k ⟨h.val * 128 + 64 + j.val, by omega⟩) := by
  rw [val_main_v38_apply, val_main_v34_apply]
  have e : idx_main_v38 (ix4 b r h j) = ix4 b r h ⟨64 + j.val, by omega⟩ := by
    funext a
    match a with
    | ⟨0, _⟩ | ⟨1, _⟩ | ⟨2, _⟩ | ⟨3, _⟩ => rfl
  rw [e, split_kv, up_kv]
  have e' : (⟨h.val * 128 + (64 + j.val), by omega⟩ : Fin 1024) = ⟨h.val * 128 + 64 + j.val, by omega⟩ := Fin.ext (by simp only []; omega)
  exact congrArg (fun n => ∑ k, hkv x1 x4 b r k * x6 (ix2 k n)) e'

/-- The reference's turned query columns. -/
theorem turn_q (b : Fin 8) (r : Fin 4096) (h : Fin 8) (j : Fin 32) :
    val_main_v50 (F := Ideal) x0 x3 x5 (ix4 b r h j) = turn (qRot x0 x3 x5 b h r) j := by
  have hf : qRot x0 x3 x5 b h r = fun i => val_main_v36 (F := Ideal) x0 x3 x5 (ix4 b r h i) := funext fun i => (rot_q x0 x3 x5 b r h i).symm
  rw [hf]
  unfold val_main_v50 val_main_v48 val_main_v49 val_main_v44 val_main_v45 val_main_v46 val_main_v47
  generalize val_main_v36 (F := Ideal) x0 x3 x5 = y
  have e : ∀ {p q : ℕ} (hp : p < 32) (hq : q < 32), p = q → y (ix4 b r h ⟨p, hp⟩) = y (ix4 b r h ⟨q, hq⟩) := by
    intro p q hp hq t; subst t; rfl
  pointwise
  by_cases h3 : j.val % 16 < 8
  · rw [turn_lo _ _ h3]
    split_ifs <;> first | (exfalso; omega) | exact congrArg (fun x : EReal => -x) (e _ _ (by omega))
  · rw [turn_hi _ _ h3]
    split_ifs <;> first | (exfalso; omega) | exact e _ _ (by omega)
/-- The reference's turned rotary key. -/
theorem turn_k (b : Fin 8) (r : Fin 4096) (j : Fin 32) :
    val_main_v64 (F := Ideal) x2 (ix3 b r j) = turn (fun i => x2 (ix3 b r i)) j := by
  have hf : (fun i => x2 (ix3 b r i)) = fun i => val_main_v2 (F := Ideal) x2 (ix3 b r i) := rfl
  rw [hf]
  unfold val_main_v64 val_main_v62 val_main_v63 val_main_v58 val_main_v59 val_main_v60 val_main_v61
  generalize val_main_v2 (F := Ideal) x2 = y
  have e : ∀ {p q : ℕ} (hp : p < 32) (hq : q < 32), p = q → y (ix3 b r ⟨p, hp⟩) = y (ix3 b r ⟨q, hq⟩) := by
    intro p q hp hq t; subst t; rfl
  pointwise
  by_cases h3 : j.val % 16 < 8
  · rw [turn_lo _ _ h3]
    split_ifs <;> first | (exfalso; omega) | exact congrArg (fun x : EReal => -x) (e _ _ (by omega))
  · rw [turn_hi _ _ h3]
    split_ifs <;> first | (exfalso; omega) | exact e _ _ (by omega)

/-- The rotated query columns. -/
theorem rope_q (b : Fin 8) (r : Fin 4096) (h : Fin 8) (j : Fin 32) : val_main_v54 (F := Ideal) x0 x3 x5 x7 x8 (ix4 b r h j)
    = qRot x0 x3 x5 b h r j * x7 (ix2 r j) + turn (qRot x0 x3 x5 b h r) j * x8 (ix2 r j) := by
  rw [val_main_v54_apply, val_main_v43_apply, val_main_v53_apply, rot_q, turn_q, val_main_v42_apply, val_main_v41_apply,
    val_main_v39_apply, val_main_v52_apply, val_main_v51_apply, val_main_v40_apply]
  have e1 : idx_main_v39 (idx_main_v41 (idx_main_v42 (ix4 b r h j))) = ix2 r j := by
    funext a
    match a with
    | ⟨0, _⟩ | ⟨1, _⟩ => rfl
  have e2 : idx_main_v40 (idx_main_v51 (idx_main_v52 (ix4 b r h j))) = ix2 r j := by
    funext a
    match a with
    | ⟨0, _⟩ | ⟨1, _⟩ => rfl
  rw [e1, e2]
  rfl
/-- The rotated key columns, the same for every head. -/
theorem rope_k (b : Fin 8) (r : Fin 4096) (h : Fin 8) (j : Fin 32) : val_main_v70 (F := Ideal) x2 x7 x8 (ix4 b r h j)
    = x2 (ix3 b r j) * x7 (ix2 r j) + turn (fun i => x2 (ix3 b r i)) j * x8 (ix2 r j) := by
  rw [val_main_v70_apply, val_main_v69_apply]
  have e0 : idx_main_v69 (idx_main_v70 (ix4 b r h j)) = ix3 b r j := by
    funext a
    match a with
    | ⟨0, _⟩ | ⟨1, _⟩ | ⟨2, _⟩ => rfl
  rw [e0, val_main_v68_apply, val_main_v57_apply, val_main_v67_apply, turn_k, val_main_v56_apply, val_main_v55_apply,
    val_main_v66_apply, val_main_v65_apply]
  have e1 : idx_main_v55 (idx_main_v56 (ix3 b r j)) = ix2 r j := by
    funext a
    match a with
    | ⟨0, _⟩ | ⟨1, _⟩ => rfl
  have e2 : idx_main_v65 (idx_main_v66 (ix3 b r j)) = ix2 r j := by
    funext a
    match a with
    | ⟨0, _⟩ | ⟨1, _⟩ => rfl
  rw [e1, e2]
  rfl

/-- Columns of 64, 32 and 32 beside each other. -/
theorem columns (a : FVec Ideal S8x4096x8x64 .f32) (p z : FVec Ideal S8x4096x8x32 .f32) (hz : ∀ i, z i = (0 : EReal)) (b : Fin 8)
    (r : Fin 4096) (h : Fin 8) (d : Fin 128) :
    concatenate S8x4096x8x128 3 [⟨S8x4096x8x64, a⟩, ⟨S8x4096x8x32, p⟩, ⟨S8x4096x8x32, z⟩]
        Gen.facts.concatenates_S8x4096x8x64_S8x4096x8x32_S8x4096x8x32_S8x4096x8x128_d3 (ix4 b r h d)
      = tri (fun j => a (ix4 b r h j)) (fun j => p (ix4 b r h j)) 0 d := by
  unfold tri
  pointwise
  simp only [hz]

/-- The reference's queries. -/
theorem q_apply (b h : Fin 8) (r : Fin 4096) (d : Fin 128) :
    val_main_v80 (F := Ideal) x0 x3 x5 x7 x8 (ix4 b h r d) = qEntry x0 x3 x5 x7 x8 b h r d := by
  rw [val_main_v80_apply, val_main_v79_apply, val_main_v74_apply, val_main_v73_apply, val_main_cst_6_apply]
  have e : idx_main_v79 (ix4 b h r d) = ix4 b r h d := by
    funext a
    match a with
    | ⟨0, _⟩ | ⟨1, _⟩ | ⟨2, _⟩ | ⟨3, _⟩ => rfl
  have hz : ∀ i, val_main_v71 (F := Ideal) i = (0 : EReal) := fun i => by
    rw [val_main_v71_apply, val_main_cst_5_apply]
    exact word_zero
  have hc := columns (val_main_v35 (F := Ideal) x0 x3 x5) (val_main_v54 (F := Ideal) x0 x3 x5 x7 x8) (val_main_v71 (F := Ideal)) hz b r h d
  have h1 : (fun j => val_main_v35 (F := Ideal) x0 x3 x5 (ix4 b r h j)) = _ := funext fun j => nope_q x0 x3 x5 b r h j
  have h2 : (fun j => val_main_v54 (F := Ideal) x0 x3 x5 x7 x8 (ix4 b r h j)) = _ := funext fun j => rope_q x0 x3 x5 x7 x8 b r h j
  have hv : val_main_v72 (F := Ideal) x0 x3 x5 x7 x8 (ix4 b r h d) = _ := hc.trans (congrArg₂ (fun p q => tri p q 0 d) h1 h2)
  rw [e, hv]
  rfl
/-- The reference's keys. -/
theorem k_apply (b h : Fin 8) (r : Fin 4096) (d : Fin 128) :
    val_main_v82 (F := Ideal) x1 x2 x4 x6 x7 x8 (ix4 b h r d) = kEntry x1 x2 x4 x6 x7 x8 b h r d := by
  rw [val_main_v82_apply, val_main_v81_apply]
  have e : idx_main_v81 (ix4 b h r d) = ix4 b r h d := by
    funext a
    match a with
    | ⟨0, _⟩ | ⟨1, _⟩ | ⟨2, _⟩ | ⟨3, _⟩ => rfl
  have hz : ∀ i, val_main_v71 (F := Ideal) i = (0 : EReal) := fun i => by
    rw [val_main_v71_apply, val_main_cst_5_apply]
    exact word_zero
  have hc := columns (val_main_v37 (F := Ideal) x1 x4 x6) (val_main_v70 (F := Ideal) x2 x7 x8) (val_main_v71 (F := Ideal)) hz b r h d
  have h1 : (fun j => val_main_v37 (F := Ideal) x1 x4 x6 (ix4 b r h j)) = _ := funext fun j => nope_k x1 x4 x6 b r h j
  have h2 : (fun j => val_main_v70 (F := Ideal) x2 x7 x8 (ix4 b r h j)) = _ := funext fun j => rope_k x2 x7 x8 b r h j
  have hv : val_main_v75 (F := Ideal) x1 x2 x4 x6 x7 x8 (ix4 b r h d) = _ := hc.trans (congrArg₂ (fun p q => tri p q 0 d) h1 h2)
  rw [e, hv]
  rfl

/-- 64 columns, a column of ones and 63 of zeros beside each other. -/
theorem ones_column (a : FVec Ideal S8x4096x8x64 .f32) (o : FVec Ideal S8x4096x8x1 .f32) (z : FVec Ideal S8x4096x8x63 .f32)
    (ho : ∀ i, o i = (1 : EReal)) (hz : ∀ i, z i = (0 : EReal)) (b : Fin 8) (r : Fin 4096) (h : Fin 8) (d : Fin 128) :
    concatenate S8x4096x8x128 3 [⟨S8x4096x8x64, a⟩, ⟨S8x4096x8x1, o⟩, ⟨S8x4096x8x63, z⟩]
        Gen.facts.concatenates_S8x4096x8x64_S8x4096x8x1_S8x4096x8x63_S8x4096x8x128_d3 (ix4 b r h d)
      = tri (fun j => a (ix4 b r h j)) (fun j => if j.val = 0 then 1 else 0) 0 d := by
  pointwise
  by_cases h1 : d.val < 64
  · rw [tri_lo _ _ _ _ h1]
    split_ifs <;> first | (exfalso; omega) | rfl
  by_cases h2 : d.val - 64 < 32
  · rw [tri_mid _ _ _ _ h1 h2]
    by_cases h3 : d.val - 64 = 0
    · rw [if_pos h3]
      split_ifs <;> first | (exfalso; omega) | exact ho _
    · rw [if_neg h3]
      split_ifs <;> first | (exfalso; omega) | exact hz _
  · rw [tri_hi _ _ _ _ h1 h2]
    split_ifs <;> first | (exfalso; omega) | exact hz _

/-- The reference's values. -/
theorem v_apply (b h : Fin 8) (d : Fin 128) (r : Fin 4096) :
    val_main_v84 (F := Ideal) x1 x4 x6 (ix4 b h d r) = vEntry x1 x4 x6 b h d r := by
  rw [val_main_v84_apply, val_main_v83_apply]
  have e : idx_main_v83 (ix4 b h d r) = ix4 b r h d := by
    funext a
    match a with
    | ⟨0, _⟩ | ⟨1, _⟩ | ⟨2, _⟩ | ⟨3, _⟩ => rfl
  have ho : ∀ i, val_main_v76 (F := Ideal) i = (1 : EReal) := fun i => by
    rw [val_main_v76_apply, val_main_cst_7_apply]
    exact word_one
  have hz : ∀ i, val_main_v77 (F := Ideal) i = (0 : EReal) := fun i => by
    rw [val_main_v77_apply, val_main_cst_8_apply]
    exact word_zero
  have hc := ones_column (val_main_v38 (F := Ideal) x1 x4 x6) (val_main_v76 (F := Ideal)) (val_main_v77 (F := Ideal)) ho hz b r h d
  have h1 : (fun j => val_main_v38 (F := Ideal) x1 x4 x6 (ix4 b r h j)) = _ := funext fun j => nope_v x1 x4 x6 b r h j
  have hv : val_main_v78 (F := Ideal) x1 x4 x6 (ix4 b r h d) = _ := hc.trans (congrArg (fun p => tri p (fun j => if j.val = 0 then 1 else 0) 0 d) h1)
  rw [e, hv]
  rfl

end Cert.PrepRef

end
-- ==== Proof.PrepPre.lean ====
/-
  What the query and key preparation's precondition says: the query norm's weight and the query's projection are real
  throughout.
-/
module

public import proofs.«01_k».proof.Pre_mla_prep_pre
public import proofs.«01_k».proof.Proof.AttnPre

@[expose] public section

set_option maxRecDepth 16384

noncomputable section

namespace Cert.PrepPre

open Cert.Pre_mla_prep_pre Idealize.ShloMosaic

/-- The shape relations the precondition's operations take. -/
instance facts : Cert.Pre_mla_prep_pre.Facts := by constructor <;> decide

instance : Subsingleton S_.Idx := ⟨fun _ _ => funext fun a => a.elim0⟩

/-- Every element of a single-precision array is below infinity in absolute value, so real. -/
theorem all_real32 {s : Shape} {axes : List (Fin s.rank)} (x : FVec Ideal s .f32)
    (hc : S_.BroadcastsInDim s (![] : Fin 0 → Fin s.rank)) (h : s.ReducesTo axes S_) (hu : 0 < S_.numel) (j : S_.Idx)
    (e : Host.reduce IntOp.andi (cmpf .olt (Host.absf x) (broadcastInDim s ![] hc (constant S_ .f32 0x7F800000#32)))
      (constantI S_ 1 1#1) h hu j = 1#1) (i : s.Idx) : ∃ r : ℝ, x i = (r : EReal) := by
  have e' : BitVec.ofBool (decide (max (x i : EReal) (-(x i : EReal)) < Ideal.ofBits .f32 0x7F800000#32)) = 1#1 :=
    Host.reduce_andi_all _ _ h hu j e i
  have l := of_decide_eq_true (Cert.AttnPre.ofBool_one _ e')
  rw [Cert.AttnPre.ofBits_inf] at l
  exact Cert.AttnPre.real_of_abs_lt _ l

variable (x0 : FVec Ideal S8x4096x384 .bf16) (x1 : FVec Ideal S8x4096x256 .bf16) (x2 : FVec Ideal S8x4096x32 .bf16)
  (x3 : FVec Ideal S384 .f32) (x4 : FVec Ideal S256 .f32) (x5 : FVec Ideal S384x768 .bf16) (x6 : FVec Ideal S256x1024 .bf16)
  (x7 x8 : FVec Ideal S4096x32 .f32)

/-- The precondition, read: a real norm weight and real query weights. -/
theorem read (h : fn (F := Ideal) x0 x1 x2 x3 x4 x5 x6 x7 x8 = fun _ => 1#1) :
    (∀ i, ∃ r : ℝ, x3 i = (r : EReal)) ∧ (∀ i, ∃ r : ℝ, x5 i = (r : EReal)) := by
  obtain ⟨e0, e1⟩ := Cert.AttnPre.bits_and _ _ (show IntOp.andi _ _ = 1#1 from congrFun h fun a => a.elim0)
  exact ⟨all_real32 x3 _ _ _ _ e0, Cert.AttnPre.all_real x5 _ _ _ _ _ e1⟩

end Cert.PrepPre

end
-- ==== Proof.PrepEq.lean ====
/-
  The query and key preparation's claims: its reference's frame, and that the kernel and the reference end with the same
  queries, keys and values.
-/
module

public import proofs.«01_k».proof.Defs
public import proofs.«01_k».proof.Proof.PrepArray
public import proofs.«01_k».proof.Proof.PrepRef
public import proofs.«01_k».proof.Proof.PrepPre
public import Idealize.ShloMosaic.Lib.Quiescent

@[expose] public section

noncomputable section

namespace Cert.Proof

open Idealize.ShloMosaic Idealize.ShloMosaic.TcCoe Idealize.SL.Sem

/-- An index of a rank-four array is its four coordinates. -/
theorem ix4_self {n₀ n₁ n₂ n₃ : ℕ} (i : (⟨4, ![n₀, n₁, n₂, n₃]⟩ : Shape).Idx) :
    i = ix4 (n0 := n₀) (n1 := n₁) (n2 := n₂) (n3 := n₃) (i 0) (i 1) (i 2) (i 3) := by
  funext a
  match a with
  | ⟨0, _⟩ | ⟨1, _⟩ | ⟨2, _⟩ | ⟨3, _⟩ => rfl

/-- The preparation's reference runs to the end, its arguments unchanged and every counter at zero. -/
theorem prep_reference_frame : Cert.quiescent_PrepRefIdeal := by
  intro m ρ _
  exact (θ_run _ _ _).mono (fun r h => ⟨fun c => (h c).2.2.2, sem_eq_zero_of_no_sems (by decide) r.2⟩) (Cert.PrepRefIdeal.Value.run (F := Ideal) m ρ)

/-- The ideal preparation and its reference end with the same three result arrays, from the same arguments. -/
theorem prep_algebraic : Cert.algebraic_PrepIdeal_PrepRefIdeal_pre_mla_prep_pre := by
  intro m ρ m' ρ' hpre hag
  refine ⟨fun c => Cert.PrepValue.qArr m c, fun c => Cert.PrepValue.kArr m c, fun c => Cert.PrepValue.vArr m c, ?_, ?_⟩
  · refine (θ_run _ _ _).mono (fun _ h c => ⟨((h c).1).trans ?_, ((h c).2.1).trans (Cert.PrepValue.final10 m c),
      ((h c).2.2.1).trans (Cert.PrepValue.final11 m c), (h c).2.2.2⟩) (Cert.PrepValue.run_blocks m ρ)
    obtain ⟨hg, hw⟩ := Cert.PrepPre.read _ _ _ _ _ _ _ _ _ (hpre c)
    exact Cert.PrepValue.final9 m c hg hw
  · refine (θ_run _ _ _).mono (fun _ h c => ⟨((h c).1).trans ?_, ((h c).2.1).trans ?_, ((h c).2.2.1).trans ?_, (h c).2.2.2⟩)
      (Cert.PrepRefIdeal.Value.run (F := Ideal) m' ρ')
    · obtain ⟨h0, h1, h2, h3, h4, h5, h6, h7, h8⟩ := hag c
      refine (Cert.PrepRefIdeal.Read.val_main_v80_eq _ _).trans ?_
      rw [h0, h3, h5, h7, h8]
      funext i
      rw [ix4_self (n₀ := 8) (n₁ := 8) (n₂ := 4096) (n₃ := 128) i]
      exact Cert.PrepRef.q_apply _ _ _ _ _ (i 0) (i 1) (i 2) (i 3)
    · obtain ⟨h0, h1, h2, h3, h4, h5, h6, h7, h8⟩ := hag c
      rw [h1, h2, h4, h6, h7, h8]
      refine (Cert.PrepRefIdeal.Read.val_main_v82_eq _ _ _ _ _ _).trans ?_
      funext i
      rw [ix4_self (n₀ := 8) (n₁ := 8) (n₂ := 4096) (n₃ := 128) i]
      exact Cert.PrepRef.k_apply _ _ _ _ _ _ (i 0) (i 1) (i 2) (i 3)
    · obtain ⟨h0, h1, h2, h3, h4, h5, h6, h7, h8⟩ := hag c
      rw [h1, h4, h6]
      refine (Cert.PrepRefIdeal.Read.val_main_v84_eq _ _ _).trans ?_
      funext i
      rw [ix4_self (n₀ := 8) (n₁ := 8) (n₂ := 128) (n₃ := 4096) i]
      exact Cert.PrepRef.v_apply _ _ _ (i 0) (i 1) (i 2) (i 3)

end Cert.Proof

end
-- ==== Proof.AttnUnit.lean ====
/-
  One unit of the attention kernel: 512 query rows of one head against all of that head's keys. `unit` is the kernel's
  payload for the first unit; `unit_apply` reads it at an index over the extended reals.
-/
module

public import proofs.«01_k».proof.Proof.Gen.AttnIdeal.Frame
public import Idealize.ShloMosaic.Lib.Pointwise

@[expose] public section

set_option maxRecDepth 16384

noncomputable section

namespace Cert.AttnValue

open Cert.AttnIdeal Cert.AttnIdeal.Gen Idealize.ShloMosaic

/-- The number the scores of one query are shifted by: the larger of the two maxima, over the query's own batch of keys
    and over the context keys. -/
def shift (s : Fin 4096 → EReal) (t : Fin 256 → EReal) : EReal :=
  max (Finset.univ.fold max ⊥ s) (Finset.univ.fold max ⊥ t)

/-- The sum of `v` and `w` over all keys, weighted by two to the power of the shifted scores. -/
def weigh (s : Fin 4096 → EReal) (t : Fin 256 → EReal) (v : Fin 4096 → EReal) (w : Fin 256 → EReal) : EReal :=
  (∑ k, v k * Ideal.exp2 (s k - shift s t)) + ∑ k, w k * Ideal.exp2 (t k - shift s t)

/-- What the kernel writes for one query and one value row: the weighted sum of the value row over that of the row
    which carries the denominator. -/
def attend (s : Fin 4096 → EReal) (t : Fin 256 → EReal) (v v1 : Fin 4096 → EReal) (w w1 : Fin 256 → EReal) : EReal :=
  Ideal.div (weigh s t v w) (weigh s t v1 w1)

/-- The kernel's result for one unit, from the key, query and value blocks it loads. -/
def unit (k : Vec Ideal S1x1x4096x128 .bf16) (q : Vec Ideal S1x1x512x128 .bf16) (kc : Vec Ideal S1x1x256x128 .bf16)
    (v : Vec Ideal S1x1x80x4096 .bf16) (vc : Vec Ideal S1x1x80x256 .bf16) : FVec Ideal S1x512x64 .bf16 :=
  k0_pay6 (k0_pay2 k q) (k0_pay3 kc q) v vc

/-- Minus infinity, as the reductions' initial word spells it. -/
theorem ofBits_neg_inf : Ideal.ofBits .f32 0xFF800000#32 = (⊥ : EReal) := by
  simp [Ideal.ofBits, Ideal.ieee]

/-- A score of the unit: the product of a key row and a query row. -/
theorem scores_apply (k : Vec Ideal S1x1x4096x128 .bf16) (q : Vec Ideal S1x1x512x128 .bf16) (a : Fin 4096) (r : Fin 512) :
    k0_pay2 k q (ix2 a r) = ∑ e : Fin 128, k (ix4 0 0 a e) * q (ix4 0 0 r e) := by
  pointwise [k0_pay2, dot_S4096x128_S512x128_S4096x512_1_1_0_0_n_n]

/-- A score of the unit against a context key. -/
theorem ctxScores_apply (k : Vec Ideal S1x1x256x128 .bf16) (q : Vec Ideal S1x1x512x128 .bf16) (a : Fin 256) (r : Fin 512) :
    k0_pay3 k q (ix2 a r) = ∑ e : Fin 128, k (ix4 0 0 a e) * q (ix4 0 0 r e) := by
  pointwise [k0_pay3, dot_S256x128_S512x128_S256x512_1_1_0_0_n_n]

/-- The numbers the 512 queries' scores are shifted by, as the kernel computes them: one row. -/
def shifts (s : FVec Ideal S4096x512 .f32) (t : FVec Ideal S256x512 .f32) : FVec Ideal S1x512 .f32 :=
  maximumf (shapeCast S1x512 (multiReduction .maximumf [0] S512 s 0xFF800000#32 reduces_S4096x512_S512 (.inl rfl) rfl) shapeCasts_S512_S1x512)
    (shapeCast S1x512 (multiReduction .maximumf [0] S512 t 0xFF800000#32 reduces_S256x512_S512 (.inl rfl) rfl) shapeCasts_S512_S1x512)

/-- A maximum down a column, at any extents: the fold of `max` from minus infinity. -/
theorem colMax_apply {n w : ℕ} (s : FVec Ideal ⟨2, ![n, w]⟩ .f32) (h : (⟨2, ![n, w]⟩ : Shape).Reduces [0] ⟨1, ![w]⟩)
    (hφ : FKind.Formats .f32) (hacc : (0xFF800000#32 : BitVec 32) = FKind.maximumf.neutral .f32 hφ) (r : Fin w) :
    multiReduction .maximumf [0] ⟨1, ![w]⟩ s 0xFF800000#32 h hφ hacc (ix1 r) = Finset.univ.fold max (⊥ : EReal) fun a : Fin n => s (ix2 a r) := by
  rw [← ofBits_neg_inf]
  pointwise

/-- The larger of two rows, each read as one row of 512. -/
theorem maxRows_apply (y z : FVec Ideal S512 .f32) (r : Fin 512) :
    maximumf (shapeCast S1x512 y shapeCasts_S512_S1x512) (shapeCast S1x512 z shapeCasts_S512_S1x512) (ix2 0 r) = max (y (ix1 r)) (z (ix1 r)) := by
  pointwise

/-- The shift of one query. -/
theorem shifts_apply (s : FVec Ideal S4096x512 .f32) (t : FVec Ideal S256x512 .f32) (r : Fin 512) :
    shifts s t (ix2 0 r) = shift (fun a => s (ix2 a r)) (fun a => t (ix2 a r)) :=
  (maxRows_apply _ _ r).trans (congrArg₂ max (colMax_apply s reduces_S4096x512_S512 (.inl rfl) rfl r) (colMax_apply t reduces_S256x512_S512 (.inl rfl) rfl r))

/-- The value rows summed with the weights of the scores, all 80 of them, as the kernel computes them. -/
def sums (s : FVec Ideal S4096x512 .f32) (t : FVec Ideal S256x512 .f32) (u : FVec Ideal S1x512 .f32)
    (v : Vec Ideal S1x1x80x4096 .bf16) (vc : Vec Ideal S1x1x80x256 .bf16) : FVec Ideal S80x512 .f32 :=
  addf (matmul (φ₁ := .bf16) (φ₂ := .bf16) dot_S80x4096_S4096x512_S80x512_1_0_0_1_n_n none (shapeCast S80x4096 v shapeCasts_S1x1x80x4096_S80x4096)
      (truncf .bf16 (exp2 (subf s (broadcastTo S4096x512 u broadcasts_S1x512_S4096x512))) bitsLt_bf16_f32) (constant S80x512 .f32 0x00000000#32))
    (matmul (φ₁ := .bf16) (φ₂ := .bf16) dot_S80x256_S256x512_S80x512_1_0_0_1_n_n none (shapeCast S80x256 vc shapeCasts_S1x1x80x256_S80x256)
      (truncf .bf16 (exp2 (subf t (broadcastTo S256x512 u broadcasts_S1x512_S256x512))) bitsLt_bf16_f32) (constant S80x512 .f32 0x00000000#32))

/-- One of those sums. -/
theorem sums_apply (s : FVec Ideal S4096x512 .f32) (t : FVec Ideal S256x512 .f32) (u : FVec Ideal S1x512 .f32)
    (v : Vec Ideal S1x1x80x4096 .bf16) (vc : Vec Ideal S1x1x80x256 .bf16) (d : Fin 80) (r : Fin 512) :
    sums s t u v vc (ix2 d r)
      = (∑ a, v (ix4 0 0 d a) * Ideal.exp2 (s (ix2 a r) - u (ix2 0 r))) + ∑ a, vc (ix4 0 0 d a) * Ideal.exp2 (t (ix2 a r) - u (ix2 0 r)) := by
  pointwise [sums, dot_S80x4096_S4096x512_S80x512_1_0_0_1_n_n, dot_S80x256_S256x512_S80x512_1_0_0_1_n_n]
  rfl

/-- The quotient of the first 64 rows by row 64, turned over. -/
def quotient (z : FVec Ideal S80x512 .f32) : FVec Ideal S1x512x64 .bf16 :=
  shapeCast S1x512x64 (truncf .bf16 (transpose S512x64 [1, 0] (divf (extractStridedSlice S64x512 ![0, 0] z slices_S80x512_o0_0_S64x512)
    (broadcastTo S64x512 (extractStridedSlice S1x512 ![64, 0] z slices_S80x512_o64_0_S1x512) broadcasts_S1x512_S64x512))
    transposes_S64x512_p1_0_S512x64) bitsLt_bf16_f32) shapeCasts_S512x64_S1x512x64

/-- One quotient. -/
theorem quotient_apply (z : FVec Ideal S80x512 .f32) (r : Fin 512) (d : Fin 64) :
    quotient z (ix3 0 r d) = Ideal.div (z (ix2 ⟨d.val, by omega⟩ r)) (z (ix2 64 r)) := by
  pointwise [quotient]

/-- The unit's value from its scores. -/
theorem values_apply (s : FVec Ideal S4096x512 .f32) (t : FVec Ideal S256x512 .f32)
    (v : Vec Ideal S1x1x80x4096 .bf16) (vc : Vec Ideal S1x1x80x256 .bf16) (r : Fin 512) (d : Fin 64) :
    k0_pay6 s t v vc (ix3 0 r d)
      = attend (fun a => s (ix2 a r)) (fun a => t (ix2 a r)) (fun a => v (ix4 0 0 ⟨d.val, by omega⟩ a)) (fun a => v (ix4 0 0 64 a))
          (fun a => vc (ix4 0 0 ⟨d.val, by omega⟩ a)) (fun a => vc (ix4 0 0 64 a)) := by
  have h : k0_pay6 s t v vc = quotient (sums s t (shifts s t) v vc) := rfl
  rw [h, quotient_apply, sums_apply, sums_apply, shifts_apply]
  unfold attend weigh
  rfl

/-- THE UNIT AT AN INDEX: row `r`, value row `d`. -/
theorem unit_apply (k : Vec Ideal S1x1x4096x128 .bf16) (q : Vec Ideal S1x1x512x128 .bf16) (kc : Vec Ideal S1x1x256x128 .bf16)
    (v : Vec Ideal S1x1x80x4096 .bf16) (vc : Vec Ideal S1x1x80x256 .bf16) (r : Fin 512) (d : Fin 64) :
    unit k q kc v vc (ix3 0 r d)
      = attend (fun a => ∑ e : Fin 128, k (ix4 0 0 a e) * q (ix4 0 0 r e)) (fun a => ∑ e : Fin 128, kc (ix4 0 0 a e) * q (ix4 0 0 r e))
          (fun a => v (ix4 0 0 ⟨d.val, by omega⟩ a)) (fun a => v (ix4 0 0 64 a))
          (fun a => vc (ix4 0 0 ⟨d.val, by omega⟩ a)) (fun a => vc (ix4 0 0 64 a)) := by
  unfold unit
  rw [values_apply]
  simp only [scores_apply, ctxScores_apply]

end Cert.AttnValue

end
-- ==== Proof.AttnBlock.lean ====
/-
  What one grid point of the attention kernel leaves in its output block: the sixteen units of two heads, stored side by
  side, are one function of the block's index.
-/
module

public import proofs.«01_k».proof.Proof.AttnUnit
public import Idealize.ShloMosaic.Lib.Pipeline.ValueKit

@[expose] public section

set_option maxRecDepth 16384

noncomputable section

namespace Cert.AttnValue

open Cert.AttnIdeal Cert.AttnIdeal.Gen Idealize.ShloMosaic

/-- The head, of the block's two, which output column `c` belongs to. -/
abbrev head (c : Fin 128) : Fin 2 := ⟨c.val / 64, by omega⟩
/-- The value row which output column `c` reads. -/
abbrev row (c : Fin 128) : Fin 128 := ⟨c.val % 64, by omega⟩

/-- The output block as one function of the blocks of queries, keys and values. -/
def block (q k : Vec Ideal S1x2x4096x128 .bf16) (kc : Vec Ideal S1x2x256x128 .bf16) (v : Vec Ideal S1x2x128x4096 .bf16)
    (vc : Vec Ideal S1x2x128x256 .bf16) (i : S1x4096x128.Idx) : EReal :=
  attend (fun a => ∑ e : Fin 128, k (ix4 0 (head (i 2)) a e) * q (ix4 0 (head (i 2)) (i 1) e))
    (fun a => ∑ e : Fin 128, kc (ix4 0 (head (i 2)) a e) * q (ix4 0 (head (i 2)) (i 1) e))
    (fun a => v (ix4 0 (head (i 2)) (row (i 2)) a)) (fun a => v (ix4 0 (head (i 2)) 64 a))
    (fun a => vc (ix4 0 (head (i 2)) (row (i 2)) a)) (fun a => vc (ix4 0 (head (i 2)) 64 a))

/-- One unit, on head `h` and the query rows from `o` on, is the block's function on the rectangle the unit is stored to. -/
theorem unit_eq_block (q k : Vec Ideal S1x2x4096x128 .bf16) (kc : Vec Ideal S1x2x256x128 .bf16) (v : Vec Ideal S1x2x128x4096 .bf16)
    (vc : Vec Ideal S1x2x128x256 .bf16) (h : Fin 2) (o : ℕ)
    (hk : ∀ a, ![0, h.val, 0, 0] a + S1x1x4096x128.size a ≤ S1x2x4096x128.size a)
    (hq : ∀ a, ![0, h.val, o, 0] a + S1x1x512x128.size a ≤ S1x2x4096x128.size a)
    (hkc : ∀ a, ![0, h.val, 0, 0] a + S1x1x256x128.size a ≤ S1x2x256x128.size a)
    (hv : ∀ a, ![0, h.val, 0, 0] a + S1x1x80x4096.size a ≤ S1x2x128x4096.size a)
    (hvc : ∀ a, ![0, h.val, 0, 0] a + S1x1x80x256.size a ≤ S1x2x128x256.size a)
    (ho : ∀ a, ![0, o, h.val * 64] a + S1x512x64.size a ≤ S1x4096x128.size a) (x : S1x512x64.Idx) :
    unit (View.ld k (Rect.unit (s := S1x2x4096x128) ![0, h.val, 0, 0] S1x1x4096x128.size hk))
        (View.ld q (Rect.unit (s := S1x2x4096x128) ![0, h.val, o, 0] S1x1x512x128.size hq))
        (View.ld kc (Rect.unit (s := S1x2x256x128) ![0, h.val, 0, 0] S1x1x256x128.size hkc))
        (View.ld v (Rect.unit (s := S1x2x128x4096) ![0, h.val, 0, 0] S1x1x80x4096.size hv))
        (View.ld vc (Rect.unit (s := S1x2x128x256) ![0, h.val, 0, 0] S1x1x80x256.size hvc)) x
      = block q k kc v vc ((Rect.unit (s := S1x4096x128) ![0, o, h.val * 64] S1x512x64.size ho).emb x) := by
  obtain ⟨r, hr⟩ : ∃ r : Fin 512, r = x 1 := ⟨_, rfl⟩
  obtain ⟨d, hd⟩ : ∃ d : Fin 64, d = x 2 := ⟨_, rfl⟩
  have hx : x = ix3 0 r d := by
    subst hr hd
    funext a
    match a with
    | ⟨0, _⟩ => exact Fin.ext (by have := (x 0).isLt; show (x 0).val = 0; change (x 0).val < 1 at this; omega)
    | ⟨1, _⟩ => rfl
    | ⟨2, _⟩ => rfl
  rw [hx, unit_apply]
  have ho1 : o + 512 ≤ 4096 := ho 1
  have e1 : ((Rect.unit (s := S1x4096x128) ![0, o, h.val * 64] S1x512x64.size ho).emb (ix3 0 r d)) 1 = (⟨o + r.val, by omega⟩ : Fin 4096) :=
    Fin.ext (Rect.idx_unit_val (s := S1x4096x128) ![0, o, h.val * 64] S1x512x64.size ho (ix3 0 r d) 1)
  have e2 : ((Rect.unit (s := S1x4096x128) ![0, o, h.val * 64] S1x512x64.size ho).emb (ix3 0 r d)) 2 = (⟨h.val * 64 + d.val, by omega⟩ : Fin 128) :=
    Fin.ext (Rect.idx_unit_val (s := S1x4096x128) ![0, o, h.val * 64] S1x512x64.size ho (ix3 0 r d) 2)
  have eh : head (⟨h.val * 64 + d.val, by omega⟩ : Fin 128) = h := Fin.ext (by show (h.val * 64 + d.val) / 64 = h.val; omega)
  have er : row (⟨h.val * 64 + d.val, by omega⟩ : Fin 128) = d.castLE (by decide) := Fin.ext (by show (h.val * 64 + d.val) % 64 = d.val; omega)
  have lk : ∀ (a : Fin 4096) (e : Fin 128), View.ld k (Rect.unit (s := S1x2x4096x128) ![0, h.val, 0, 0] S1x1x4096x128.size hk) (ix4 0 0 a e) = k (ix4 0 h a e) := by
    intro a e
    refine View.ld_unit_apply_of _ _ _ _ _ _ fun b => ?_
    fin_cases b <;> simp
  have lq : ∀ (e : Fin 128), View.ld q (Rect.unit (s := S1x2x4096x128) ![0, h.val, o, 0] S1x1x512x128.size hq) (ix4 0 0 r e) = q (ix4 0 h ⟨o + r.val, by omega⟩ e) := by
    intro e
    refine View.ld_unit_apply_of _ _ _ _ _ _ fun b => ?_
    fin_cases b <;> simp
  have lkc : ∀ (a : Fin 256) (e : Fin 128), View.ld kc (Rect.unit (s := S1x2x256x128) ![0, h.val, 0, 0] S1x1x256x128.size hkc) (ix4 0 0 a e) = kc (ix4 0 h a e) := by
    intro a e
    refine View.ld_unit_apply_of _ _ _ _ _ _ fun b => ?_
    fin_cases b <;> simp
  have lv : ∀ (f : Fin 80) (a : Fin 4096), View.ld v (Rect.unit (s := S1x2x128x4096) ![0, h.val, 0, 0] S1x1x80x4096.size hv) (ix4 0 0 f a) = v (ix4 0 h (f.castLE (by decide)) a) := by
    intro f a
    refine View.ld_unit_apply_of _ _ _ _ _ _ fun b => ?_
    fin_cases b <;> simp
  have lvc : ∀ (f : Fin 80) (a : Fin 256), View.ld vc (Rect.unit (s := S1x2x128x256) ![0, h.val, 0, 0] S1x1x80x256.size hvc) (ix4 0 0 f a) = vc (ix4 0 h (f.castLE (by decide)) a) := by
    intro f a
    refine View.ld_unit_apply_of _ _ _ _ _ _ fun b => ?_
    fin_cases b <;> simp
  unfold block
  rw [e1, e2, eh, er]
  simp only [lk, lq, lkc, lv, lvc]
  rfl

/-- THE OUTPUT BLOCK: what the body leaves is the block's function, index by index. -/
theorem out_eq_block (q k : Vec Ideal S1x2x4096x128 .bf16) (kc : Vec Ideal S1x2x256x128 .bf16) (v : Vec Ideal S1x2x128x4096 .bf16)
    (vc : Vec Ideal S1x2x128x256 .bf16) : out0_5 q k kc v vc = block q k kc v vc := by
  funext y
  unfold out0_5
  refine View.canon_apply_of_pieces (Val := Elt Ideal) (e := .bf16) (block q k kc v vc) _ ?_ y (cover0_5 _ _ _ _ _ _ _ _ _ _ _ _ _ _ _ _ y)
  refine List.forall_mem_cons.2 ⟨fun x => unit_eq_block q k kc v vc 1 3584 (by decide) (by decide) (by decide) (by decide) (by decide) (by decide) x, ?_⟩
  refine List.forall_mem_cons.2 ⟨fun x => unit_eq_block q k kc v vc 1 3072 (by decide) (by decide) (by decide) (by decide) (by decide) (by decide) x, ?_⟩
  refine List.forall_mem_cons.2 ⟨fun x => unit_eq_block q k kc v vc 1 2560 (by decide) (by decide) (by decide) (by decide) (by decide) (by decide) x, ?_⟩
  refine List.forall_mem_cons.2 ⟨fun x => unit_eq_block q k kc v vc 1 2048 (by decide) (by decide) (by decide) (by decide) (by decide) (by decide) x, ?_⟩
  refine List.forall_mem_cons.2 ⟨fun x => unit_eq_block q k kc v vc 1 1536 (by decide) (by decide) (by decide) (by decide) (by decide) (by decide) x, ?_⟩
  refine List.forall_mem_cons.2 ⟨fun x => unit_eq_block q k kc v vc 1 1024 (by decide) (by decide) (by decide) (by decide) (by decide) (by decide) x, ?_⟩
  refine List.forall_mem_cons.2 ⟨fun x => unit_eq_block q k kc v vc 1 512 (by decide) (by decide) (by decide) (by decide) (by decide) (by decide) x, ?_⟩
  refine List.forall_mem_cons.2 ⟨fun x => unit_eq_block q k kc v vc 1 0 (by decide) (by decide) (by decide) (by decide) (by decide) (by decide) x, ?_⟩
  refine List.forall_mem_cons.2 ⟨fun x => unit_eq_block q k kc v vc 0 3584 (by decide) (by decide) (by decide) (by decide) (by decide) (by decide) x, ?_⟩
  refine List.forall_mem_cons.2 ⟨fun x => unit_eq_block q k kc v vc 0 3072 (by decide) (by decide) (by decide) (by decide) (by decide) (by decide) x, ?_⟩
  refine List.forall_mem_cons.2 ⟨fun x => unit_eq_block q k kc v vc 0 2560 (by decide) (by decide) (by decide) (by decide) (by decide) (by decide) x, ?_⟩
  refine List.forall_mem_cons.2 ⟨fun x => unit_eq_block q k kc v vc 0 2048 (by decide) (by decide) (by decide) (by decide) (by decide) (by decide) x, ?_⟩
  refine List.forall_mem_cons.2 ⟨fun x => unit_eq_block q k kc v vc 0 1536 (by decide) (by decide) (by decide) (by decide) (by decide) (by decide) x, ?_⟩
  refine List.forall_mem_cons.2 ⟨fun x => unit_eq_block q k kc v vc 0 1024 (by decide) (by decide) (by decide) (by decide) (by decide) (by decide) x, ?_⟩
  refine List.forall_mem_cons.2 ⟨fun x => unit_eq_block q k kc v vc 0 512 (by decide) (by decide) (by decide) (by decide) (by decide) (by decide) x, ?_⟩
  refine List.forall_mem_cons.2 ⟨fun x => unit_eq_block q k kc v vc 0 0 (by decide) (by decide) (by decide) (by decide) (by decide) (by decide) x, ?_⟩
  exact fun p hp => absurd hp (List.not_mem_nil)

end Cert.AttnValue

end
-- ==== Proof.AttnArray.lean ====
/-
  What the attention kernel's result array holds after the run: one function of the five argument arrays.
-/
module

public import proofs.«01_k».proof.Proof.AttnBlock
public import proofs.«01_k».proof.Proof.Gen.AttnIdeal.Value

@[expose] public section

set_option maxRecDepth 16384

noncomputable section

namespace Cert.AttnValue

open Cert.AttnIdeal Cert.AttnIdeal.Gen Idealize.ShloMosaic Idealize.ShloMosaic.TcCoe Idealize.SL.Sem

/-- The head, of eight, which result column `c` belongs to. -/
abbrev head8 (c : Fin 512) : Fin 8 := ⟨c.val / 64, by omega⟩
/-- The value row which result column `c` reads. -/
abbrev row8 (c : Fin 512) : Fin 128 := ⟨c.val % 64, by omega⟩

/-- The result array as one function of the queries, the keys, the context keys and the two value arrays. -/
def whole (q k : Vec Ideal S8x8x4096x128 .bf16) (kc : Vec Ideal S8x8x256x128 .bf16) (v : Vec Ideal S8x8x128x4096 .bf16)
    (vc : Vec Ideal S8x8x128x256 .bf16) (b : Fin 8) (r : Fin 4096) (c : Fin 512) : EReal :=
  attend (fun a => ∑ e : Fin 128, k (ix4 b (head8 c) a e) * q (ix4 b (head8 c) r e))
    (fun a => ∑ e : Fin 128, kc (ix4 b (head8 c) a e) * q (ix4 b (head8 c) r e))
    (fun a => v (ix4 b (head8 c) (row8 c) a)) (fun a => v (ix4 b (head8 c) 64 a))
    (fun a => vc (ix4 b (head8 c) (row8 c) a)) (fun a => vc (ix4 b (head8 c) 64 a))

variable (m : (ℓ : Loc nD τ sig) → Buf (Elt Ideal) ℓ) (ρ : Dev nD → PrngReg)

/-- The result array of device `c`'s arguments. -/
def wholeOf (c : Dev nD) : Buf (Elt Ideal) ((c : Thread nD τ).loc main_v0) := fun i =>
  whole (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

/-- Which blocks point `t` works on: batch `t / 4` and the pair of heads `t % 4`. -/
theorem idx0 : ∀ t : Fin cfg0.N, win0_0.index t = ![t.val / 4, t.val % 4, 0, 0] :=
  (by decide +kernel : ∀ t : Fin grid0.N, win0_0.index t = ![t.val / 4, t.val % 4, 0, 0])
theorem idx1 : ∀ t : Fin cfg0.N, win0_1.index t = ![t.val / 4, t.val % 4, 0, 0] :=
  (by decide +kernel : ∀ t : Fin grid0.N, win0_1.index t = ![t.val / 4, t.val % 4, 0, 0])
theorem idx2 : ∀ t : Fin cfg0.N, win0_2.index t = ![t.val / 4, t.val % 4, 0, 0] :=
  (by decide +kernel : ∀ t : Fin grid0.N, win0_2.index t = ![t.val / 4, t.val % 4, 0, 0])
theorem idx3 : ∀ t : Fin cfg0.N, win0_3.index t = ![t.val / 4, t.val % 4, 0, 0] :=
  (by decide +kernel : ∀ t : Fin grid0.N, win0_3.index t = ![t.val / 4, t.val % 4, 0, 0])
theorem idx4 : ∀ t : Fin cfg0.N, win0_4.index t = ![t.val / 4, t.val % 4, 0, 0] :=
  (by decide +kernel : ∀ t : Fin grid0.N, win0_4.index t = ![t.val / 4, t.val % 4, 0, 0])
theorem idx5 : ∀ t : Fin cfg0.N, win0_5.index t = ![t.val / 4, 0, t.val % 4] :=
  (by decide +kernel : ∀ t : Fin grid0.N, win0_5.index t = ![t.val / 4, 0, t.val % 4])

/-- The block's function of the blocks at point `t` is the array's function at the place of the block. -/
theorem block_eq_whole (c : Dev nD) (t : Fin cfg0.N) (y : S1x4096x128.Idx) :
    block (iblk m c 0 t) (iblk m c 1 t) (iblk m c 2 t) (iblk m c 3 t) (iblk m c 4 t) y = wholeOf m c ((win0_5.blk t).view.emb y) := by
  obtain ⟨r, hr⟩ : ∃ r : Fin 4096, r = y 1 := ⟨_, rfl⟩
  obtain ⟨d, hd⟩ : ∃ d : Fin 128, d = y 2 := ⟨_, rfl⟩
  have hN : t.val < 32 := by have h := t.isLt; have hN : cfg0.N = 32 := N_0; omega
  have h0 : (y 0).val = 0 := by have := (y 0).isLt; change (y 0).val < 1 at this; omega
  have e0 : ((win0_5.blk t).view.emb y) 0 = (⟨t.val / 4, by omega⟩ : Fin 8) := Fin.ext (by blk_simp [idx5 t]; first | done | simp [h0])
  have e1 : ((win0_5.blk t).view.emb y) 1 = r := Fin.ext (by blk_simp [idx5 t]; first | done | simp [hr])
  have e2 : ((win0_5.blk t).view.emb y) 2 = (⟨t.val % 4 * 128 + d.val, by omega⟩ : Fin 512) := Fin.ext (by blk_simp [idx5 t]; first | done | simp [hd])
  have lq : ∀ (h : Fin 2) (e : Fin 128), iblk m c 0 t (ix4 0 h r e)
      = m ((c : Thread nD τ).loc main_arg0) (ix4 ⟨t.val / 4, by omega⟩ ⟨t.val % 4 * 2 + h.val, by omega⟩ r e) := by
    intro h e; blk_ext [iblk, V_main_arg0, idx0 t]
  have lk : ∀ (h : Fin 2) (a : Fin 4096) (e : Fin 128), iblk m c 1 t (ix4 0 h a e)
      = m ((c : Thread nD τ).loc main_arg1) (ix4 ⟨t.val / 4, by omega⟩ ⟨t.val % 4 * 2 + h.val, by omega⟩ a e) := by
    intro h a e; blk_ext [iblk, V_main_arg1, idx1 t]
  have lkc : ∀ (h : Fin 2) (a : Fin 256) (e : Fin 128), iblk m c 2 t (ix4 0 h a e)
      = m ((c : Thread nD τ).loc main_arg2) (ix4 ⟨t.val / 4, by omega⟩ ⟨t.val % 4 * 2 + h.val, by omega⟩ a e) := by
    intro h a e; blk_ext [iblk, V_main_arg2, idx2 t]
  have lv : ∀ (h : Fin 2) (f : Fin 128) (a : Fin 4096), iblk m c 3 t (ix4 0 h f a)
      = m ((c : Thread nD τ).loc main_arg3) (ix4 ⟨t.val / 4, by omega⟩ ⟨t.val % 4 * 2 + h.val, by omega⟩ f a) := by
    intro h f a; blk_ext [iblk, V_main_arg3, idx3 t]
  have lvc : ∀ (h : Fin 2) (f : Fin 128) (a : Fin 256), iblk m c 4 t (ix4 0 h f a)
      = m ((c : Thread nD τ).loc main_arg4) (ix4 ⟨t.val / 4, by omega⟩ ⟨t.val % 4 * 2 + h.val, by omega⟩ f a) := by
    intro h f a; blk_ext [iblk, V_main_arg4, idx4 t]
  have eh : (⟨t.val % 4 * 2 + (head d).val, by omega⟩ : Fin 8) = head8 ⟨t.val % 4 * 128 + d.val, by omega⟩ :=
    Fin.ext (by show t.val % 4 * 2 + d.val / 64 = (t.val % 4 * 128 + d.val) / 64; omega)
  have er : row d = row8 ⟨t.val % 4 * 128 + d.val, by omega⟩ :=
    Fin.ext (by show d.val % 64 = (t.val % 4 * 128 + d.val) % 64; omega)
  unfold wholeOf
  rw [e0, e1, e2]
  unfold block whole
  rw [← hr, ← hd]
  simp only [lq, lk, lkc, lv, lvc, eh, er]

/-- THE ARRAY: what the kernel's result array holds after the run. -/
theorem final (c : Dev nD) : (dats m 0 c).arrAt 5 cfg0.N = wholeOf m c := by
  refine (dats m 0 c).arrAt_eq_of_covers 5 _ (by decide +kernel) fun t hf y => ?_
  blk_simp
  rw [after0_5, out_eq_block]
  exact block_eq_whole m c t y

end Cert.AttnValue

end
-- ==== Proof.AttnRef.lean ====
/-
  The attention's reference at an index: the keys and values of the two batches side by side, the scores in natural units,
  and the softmax-weighted sum of the value row.
-/
module

public import proofs.«01_k».proof.Proof.Gen.AttnRefIdeal.Read
public import Idealize.ShloMosaic.Lib.Pointwise

@[expose] public section

set_option maxRecDepth 16384

noncomputable section

namespace Cert.AttnRefValue

open Cert.AttnRefIdeal Cert.AttnRefIdeal.Gen Cert.AttnRefIdeal.Read Idealize.ShloMosaic

variable (q k : (⟨S8x8x4096x128, .bf16⟩ : BufTy).Contents (Elt Ideal)) (kc : (⟨S8x8x256x128, .bf16⟩ : BufTy).Contents (Elt Ideal))
  (v : (⟨S8x8x128x4096, .bf16⟩ : BufTy).Contents (Elt Ideal)) (vc : (⟨S8x8x128x256, .bf16⟩ : BufTy).Contents (Elt Ideal))

/-- The natural logarithm of two, as the reference computes it. -/
def ln2 : EReal := Ideal.log (Ideal.ofBits .f32 0x40000000#32)

/-- A score in natural units: the product of a query and a key, times the logarithm of two. -/
theorem scores_apply (b h : Fin 8) (r : Fin 4096) (j : Fin 4352) :
    val_main_v9 (F := Ideal) q k kc (ix4 b h r j)
      = (∑ e : Fin 128, q (ix4 b h r e) * val_main_v0 (F := Ideal) k kc (ix4 b h j e)) * ln2 := by
  rw [val_main_v9_apply, val_main_v6_apply, val_main_v8_apply, val_main_v7_apply, val_main_cst_apply]
  refine congrArg (· * ln2) (Finset.sum_congr rfl fun e _ => congrArg₂ (· * ·) (congrArg q ?_) (congrArg (val_main_v0 (F := Ideal) k kc) ?_)) <;>
  · funext a
    match a with
    | ⟨0, _⟩ | ⟨1, _⟩ | ⟨2, _⟩ | ⟨3, _⟩ => rfl

/-- A host maximum over the last axis, at any extents: the fold of `max` from the initial word. -/
theorem rowMax_apply {n₀ n₁ n₂ n₃ : ℕ} (x : FVec Ideal ⟨4, ![n₀, n₁, n₂, n₃]⟩ .f32) (init : FVec Ideal S_ .f32)
    (h : (⟨4, ![n₀, n₁, n₂, n₃]⟩ : Shape).ReducesTo [3] ⟨3, ![n₀, n₁, n₂]⟩) (hu : 0 < S_.numel) (b : Fin n₀) (d : Fin n₁) (r : Fin n₂) :
    Host.reduce FloatOps.maximumf x init h hu (ix3 b d r) = Finset.univ.fold max (init (Shape.Idx.first hu)) fun j : Fin n₃ => x (ix4 b d r j) := by
  pointwise

/-- The maximum of one query's scores. -/
theorem top_apply (b h : Fin 8) (r : Fin 4096) :
    val_main_v10 (F := Ideal) q k kc (ix3 b h r)
      = Finset.univ.fold max (val_main_cst_0 (F := Ideal) (Shape.Idx.first h_S_)) fun j : Fin 4352 => val_main_v9 (F := Ideal) q k kc (ix4 b h r j) := by
  unfold val_main_v10
  generalize val_main_v9 (F := Ideal) q k kc = y
  have e := rowMax_apply (n₀ := 8) (n₁ := 8) (n₂ := 4096) (n₃ := 4352) y (val_main_cst_0 (F := Ideal)) reducesTo_S8x8x4096x4352_S8x8x4096_d3 h_S_ b h r
  generalize val_main_cst_0 (F := Ideal) = z at e ⊢
  exact e

/-- The number the scores of one query are shifted by: their maximum, or minus infinity. -/
theorem shift_apply (b h : Fin 8) (r : Fin 4096) :
    val_main_v12 (F := Ideal) q k kc (ix3 b h r)
      = max (Ideal.ofBits .f32 0xFF800000#32) (Finset.univ.fold max (Ideal.ofBits .f32 0xFF800000#32) fun j : Fin 4352 =>
          val_main_v9 (F := Ideal) q k kc (ix4 b h r j)) := by
  rw [val_main_v12_apply, val_main_v11_apply, top_apply, val_main_cst_0_apply, val_main_cst_1_apply]
  rfl

/-- The weight of key `j` for one query, before the division. -/
def expo (b h : Fin 8) (r : Fin 4096) (j : Fin 4352) : EReal :=
  Ideal.exp (val_main_v9 (F := Ideal) q k kc (ix4 b h r j) - val_main_v12 (F := Ideal) q k kc (ix3 b h r))

theorem expo_apply (b h : Fin 8) (r : Fin 4096) (j : Fin 4352) :
    val_main_v16 (F := Ideal) q k kc (ix4 b h r j) = expo q k kc b h r j := by
  rw [val_main_v16_apply, val_main_v15_apply, val_main_v14_apply, val_main_v13_apply, expo]
  have e : idx_main_v13 (idx_main_v14 (ix4 b h r j)) = ix3 b h r := by
    funext a
    match a with
    | ⟨0, _⟩ | ⟨1, _⟩ | ⟨2, _⟩ => rfl
  rw [e]
  rfl

/-- The sum of one query's weights. -/
theorem total_apply (b h : Fin 8) (r : Fin 4096) :
    val_main_v17 (F := Ideal) q k kc (ix3 b h r) = ∑ j : Fin 4352, expo q k kc b h r j := by
  rw [val_main_v17_apply, val_main_cst_2_apply]
  have z : (FloatOps.ofBits .f32 0x00000000#32 : Ideal .f32) = (0 : EReal) := by
    show Ideal.ofBits .f32 0x00000000#32 = 0
    simp [Ideal.ofBits, Ideal.ieee]
  rw [z]
  refine (zero_add _).trans (Finset.sum_congr rfl fun j _ => ?_)
  rw [← expo_apply]
  refine congrArg (val_main_v16 (F := Ideal) q k kc) ?_
  funext a
  match a with
  | ⟨0, _⟩ | ⟨1, _⟩ | ⟨2, _⟩ | ⟨3, _⟩ => rfl

/-- A softmax weight. -/
theorem weight_apply (b h : Fin 8) (r : Fin 4096) (j : Fin 4352) :
    val_main_v20 (F := Ideal) q k kc (ix4 b h r j) = Ideal.div (expo q k kc b h r j) (∑ l : Fin 4352, expo q k kc b h r l) := by
  rw [val_main_v20_apply, val_main_v19_apply, val_main_v18_apply, expo_apply]
  have e : idx_main_v18 (idx_main_v19 (ix4 b h r j)) = ix3 b h r := by
    funext a
    match a with
    | ⟨0, _⟩ | ⟨1, _⟩ | ⟨2, _⟩ => rfl
  rw [e, total_apply]
  rfl

/-- The head, of eight, which result column `c` belongs to. -/
abbrev head8 (c : Fin 512) : Fin 8 := ⟨c.val / 64, by omega⟩
/-- The value row which result column `c` reads. -/
abbrev row8 (c : Fin 512) : Fin 128 := ⟨c.val % 64, by omega⟩

/-- The reference's result at an index. -/
theorem result_apply (b : Fin 8) (r : Fin 4096) (c : Fin 512) :
    val_main_v24 (F := Ideal) q k kc v vc (ix3 b r c)
      = ∑ j : Fin 4352, val_main_v2 (F := Ideal) v vc (ix4 b (head8 c) (row8 c) j)
          * Ideal.div (expo q k kc b (head8 c) r j) (∑ l : Fin 4352, expo q k kc b (head8 c) r l) := by
  rw [val_main_v24_apply, val_main_v23_apply, val_main_v22_apply]
  have e : idx_main_v22 (idx_main_v23 (ix3 b r c)) = ix4 b (head8 c) (⟨c.val % 64, by omega⟩ : Fin 64) r := by
    funext a
    have hb := b.isLt
    have hr := r.isLt
    have hc := c.isLt
    match a with
    | ⟨0, _⟩ => exact Fin.ext (by show ((b.val * 4096 + r.val) * 512 + c.val) / 2097152 = b.val; omega)
    | ⟨1, _⟩ => exact Fin.ext (by show ((b.val * 4096 + r.val) * 512 + c.val) / 64 % 8 = c.val / 64; omega)
    | ⟨2, _⟩ => exact Fin.ext (by show ((b.val * 4096 + r.val) * 512 + c.val) % 64 = c.val % 64; omega)
    | ⟨3, _⟩ => exact Fin.ext (by show ((b.val * 4096 + r.val) * 512 + c.val) / 512 % 4096 = r.val; omega)
  rw [e, val_main_v21_apply]
  refine Finset.sum_congr rfl fun j _ => ?_
  rw [← weight_apply, val_main_v4_apply, val_main_v3_apply]
  refine congrArg₂ (· * ·) (congrArg (val_main_v2 (F := Ideal) v vc) ?_) (congrArg (val_main_v20 (F := Ideal) q k kc) ?_) <;>
  · funext a
    match a with
    | ⟨0, _⟩ | ⟨1, _⟩ | ⟨2, _⟩ | ⟨3, _⟩ => rfl

/-- The keys side by side: below 4096 the batch's own. -/
theorem keys_left (b h : Fin 8) (j : Fin 4096) (e : Fin 128) :
    val_main_v0 (F := Ideal) k kc (ix4 b h (⟨j.val, by omega⟩ : Fin 4352) e) = k (ix4 b h j e) :=
  concatenate_pair_apply_left 2 k kc concatenates_S8x8x4096x128_S8x8x256x128_S8x8x4352x128_d2 _ rfl (ix4 b h j e)
    (by intro a; match a with | ⟨0, _⟩ | ⟨1, _⟩ | ⟨2, _⟩ | ⟨3, _⟩ => rfl)

/-- The keys side by side: from 4096 on the context's. -/
theorem keys_right (b h : Fin 8) (j : Fin 256) (e : Fin 128) :
    val_main_v0 (F := Ideal) k kc (ix4 b h (⟨4096 + j.val, by omega⟩ : Fin 4352) e) = kc (ix4 b h j e) :=
  concatenate_pair_apply_right 2 k kc concatenates_S8x8x4096x128_S8x8x256x128_S8x8x4352x128_d2 _ rfl rfl (ix4 b h j e)
    (by intro a ha; match a with | ⟨0, _⟩ | ⟨1, _⟩ | ⟨3, _⟩ => rfl | ⟨2, _⟩ => exact absurd rfl ha)
    (Nat.add_comm _ _)

/-- The values side by side: below 4096 the batch's own. -/
theorem values_left (b h : Fin 8) (d : Fin 128) (j : Fin 4096) :
    val_main_v2 (F := Ideal) v vc (ix4 b h d (⟨j.val, by omega⟩ : Fin 4352)) = v (ix4 b h d j) :=
  concatenate_pair_apply_left 3 v vc concatenates_S8x8x128x4096_S8x8x128x256_S8x8x128x4352_d3 _ rfl (ix4 b h d j)
    (by intro a; match a with | ⟨0, _⟩ | ⟨1, _⟩ | ⟨2, _⟩ | ⟨3, _⟩ => rfl)

/-- The values side by side: from 4096 on the context's. -/
theorem values_right (b h : Fin 8) (d : Fin 128) (j : Fin 256) :
    val_main_v2 (F := Ideal) v vc (ix4 b h d (⟨4096 + j.val, by omega⟩ : Fin 4352)) = vc (ix4 b h d j) :=
  concatenate_pair_apply_right 3 v vc concatenates_S8x8x128x4096_S8x8x128x256_S8x8x128x4352_d3 _ rfl rfl (ix4 b h d j)
    (by intro a ha; match a with | ⟨0, _⟩ | ⟨1, _⟩ | ⟨2, _⟩ => rfl | ⟨3, _⟩ => exact absurd rfl ha)
    (Nat.add_comm _ _)

end Cert.AttnRefValue
-- ==== Proof.AttnEq.lean ====
/-
  The equation of the attention: under the precondition the kernel's result and the reference's are the same weighted
  average of the value row, over the keys of both batches.
-/
module

public import proofs.«01_k».proof.Proof.Softmax
public import proofs.«01_k».proof.Proof.AttnArray
public import proofs.«01_k».proof.Proof.AttnRef

@[expose] public section

set_option maxRecDepth 16384

noncomputable section

namespace Cert.AttnEq

open Idealize.ShloMosaic Cert.Softmax

/-- The keys of both batches, counted in one row. -/
def keys : Fin 4096 ⊕ Fin 256 ≃ Fin 4352 := (finSumFinEquiv : Fin 4096 ⊕ Fin 256 ≃ Fin (4096 + 256))

theorem keys_inl (j : Fin 4096) : keys (.inl j) = (⟨j.val, by omega⟩ : Fin 4352) := rfl
theorem keys_inr (j : Fin 256) : keys (.inr j) = (⟨4096 + j.val, by omega⟩ : Fin 4352) := rfl

/-- The larger of two real numbers, over the extended reals. -/
theorem max_coe (x y : ℝ) : max (x : EReal) (y : EReal) = ((max x y : ℝ) : EReal) :=
  (EReal.coe_strictMono.monotone.map_max).symm

section Kernel

variable (s : Fin 4096 → ℝ) (t : Fin 256 → ℝ)

/-- The kernel's shift of real scores is real. -/
theorem shift_real : ∃ m : ℝ, AttnValue.shift (fun a => (s a : EReal)) (fun a => (t a : EReal)) = (m : EReal) := by
  obtain ⟨x, hx⟩ := fold_max_real s
  obtain ⟨y, hy⟩ := fold_max_real t
  exact ⟨max x y, by rw [AttnValue.shift, hx, hy, max_coe]⟩

/-- The two batches' sums are one sum over all keys. -/
theorem weigh_sum (m : ℝ) (hm : AttnValue.shift (fun a => (s a : EReal)) (fun a => (t a : EReal)) = (m : EReal))
    (v : Fin 4096 → EReal) (w : Fin 256 → EReal) :
    AttnValue.weigh (fun a => (s a : EReal)) (fun a => (t a : EReal)) v w
      = ∑ x, Sum.elim v w x * Ideal.exp2 ((Sum.elim s t x : ℝ) - (m : EReal)) := by
  rw [Fintype.sum_sum_type, AttnValue.weigh, hm]
  rfl

/-- What the kernel writes, for real scores and a denominator row of ones: the weighted average over all keys. -/
theorem attend_average (v : Fin 4096 → EReal) (w : Fin 256 → EReal) :
    AttnValue.attend (fun a => (s a : EReal)) (fun a => (t a : EReal)) v (fun _ => 1) w (fun _ => 1)
      = average (Sum.elim s t) (Sum.elim v w) := by
  obtain ⟨m, hm⟩ := shift_real s t
  rw [AttnValue.attend, weigh_sum s t m hm, weigh_sum s t m hm, ← deferred_eq_average (Sum.elim s t) m (Sum.elim v w)]
  refine congrArg (Ideal.div _) (Finset.sum_congr rfl fun x _ => ?_)
  cases x <;> rfl

end Kernel

/-- The logarithm of two, as the reference computes it. -/
theorem ln2_eq : AttnRefValue.ln2 = ((Real.log 2 : ℝ) : EReal) := by
  have h : Ideal.ofBits .f32 0x40000000#32 = ((2 : ℝ) : EReal) := by
    simp [Ideal.ofBits, Ideal.ieee]
    rw [← EReal.coe_mul]
    norm_num
  rw [AttnRefValue.ln2, h]
  show (if (2 : ℝ) ≤ 0 then (⊥ : EReal) else ((Real.log 2 : ℝ) : EReal)) = _
  rw [if_neg (by norm_num)]

section Equation

open Cert.AttnRefIdeal Cert.AttnRefIdeal.Read

variable (q k : (⟨S8x8x4096x128, .bf16⟩ : BufTy).Contents (Elt Ideal)) (kc : (⟨S8x8x256x128, .bf16⟩ : BufTy).Contents (Elt Ideal))
  (v : (⟨S8x8x128x4096, .bf16⟩ : BufTy).Contents (Elt Ideal)) (vc : (⟨S8x8x128x256, .bf16⟩ : BufTy).Contents (Elt Ideal))

/-- The reference's result at an index, for scores that are real multiples of the logarithm of two. -/
theorem result_average (b : Fin 8) (r : Fin 4096) (c : Fin 512) (s : Fin 4352 → ℝ)
    (hs : ∀ j, val_main_v9 (F := Ideal) q k kc (ix4 b (AttnRefValue.head8 c) r j) = (s j : EReal) * ((Real.log 2 : ℝ) : EReal)) :
    val_main_v24 (F := Ideal) q k kc v vc (ix3 b r c)
      = average s fun j => val_main_v2 (F := Ideal) v vc (ix4 b (AttnRefValue.head8 c) (AttnRefValue.row8 c) j) := by
  obtain ⟨m, hm⟩ := fold_max_real fun j => s j * Real.log 2
  have hf : val_main_v12 (F := Ideal) q k kc (ix3 b (AttnRefValue.head8 c) r) = (m : EReal) := by
    rw [AttnRefValue.shift_apply, AttnValue.ofBits_neg_inf, max_eq_right bot_le, ← hm]
    refine congrArg (Finset.univ.fold max ⊥) (funext fun j => ?_)
    rw [hs, EReal.coe_mul]
  rw [AttnRefValue.result_apply, ← plain_eq_average s m]
  have he : ∀ j, AttnRefValue.expo q k kc b (AttnRefValue.head8 c) r j
      = Ideal.exp ((s j : EReal) * ((Real.log 2 : ℝ) : EReal) - (m : EReal)) := by
    intro j
    rw [AttnRefValue.expo, hs, hf]
  simp only [he]

/-- The kernel's function and the reference's agree. -/
theorem whole_eq (hq : ∀ i, ∃ r : ℝ, q i = (r : EReal)) (hk : ∀ i, ∃ r : ℝ, k i = (r : EReal)) (hkc : ∀ i, ∃ r : ℝ, kc i = (r : EReal))
    (hv : ∀ b h j, v (ix4 b h 64 j) = (1 : EReal)) (hvc : ∀ b h j, vc (ix4 b h 64 j) = (1 : EReal))
    (b : Fin 8) (r : Fin 4096) (c : Fin 512) :
    AttnValue.whole q k kc v vc b r c = val_main_v24 (F := Ideal) q k kc v vc (ix3 b r c) := by
  choose q' hq using hq
  choose k' hk using hk
  choose kc' hkc using hkc
  -- the two batches' scores as real numbers
  let s : Fin 4096 → ℝ := fun a => ∑ e : Fin 128, k' (ix4 b (AttnValue.head8 c) a e) * q' (ix4 b (AttnValue.head8 c) r e)
  let t : Fin 256 → ℝ := fun a => ∑ e : Fin 128, kc' (ix4 b (AttnValue.head8 c) a e) * q' (ix4 b (AttnValue.head8 c) r e)
  have hs : ∀ a : Fin 4096, (∑ e : Fin 128, k (ix4 b (AttnValue.head8 c) a e) * q (ix4 b (AttnValue.head8 c) r e)) = (s a : EReal) := by
    intro a
    rw [coe_sum]
    exact Finset.sum_congr rfl fun e _ => by rw [hk, hq, EReal.coe_mul]
  have ht : ∀ a : Fin 256, (∑ e : Fin 128, kc (ix4 b (AttnValue.head8 c) a e) * q (ix4 b (AttnValue.head8 c) r e)) = (t a : EReal) := by
    intro a
    rw [coe_sum]
    exact Finset.sum_congr rfl fun e _ => by rw [hkc, hq, EReal.coe_mul]
  -- the reference's scores, over all keys in one row
  have hS : ∀ j : Fin 4352, val_main_v9 (F := Ideal) q k kc (ix4 b (AttnRefValue.head8 c) r j)
      = ((Sum.elim s t (keys.symm j) : ℝ) : EReal) * ((Real.log 2 : ℝ) : EReal) := by
    intro j
    obtain ⟨x, rfl⟩ := keys.surjective j
    rw [AttnRefValue.scores_apply, ln2_eq, Equiv.symm_apply_apply]
    refine congrArg (· * ((Real.log 2 : ℝ) : EReal)) ?_
    cases x with
    | inl a =>
      refine Eq.trans (Finset.sum_congr rfl fun e _ => ?_) (hs a)
      rw [keys_inl, AttnRefValue.keys_left, mul_comm]
    | inr a =>
      refine Eq.trans (Finset.sum_congr rfl fun e _ => ?_) (ht a)
      rw [keys_inr, AttnRefValue.keys_right, mul_comm]
  have hV : (fun j : Fin 4352 => val_main_v2 (F := Ideal) v vc (ix4 b (AttnRefValue.head8 c) (AttnRefValue.row8 c) j))
      = fun j => Sum.elim (fun a => v (ix4 b (AttnValue.head8 c) (AttnValue.row8 c) a)) (fun a => vc (ix4 b (AttnValue.head8 c) (AttnValue.row8 c) a)) (keys.symm j) := by
    funext j
    obtain ⟨x, rfl⟩ := keys.surjective j
    rw [Equiv.symm_apply_apply]
    cases x with
    | inl a => rw [keys_inl, AttnRefValue.values_left]; rfl
    | inr a => rw [keys_inr, AttnRefValue.values_right]; rfl
  rw [result_average q k kc v vc b r c _ hS, hV, average_equiv keys.symm, ← attend_average, AttnValue.whole]
  simp only [hs, ht, hv, hvc]

end Equation

end Cert.AttnEq
-- ==== Proof.lean ====
/-
  The claims, assembled: every program's frame, each ideal kernel's being the kernel itself, and the equality of each
  kernel's results with its reference's, the attention's and the preparation's under their preconditions.
-/
module

public import proofs.«01_k».proof.Defs
public import proofs.«01_k».proof.Proof.Gen.Attn.Frame
public import proofs.«01_k».proof.Proof.Gen.Proj2.Frame
public import proofs.«01_k».proof.Proof.Gen.Proj2Ideal.Value
public import proofs.«01_k».proof.Proof.Gen.Proj2RefIdeal.Read
public import proofs.«01_k».proof.Proof.Proj2Eq
public import proofs.«01_k».proof.Proof.MergeEq
public import proofs.«01_k».proof.Proof.Proj1Eq
public import proofs.«01_k».proof.Proof.Gen.Prep.Frame
public import proofs.«01_k».proof.Proof.Gen.PrepIdeal.Frame
public import proofs.«01_k».proof.Proof.Gen.PrepRefIdeal.Read
public import proofs.«01_k».proof.Proof.Gen.Proj1.Frame
public import proofs.«01_k».proof.Proof.Gen.Proj1Ideal.Value
public import proofs.«01_k».proof.Proof.Gen.Proj1RefIdeal.Read
public import proofs.«01_k».proof.Proof.Gen.Merge.Frame
public import proofs.«01_k».proof.Proof.Gen.MergeIdeal.Value
public import proofs.«01_k».proof.Proof.Gen.MergeRefIdeal.Read
public import proofs.«01_k».proof.Proof.AttnPre
public import proofs.«01_k».proof.Proof.PrepEq
public import proofs.«01_k».proof.Proof.AttnEq
public import Idealize.ShloMosaic.Lib.Quiescent

@[expose] public section

noncomputable section

namespace Cert.Proof

open Idealize.ShloMosaic Idealize.ShloMosaic.TcCoe Idealize.SL.Sem

/-- The attention's reference runs to the end, its arguments unchanged and every counter at zero. -/
theorem attention_reference_frame : Cert.quiescent_AttnRefIdeal := by
  intro m ρ _
  exact (θ_run _ _ _).mono (fun r h => ⟨fun c => (h c).2, sem_eq_zero_of_no_sems (by decide) r.2⟩) (Cert.AttnRefIdeal.Value.run (F := Ideal) m ρ)

/-- The ideal attention and its reference end with the same result array, from the same arguments. -/
theorem attention_algebraic : Cert.algebraic_AttnIdeal_AttnRefIdeal_pre_attention_pre := by
  intro m ρ m' ρ' hpre hag
  refine ⟨fun c => Cert.AttnValue.wholeOf m c, ?_, ?_⟩
  · exact (θ_run _ _ _).mono (fun _ h c => ⟨((h c).1).trans (Cert.AttnValue.final m c), (h c).2⟩) (Cert.AttnIdeal.Value.run_blocks m ρ)
  · refine (θ_run _ _ _).mono (fun _ h c => ⟨((h c).1).trans ?_, (h c).2⟩) (Cert.AttnRefIdeal.Value.run (F := Ideal) m' ρ')
    obtain ⟨h0, h1, h2, h3, h4⟩ := hag c
    obtain ⟨hq, hk, hkc, hv, hvc⟩ := Cert.AttnPre.read _ _ _ _ _ (hpre c)
    rw [h0, h1, h2, h3, h4]
    refine (Cert.AttnRefIdeal.Read.val_main_v24_eq _ _ _ _ _).trans ?_
    funext i
    obtain ⟨b, hb⟩ : ∃ b : Fin 8, b = i 0 := ⟨_, rfl⟩
    obtain ⟨r, hr⟩ : ∃ r : Fin 4096, r = i 1 := ⟨_, rfl⟩
    obtain ⟨d, hd⟩ : ∃ d : Fin 512, d = i 2 := ⟨_, rfl⟩
    have hi : i = ix3 b r d := by
      subst hb hr hd
      funext a
      match a with
      | ⟨0, _⟩ | ⟨1, _⟩ | ⟨2, _⟩ => rfl
    rw [hi]
    exact (Cert.AttnEq.whole_eq _ _ _ _ _ hq hk hkc hv hvc b r d).symm

end Cert.Proof

/-- Everything claimed. -/
theorem Cert.Proof.claim : Cert.Claim :=
  ⟨Cert.Attn.Gen.facts, Cert.AttnIdeal.Gen.facts, Cert.AttnRefIdeal.Gen.facts,
    Cert.Proj2.Gen.facts, Cert.Proj2Ideal.Gen.facts, Cert.Proj2RefIdeal.Gen.facts,
    Cert.Merge.Gen.facts, Cert.MergeIdeal.Gen.facts, Cert.MergeRefIdeal.Gen.facts,
    Cert.Proj1.Gen.facts, Cert.Proj1Ideal.Gen.facts, Cert.Proj1RefIdeal.Gen.facts,
    Cert.Prep.Gen.facts, Cert.PrepIdeal.Gen.facts, Cert.PrepRefIdeal.Gen.facts, Cert.AttnPre.facts, Cert.PrepPre.facts,
    fun m ρ _ => Cert.Attn.Gen.frame m ρ,
    fun m ρ _ => Cert.AttnIdeal.Gen.frame m ρ,
    fun m ρ _ => Cert.AttnIdeal.Gen.frame m ρ,
    Cert.Proof.attention_reference_frame,
    fun m ρ _ => Cert.Proof.attention_reference_frame m ρ trivial,
    fun m ρ _ => Cert.Proj2.Gen.frame m ρ,
    fun m ρ _ => Cert.Proj2Ideal.Gen.frame m ρ,
    Cert.Proof.proj2_reference_frame,
    fun m ρ _ => Cert.Merge.Gen.frame m ρ,
    fun m ρ _ => Cert.MergeIdeal.Gen.frame m ρ,
    Cert.Proof.merge_reference_frame,
    fun m ρ _ => Cert.Proj1.Gen.frame m ρ,
    fun m ρ _ => Cert.Proj1Ideal.Gen.frame m ρ,
    Cert.Proof.proj1_reference_frame,
    fun m ρ _ => Cert.Prep.Gen.frame m ρ,
    fun m ρ _ => Cert.PrepIdeal.Gen.frame m ρ,
    fun m ρ _ => Cert.PrepIdeal.Gen.frame m ρ,
    Cert.Proof.prep_reference_frame,
    fun m ρ _ => Cert.Proof.prep_reference_frame m ρ trivial,
    trivial, Cert.Proof.attention_algebraic,
    trivial, Cert.Proof.proj2_algebraic,
    trivial, Cert.Proof.merge_algebraic,
    trivial, Cert.Proof.proj1_algebraic,
    trivial, Cert.Proof.prep_algebraic⟩
